-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvRefIdeal (m : (ℓ : Loc Cert.MemkvRefIdeal.nD Cert.MemkvRefIdeal.τ Cert.MemkvRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_SwaIn (m : (ℓ : Loc Cert.SwaIn.nD Cert.SwaIn.τ Cert.SwaIn.sig) → Buf (Elt Bits) ℓ) : Prop :=
  True

def Pre_SwaInIdeal (m : (ℓ : Loc Cert.SwaInIdeal.nD Cert.SwaInIdeal.τ Cert.SwaInIdeal.sig) → Buf (Elt Ideal) ℓ) : Prop :=
  True

def Pre_SwaInRefIdeal (m : (ℓ : Loc Cert.SwaInRefIdeal.nD Cert.SwaInRefIdeal.τ Cert.SwaInRefIdeal.sig) → Buf (Elt Ideal) ℓ) : Prop :=
  True

def Pre_OutS (m : (ℓ : Loc Cert.OutS.nD Cert.OutS.τ Cert.OutS.sig) → Buf (Elt Bits) ℓ) : Prop :=
  True

def Pre_OutSIdeal (m : (ℓ : Loc Cert.OutSIdeal.nD Cert.OutSIdeal.τ Cert.OutSIdeal.sig) → Buf (Elt Ideal) ℓ) : Prop :=
  True

def Pre_OutSRefIdeal (m : (ℓ : Loc Cert.OutSRefIdeal.nD Cert.OutSRefIdeal.τ Cert.OutSRefIdeal.sig) → Buf (Elt Ideal) ℓ) : Prop :=
  True

def Pre_InS (m : (ℓ : Loc Cert.InS.nD Cert.InS.τ Cert.InS.sig) → Buf (Elt Bits) ℓ) : Prop :=
  True

def Pre_InSIdeal (m : (ℓ : Loc Cert.InSIdeal.nD Cert.InSIdeal.τ Cert.InSIdeal.sig) → Buf (Elt Ideal) ℓ) : Prop :=
  True

def Pre_InSRefIdeal (m : (ℓ : Loc Cert.InSRefIdeal.nD Cert.InSRefIdeal.τ Cert.InSRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ r.2.sem = fun _ => 0)

def quiescent_MemkvRefIdeal [hMemkvRefIdeal : Cert.MemkvRefIdeal.Facts] : Prop :=
  ∀ (m : (ℓ : Loc Cert.MemkvRefIdeal.nD Cert.MemkvRefIdeal.τ Cert.MemkvRefIdeal.sig) → Buf (Elt Ideal) ℓ) (g : Dev Cert.MemkvRefIdeal.nD → PrngReg), Pre_MemkvRefIdeal m →
    θ_run (Cert.MemkvRefIdeal.defs (F := Ideal)) (onTc (τ := Cert.MemkvRefIdeal.τ) (Cert.MemkvRefIdeal.main (F := Ideal))) ⟨m, fun _ => 0, g⟩ (fun r => (∀ c : Dev Cert.MemkvRefIdeal.nD,
      r.2.mem ((c.tc : Thread Cert.MemkvRefIdeal.nD Cert.MemkvRefIdeal.τ).loc Cert.MemkvRefIdeal.main_arg0) = m ((c.tc : Thread Cert.MemkvRefIdeal.nD Cert.MemkvRefIdeal.τ).loc Cert.MemkvRefIdeal.main_arg0)
      ∧ r.2.mem ((c.tc : Thread Cert.MemkvRefIdeal.nD Cert.MemkvRefIdeal.τ).loc Cert.MemkvRefIdeal.main_arg1) = m ((c.tc : Thread Cert.MemkvRefIdeal.nD Cert.MemkvRefIdeal.τ).loc Cert.MemkvRefIdeal.main_arg1)
      ∧ r.2.mem ((c.tc : Thread Cert.MemkvRefIdeal.nD Cert.MemkvRefIdeal.τ).loc Cert.MemkvRefIdeal.main_arg2) = m ((c.tc : Thread Cert.MemkvRefIdeal.nD Cert.MemkvRefIdeal.τ).loc Cert.MemkvRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3))
      ∧ r.2.sem = fun _ => 0)

def quiescent_SwaIn [hSwaIn : Cert.SwaIn.Facts] : Prop :=
  ∀ (m : (ℓ : Loc Cert.SwaIn.nD Cert.SwaIn.τ Cert.SwaIn.sig) → Buf (Elt Bits) ℓ) (g : Dev Cert.SwaIn.nD → PrngReg), Pre_SwaIn m →
    θ_run (Cert.SwaIn.defs (F := Bits)) (onTc (τ := Cert.SwaIn.τ) (Cert.SwaIn.main (F := Bits))) ⟨m, fun _ => 0, g⟩ (fun r => (∀ c : Dev Cert.SwaIn.nD,
      r.2.mem ((c.tc : Thread Cert.SwaIn.nD Cert.SwaIn.τ).loc Cert.SwaIn.main_arg0) = m ((c.tc : Thread Cert.SwaIn.nD Cert.SwaIn.τ).loc Cert.SwaIn.main_arg0)
      ∧ r.2.mem ((c.tc : Thread Cert.SwaIn.nD Cert.SwaIn.τ).loc Cert.SwaIn.main_arg1) = m ((c.tc : Thread Cert.SwaIn.nD Cert.SwaIn.τ).loc Cert.SwaIn.main_arg1)
      ∧ r.2.mem ((c.tc : Thread Cert.SwaIn.nD Cert.SwaIn.τ).loc Cert.SwaIn.main_arg2) = m ((c.tc : Thread Cert.SwaIn.nD Cert.SwaIn.τ).loc Cert.SwaIn.main_arg2))
      ∧ r.2.sem = fun _ => 0)

def quiescent_SwaInIdeal [hSwaInIdeal : Cert.SwaInIdeal.Facts] : Prop :=
  ∀ (m : (ℓ : Loc Cert.SwaInIdeal.nD Cert.SwaInIdeal.τ Cert.SwaInIdeal.sig) → Buf (Elt Ideal) ℓ) (g : Dev Cert.SwaInIdeal.nD → PrngReg), Pre_SwaInIdeal m →
    θ_run (Cert.SwaInIdeal.defs (F := Ideal)) (onTc (τ := Cert.SwaInIdeal.τ) (Cert.SwaInIdeal.main (F := Ideal))) ⟨m, fun _ => 0, g⟩ (fun r => (∀ c : Dev Cert.SwaInIdeal.nD,
      r.2.mem ((c.tc : Thread Cert.SwaInIdeal.nD Cert.SwaInIdeal.τ).loc Cert.SwaInIdeal.main_arg0) = m ((c.tc : Thread Cert.SwaInIdeal.nD Cert.SwaInIdeal.τ).loc Cert.SwaInIdeal.main_arg0)
      ∧ r.2.mem ((c.tc : Thread Cert.SwaInIdeal.nD Cert.SwaInIdeal.τ).loc Cert.SwaInIdeal.main_arg1) = m ((c.tc : Thread Cert.SwaInIdeal.nD Cert.SwaInIdeal.τ).loc Cert.SwaInIdeal.main_arg1)
      ∧ r.2.mem ((c.tc : Thread Cert.SwaInIdeal.nD Cert.SwaInIdeal.τ).loc Cert.SwaInIdeal.main_arg2) = m ((c.tc : Thread Cert.SwaInIdeal.nD Cert.SwaInIdeal.τ).loc Cert.SwaInIdeal.main_arg2))
      ∧ r.2.sem = fun _ => 0)

def quiescent_SwaInRefIdeal [hSwaInRefIdeal : Cert.SwaInRefIdeal.Facts] : Prop :=
  ∀ (m : (ℓ : Loc Cert.SwaInRefIdeal.nD Cert.SwaInRefIdeal.τ Cert.SwaInRefIdeal.sig) → Buf (Elt Ideal) ℓ) (g : Dev Cert.SwaInRefIdeal.nD → PrngReg), Pre_SwaInRefIdeal m →
    θ_run (Cert.SwaInRefIdeal.defs (F := Ideal)) (onTc (τ := Cert.SwaInRefIdeal.τ) (Cert.SwaInRefIdeal.main (F := Ideal))) ⟨m, fun _ => 0, g⟩ (fun r => (∀ c : Dev Cert.SwaInRefIdeal.nD,
      r.2.mem ((c.tc : Thread Cert.SwaInRefIdeal.nD Cert.SwaInRefIdeal.τ).loc Cert.SwaInRefIdeal.main_arg0) = m ((c.tc : Thread Cert.SwaInRefIdeal.nD Cert.SwaInRefIdeal.τ).loc Cert.SwaInRefIdeal.main_arg0)
      ∧ r.2.mem ((c.tc : Thread Cert.SwaInRefIdeal.nD Cert.SwaInRefIdeal.τ).loc Cert.SwaInRefIdeal.main_arg1) = m ((c.tc : Thread Cert.SwaInRefIdeal.nD Cert.SwaInRefIdeal.τ).loc Cert.SwaInRefIdeal.main_arg1)
      ∧ r.2.mem ((c.tc : Thread Cert.SwaInRefIdeal.nD Cert.SwaInRefIdeal.τ).loc Cert.SwaInRefIdeal.main_arg2) = m ((c.tc : Thread Cert.SwaInRefIdeal.nD Cert.SwaInRefIdeal.τ).loc Cert.SwaInRefIdeal.main_arg2))
      ∧ r.2.sem = fun _ => 0)

def quiescent_OutS [hOutS : Cert.OutS.Facts] : Prop :=
  ∀ (m : (ℓ : Loc Cert.OutS.nD Cert.OutS.τ Cert.OutS.sig) → Buf (Elt Bits) ℓ) (g : Dev Cert.OutS.nD → PrngReg), Pre_OutS m →
    θ_run (Cert.OutS.defs (F := Bits)) (onTc (τ := Cert.OutS.τ) (Cert.OutS.main (F := Bits))) ⟨m, fun _ => 0, g⟩ (fun r => (∀ c : Dev Cert.OutS.nD,
      r.2.mem ((c.tc : Thread Cert.OutS.nD Cert.OutS.τ).loc Cert.OutS.main_arg0) = m ((c.tc : Thread Cert.OutS.nD Cert.OutS.τ).loc Cert.OutS.main_arg0)
      ∧ r.2.mem ((c.tc : Thread Cert.OutS.nD Cert.OutS.τ).loc Cert.OutS.main_arg1) = m ((c.tc : Thread Cert.OutS.nD Cert.OutS.τ).loc Cert.OutS.main_arg1)
      ∧ r.2.mem ((c.tc : Thread Cert.OutS.nD Cert.OutS.τ).loc Cert.OutS.main_arg2) = m ((c.tc : Thread Cert.OutS.nD Cert.OutS.τ).loc Cert.OutS.main_arg2)
      ∧ r.2.mem ((c.tc : Thread Cert.OutS.nD Cert.OutS.τ).loc Cert.OutS.main_arg3) = m ((c.tc : Thread Cert.OutS.nD Cert.OutS.τ).loc Cert.OutS.main_arg3)
      ∧ r.2.mem ((c.tc : Thread Cert.OutS.nD Cert.OutS.τ).loc Cert.OutS.main_arg4) = m ((c.tc : Thread Cert.OutS.nD Cert.OutS.τ).loc Cert.OutS.main_arg4)
      ∧ r.2.mem ((c.tc : Thread Cert.OutS.nD Cert.OutS.τ).loc Cert.OutS.main_arg5) = m ((c.tc : Thread Cert.OutS.nD Cert.OutS.τ).loc Cert.OutS.main_arg5)
      ∧ r.2.mem ((c.tc : Thread Cert.OutS.nD Cert.OutS.τ).loc Cert.OutS.main_arg6) = m ((c.tc : Thread Cert.OutS.nD Cert.OutS.τ).loc Cert.OutS.main_arg6))
      ∧ r.2.sem = fun _ => 0)

def quiescent_OutSIdeal [hOutSIdeal : Cert.OutSIdeal.Facts] : Prop :=
  ∀ (m : (ℓ : Loc Cert.OutSIdeal.nD Cert.OutSIdeal.τ Cert.OutSIdeal.sig) → Buf (Elt Ideal) ℓ) (g : Dev Cert.OutSIdeal.nD → PrngReg), Pre_OutSIdeal m →
    θ_run (Cert.OutSIdeal.defs (F := Ideal)) (onTc (τ := Cert.OutSIdeal.τ) (Cert.OutSIdeal.main (F := Ideal))) ⟨m, fun _ => 0, g⟩ (fun r => (∀ c : Dev Cert.OutSIdeal.nD,
      r.2.mem ((c.tc : Thread Cert.OutSIdeal.nD Cert.OutSIdeal.τ).loc Cert.OutSIdeal.main_arg0) = m ((c.tc : Thread Cert.OutSIdeal.nD Cert.OutSIdeal.τ).loc Cert.OutSIdeal.main_arg0)
      ∧ r.2.mem ((c.tc : Thread Cert.OutSIdeal.nD Cert.OutSIdeal.τ).loc Cert.OutSIdeal.main_arg1) = m ((c.tc : Thread Cert.OutSIdeal.nD Cert.OutSIdeal.τ).loc Cert.OutSIdeal.main_arg1)
      ∧ r.2.mem ((c.tc : Thread Cert.OutSIdeal.nD Cert.OutSIdeal.τ).loc Cert.OutSIdeal.main_arg2) = m ((c.tc : Thread Cert.OutSIdeal.nD Cert.OutSIdeal.τ).loc Cert.OutSIdeal.main_arg2)
      ∧ r.2.mem ((c.tc : Thread Cert.OutSIdeal.nD Cert.OutSIdeal.τ).loc Cert.OutSIdeal.main_arg3) = m ((c.tc : Thread Cert.OutSIdeal.nD Cert.OutSIdeal.τ).loc Cert.OutSIdeal.main_arg3)
      ∧ r.2.mem ((c.tc : Thread Cert.OutSIdeal.nD Cert.OutSIdeal.τ).loc Cert.OutSIdeal.main_arg4) = m ((c.tc : Thread Cert.OutSIdeal.nD Cert.OutSIdeal.τ).loc Cert.OutSIdeal.main_arg4)
      ∧ r.2.mem ((c.tc : Thread Cert.OutSIdeal.nD Cert.OutSIdeal.τ).loc Cert.OutSIdeal.main_arg5) = m ((c.tc : Thread Cert.OutSIdeal.nD Cert.OutSIdeal.τ).loc Cert.OutSIdeal.main_arg5)
      ∧ r.2.mem ((c.tc : Thread Cert.OutSIdeal.nD Cert.OutSIdeal.τ).loc Cert.OutSIdeal.main_arg6) = m ((c.tc : Thread Cert.OutSIdeal.nD Cert.OutSIdeal.τ).loc Cert.OutSIdeal.main_arg6))
      ∧ r.2.sem = fun _ => 0)

def quiescent_OutSRefIdeal [hOutSRefIdeal : Cert.OutSRefIdeal.Facts] : Prop :=
  ∀ (m : (ℓ : Loc Cert.OutSRefIdeal.nD Cert.OutSRefIdeal.τ Cert.OutSRefIdeal.sig) → Buf (Elt Ideal) ℓ) (g : Dev Cert.OutSRefIdeal.nD → PrngReg), Pre_OutSRefIdeal m →
    θ_run (Cert.OutSRefIdeal.defs (F := Ideal)) (onTc (τ := Cert.OutSRefIdeal.τ) (Cert.OutSRefIdeal.main (F := Ideal))) ⟨m, fun _ => 0, g⟩ (fun r => (∀ c : Dev Cert.OutSRefIdeal.nD,
      r.2.mem ((c.tc : Thread Cert.OutSRefIdeal.nD Cert.OutSRefIdeal.τ).loc Cert.OutSRefIdeal.main_arg0) = m ((c.tc : Thread Cert.OutSRefIdeal.nD Cert.OutSRefIdeal.τ).loc Cert.OutSRefIdeal.main_arg0)
      ∧ r.2.mem ((c.tc : Thread Cert.OutSRefIdeal.nD Cert.OutSRefIdeal.τ).loc Cert.OutSRefIdeal.main_arg1) = m ((c.tc : Thread Cert.OutSRefIdeal.nD Cert.OutSRefIdeal.τ).loc Cert.OutSRefIdeal.main_arg1)
      ∧ r.2.mem ((c.tc : Thread Cert.OutSRefIdeal.nD Cert.OutSRefIdeal.τ).loc Cert.OutSRefIdeal.main_arg2) = m ((c.tc : Thread Cert.OutSRefIdeal.nD Cert.OutSRefIdeal.τ).loc Cert.OutSRefIdeal.main_arg2)
      ∧ r.2.mem ((c.tc : Thread Cert.OutSRefIdeal.nD Cert.OutSRefIdeal.τ).loc Cert.OutSRefIdeal.main_arg3) = m ((c.tc : Thread Cert.OutSRefIdeal.nD Cert.OutSRefIdeal.τ).loc Cert.OutSRefIdeal.main_arg3)
      ∧ r.2.mem ((c.tc : Thread Cert.OutSRefIdeal.nD Cert.OutSRefIdeal.τ).loc Cert.OutSRefIdeal.main_arg4) = m ((c.tc : Thread Cert.OutSRefIdeal.nD Cert.OutSRefIdeal.τ).loc Cert.OutSRefIdeal.main_arg4)
      ∧ r.2.mem ((c.tc : Thread Cert.OutSRefIdeal.nD Cert.OutSRefIdeal.τ).loc Cert.OutSRefIdeal.main_arg5) = m ((c.tc : Thread Cert.OutSRefIdeal.nD Cert.OutSRefIdeal.τ).loc Cert.OutSRefIdeal.main_arg5)
      ∧ r.2.mem ((c.tc : Thread Cert.OutSRefIdeal.nD Cert.OutSRefIdeal.τ).loc Cert.OutSRefIdeal.main_arg6) = m ((c.tc : Thread Cert.OutSRefIdeal.nD Cert.OutSRefIdeal.τ).loc Cert.OutSRefIdeal.main_arg6))
      ∧ r.2.sem = fun _ => 0)

def quiescent_InS [hInS : Cert.InS.Facts] : Prop :=
  ∀ (m : (ℓ : Loc Cert.InS.nD Cert.InS.τ Cert.InS.sig) → Buf (Elt Bits) ℓ) (g : Dev Cert.InS.nD → PrngReg), Pre_InS m →
    θ_run (Cert.InS.defs (F := Bits)) (onTc (τ := Cert.InS.τ) (Cert.InS.main (F := Bits))) ⟨m, fun _ => 0, g⟩ (fun r => (∀ c : Dev Cert.InS.nD,
      r.2.mem ((c.tc : Thread Cert.InS.nD Cert.InS.τ).loc Cert.InS.main_arg0) = m ((c.tc : Thread Cert.InS.nD Cert.InS.τ).loc Cert.InS.main_arg0)
      ∧ r.2.mem ((c.tc : Thread Cert.InS.nD Cert.InS.τ).loc Cert.InS.main_arg1) = m ((c.tc : Thread Cert.InS.nD Cert.InS.τ).loc Cert.InS.main_arg1)
      ∧ r.2.mem ((c.tc : Thread Cert.InS.nD Cert.InS.τ).loc Cert.InS.main_arg2) = m ((c.tc : Thread Cert.InS.nD Cert.InS.τ).loc Cert.InS.main_arg2)
      ∧ r.2.mem ((c.tc : Thread Cert.InS.nD Cert.InS.τ).loc Cert.InS.main_arg3) = m ((c.tc : Thread Cert.InS.nD Cert.InS.τ).loc Cert.InS.main_arg3))
      ∧ r.2.sem = fun _ => 0)

def quiescent_InSIdeal [hInSIdeal : Cert.InSIdeal.Facts] : Prop :=
  ∀ (m : (ℓ : Loc Cert.InSIdeal.nD Cert.InSIdeal.τ Cert.InSIdeal.sig) → Buf (Elt Ideal) ℓ) (g : Dev Cert.InSIdeal.nD → PrngReg), Pre_InSIdeal m →
    θ_run (Cert.InSIdeal.defs (F := Ideal)) (onTc (τ := Cert.InSIdeal.τ) (Cert.InSIdeal.main (F := Ideal))) ⟨m, fun _ => 0, g⟩ (fun r => (∀ c : Dev Cert.InSIdeal.nD,
      r.2.mem ((c.tc : Thread Cert.InSIdeal.nD Cert.InSIdeal.τ).loc Cert.InSIdeal.main_arg0) = m ((c.tc : Thread Cert.InSIdeal.nD Cert.InSIdeal.τ).loc Cert.InSIdeal.main_arg0)
      ∧ r.2.mem ((c.tc : Thread Cert.InSIdeal.nD Cert.InSIdeal.τ).loc Cert.InSIdeal.main_arg1) = m ((c.tc : Thread Cert.InSIdeal.nD Cert.InSIdeal.τ).loc Cert.InSIdeal.main_arg1)
      ∧ r.2.mem ((c.tc : Thread Cert.InSIdeal.nD Cert.InSIdeal.τ).loc Cert.InSIdeal.main_arg2) = m ((c.tc : Thread Cert.InSIdeal.nD Cert.InSIdeal.τ).loc Cert.InSIdeal.main_arg2)
      ∧ r.2.mem ((c.tc : Thread Cert.InSIdeal.nD Cert.InSIdeal.τ).loc Cert.InSIdeal.main_arg3) = m ((c.tc : Thread Cert.InSIdeal.nD Cert.InSIdeal.τ).loc Cert.InSIdeal.main_arg3))
      ∧ r.2.sem = fun _ => 0)

def quiescent_InSRefIdeal [hInSRefIdeal : Cert.InSRefIdeal.Facts] : Prop :=
  ∀ (m : (ℓ : Loc Cert.InSRefIdeal.nD Cert.InSRefIdeal.τ Cert.InSRefIdeal.sig) → Buf (Elt Ideal) ℓ) (g : Dev Cert.InSRefIdeal.nD → PrngReg), Pre_InSRefIdeal m →
    θ_run (Cert.InSRefIdeal.defs (F := Ideal)) (onTc (τ := Cert.InSRefIdeal.τ) (Cert.InSRefIdeal.main (F := Ideal))) ⟨m, fun _ => 0, g⟩ (fun r => (∀ c : Dev Cert.InSRefIdeal.nD,
      r.2.mem ((c.tc : Thread Cert.InSRefIdeal.nD Cert.InSRefIdeal.τ).loc Cert.InSRefIdeal.main_arg0) = m ((c.tc : Thread Cert.InSRefIdeal.nD Cert.InSRefIdeal.τ).loc Cert.InSRefIdeal.main_arg0)
      ∧ r.2.mem ((c.tc : Thread Cert.InSRefIdeal.nD Cert.InSRefIdeal.τ).loc Cert.InSRefIdeal.main_arg1) = m ((c.tc : Thread Cert.InSRefIdeal.nD Cert.InSRefIdeal.τ).loc Cert.InSRefIdeal.main_arg1)
      ∧ r.2.mem ((c.tc : Thread Cert.InSRefIdeal.nD Cert.InSRefIdeal.τ).loc Cert.InSRefIdeal.main_arg2) = m ((c.tc : Thread Cert.InSRefIdeal.nD Cert.InSRefIdeal.τ).loc Cert.InSRefIdeal.main_arg2)
      ∧ r.2.mem ((c.tc : Thread Cert.InSRefIdeal.nD Cert.InSRefIdeal.τ).loc Cert.InSRefIdeal.main_arg3) = m ((c.tc : Thread Cert.InSRefIdeal.nD Cert.InSRefIdeal.τ).loc Cert.InSRefIdeal.main_arg3))
      ∧ r.2.sem = fun _ => 0)

def preserves_Kernel_KernelIdeal : Prop :=
  IdealRules.named_const.Statement Cert.KernelIdeal.κ "q_scale" .f32 0x3E38AA3B#32 (((1 / 8) * (Real.log 2)⁻¹ : ℝ) : EReal)
  ∧ IdealRules.named_const.Statement Cert.KernelIdeal.κ "mask" .f32 0xF149F2CA#32 ⊥
  ∧ IdealRules.named_const.Statement Cert.KernelIdeal.κ "neg_log2e" .f32 0xBFB8AA3B#32 ((-((Real.log 2)⁻¹) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Memkv_MemkvIdeal : Prop :=
  True

def algebraic_MemkvIdeal_MemkvRefIdeal [hMemkvIdeal : Cert.MemkvIdeal.Facts] [hMemkvRefIdeal : Cert.MemkvRefIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvRefIdeal.nD Cert.MemkvRefIdeal.τ Cert.MemkvRefIdeal.sig) → Buf (Elt Ideal) ℓ) (g' : Dev Cert.MemkvRefIdeal.nD → PrngReg), Pre_MemkvIdeal m →
    (∀ c : Dev Cert.MemkvIdeal.nD,
      m' ((c.tc : Thread Cert.MemkvRefIdeal.nD Cert.MemkvRefIdeal.τ).loc Cert.MemkvRefIdeal.main_arg0) = m ((c.tc : Thread Cert.MemkvIdeal.nD Cert.MemkvIdeal.τ).loc Cert.MemkvIdeal.main_arg0)
      ∧ m' ((c.tc : Thread Cert.MemkvRefIdeal.nD Cert.MemkvRefIdeal.τ).loc Cert.MemkvRefIdeal.main_arg1) = m ((c.tc : Thread Cert.MemkvIdeal.nD Cert.MemkvIdeal.τ).loc Cert.MemkvIdeal.main_arg1)
      ∧ m' ((c.tc : Thread Cert.MemkvRefIdeal.nD Cert.MemkvRefIdeal.τ).loc Cert.MemkvRefIdeal.main_arg2) = m ((c.tc : Thread Cert.MemkvIdeal.nD Cert.MemkvIdeal.τ).loc Cert.MemkvIdeal.main_arg2)) →
    ∃ (v0 : (c : Dev Cert.MemkvIdeal.nD) → Buf (Elt Ideal) ((c.tc : Thread Cert.MemkvIdeal.nD Cert.MemkvIdeal.τ).loc Cert.MemkvIdeal.main_v2_0)) (v1 : (c : Dev Cert.MemkvIdeal.nD) → Buf (Elt Ideal) ((c.tc : Thread Cert.MemkvIdeal.nD Cert.MemkvIdeal.τ).loc Cert.MemkvIdeal.main_v2_1)) (v2 : (c : Dev Cert.MemkvIdeal.nD) → Buf (Elt Ideal) ((c.tc : Thread Cert.MemkvIdeal.nD Cert.MemkvIdeal.τ).loc Cert.MemkvIdeal.main_v2_2)) (v3 : (c : Dev Cert.MemkvIdeal.nD) → Buf (Elt Ideal) ((c.tc : Thread Cert.MemkvIdeal.nD Cert.MemkvIdeal.τ).loc Cert.MemkvIdeal.main_v2_3)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v2_0) = v0 c
          ∧ r.2.mem ((c.tc : Thread Cert.MemkvIdeal.nD Cert.MemkvIdeal.τ).loc Cert.MemkvIdeal.main_v2_1) = v1 c
          ∧ r.2.mem ((c.tc : Thread Cert.MemkvIdeal.nD Cert.MemkvIdeal.τ).loc Cert.MemkvIdeal.main_v2_2) = v2 c
          ∧ r.2.mem ((c.tc : Thread Cert.MemkvIdeal.nD Cert.MemkvIdeal.τ).loc Cert.MemkvIdeal.main_v2_3) = v3 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ θ_run (Cert.MemkvRefIdeal.defs (F := Ideal)) (onTc (τ := Cert.MemkvRefIdeal.τ) (Cert.MemkvRefIdeal.main (F := Ideal))) ⟨m', fun _ => 0, g'⟩ (fun r => ∀ c : Dev Cert.MemkvRefIdeal.nD,
          r.2.mem ((c.tc : Thread Cert.MemkvRefIdeal.nD Cert.MemkvRefIdeal.τ).loc Cert.MemkvRefIdeal.main_v17) = v0 c
          ∧ r.2.mem ((c.tc : Thread Cert.MemkvRefIdeal.nD Cert.MemkvRefIdeal.τ).loc Cert.MemkvRefIdeal.main_v18) = v1 c
          ∧ r.2.mem ((c.tc : Thread Cert.MemkvRefIdeal.nD Cert.MemkvRefIdeal.τ).loc Cert.MemkvRefIdeal.main_v19) = v2 c
          ∧ r.2.mem ((c.tc : Thread Cert.MemkvRefIdeal.nD Cert.MemkvRefIdeal.τ).loc Cert.MemkvRefIdeal.main_v20) = v3 c
          ∧ r.2.mem ((c.tc : Thread Cert.MemkvRefIdeal.nD Cert.MemkvRefIdeal.τ).loc Cert.MemkvRefIdeal.main_arg0) = m' ((c.tc : Thread Cert.MemkvRefIdeal.nD Cert.MemkvRefIdeal.τ).loc Cert.MemkvRefIdeal.main_arg0)
          ∧ r.2.mem ((c.tc : Thread Cert.MemkvRefIdeal.nD Cert.MemkvRefIdeal.τ).loc Cert.MemkvRefIdeal.main_arg1) = m' ((c.tc : Thread Cert.MemkvRefIdeal.nD Cert.MemkvRefIdeal.τ).loc Cert.MemkvRefIdeal.main_arg1)
          ∧ r.2.mem ((c.tc : Thread Cert.MemkvRefIdeal.nD Cert.MemkvRefIdeal.τ).loc Cert.MemkvRefIdeal.main_arg2) = m' ((c.tc : Thread Cert.MemkvRefIdeal.nD Cert.MemkvRefIdeal.τ).loc Cert.MemkvRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v10)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v10) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v23) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)) →
    ∃ (v0 : (c : Dev Cert.InIdeal.nD) → Buf (Elt Ideal) ((c.tc : Thread Cert.InIdeal.nD Cert.InIdeal.τ).loc Cert.InIdeal.main_v45_0)) (v1 : (c : Dev Cert.InIdeal.nD) → Buf (Elt Ideal) ((c.tc : Thread Cert.InIdeal.nD Cert.InIdeal.τ).loc Cert.InIdeal.main_v45_1)) (v2 : (c : Dev Cert.InIdeal.nD) → Buf (Elt Ideal) ((c.tc : Thread Cert.InIdeal.nD Cert.InIdeal.τ).loc Cert.InIdeal.main_v45_2)) (v3 : (c : Dev Cert.InIdeal.nD) → Buf (Elt Ideal) ((c.tc : Thread Cert.InIdeal.nD Cert.InIdeal.τ).loc Cert.InIdeal.main_v45_3)) (v4 : (c : Dev Cert.InIdeal.nD) → Buf (Elt Ideal) ((c.tc : Thread Cert.InIdeal.nD Cert.InIdeal.τ).loc Cert.InIdeal.main_v45_4)) (v5 : (c : Dev Cert.InIdeal.nD) → Buf (Elt Ideal) ((c.tc : Thread Cert.InIdeal.nD Cert.InIdeal.τ).loc Cert.InIdeal.main_v45_5)) (v6 : (c : Dev Cert.InIdeal.nD) → Buf (Elt Ideal) ((c.tc : Thread Cert.InIdeal.nD Cert.InIdeal.τ).loc Cert.InIdeal.main_v45_6)) (v7 : (c : Dev Cert.InIdeal.nD) → Buf (Elt Ideal) ((c.tc : Thread Cert.InIdeal.nD Cert.InIdeal.τ).loc Cert.InIdeal.main_v45_7)) (v8 : (c : Dev Cert.InIdeal.nD) → Buf (Elt Ideal) ((c.tc : Thread Cert.InIdeal.nD Cert.InIdeal.τ).loc Cert.InIdeal.main_v45_8)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v45_0) = v0 c
          ∧ r.2.mem ((c.tc : Thread Cert.InIdeal.nD Cert.InIdeal.τ).loc Cert.InIdeal.main_v45_1) = v1 c
          ∧ r.2.mem ((c.tc : Thread Cert.InIdeal.nD Cert.InIdeal.τ).loc Cert.InIdeal.main_v45_2) = v2 c
          ∧ r.2.mem ((c.tc : Thread Cert.InIdeal.nD Cert.InIdeal.τ).loc Cert.InIdeal.main_v45_3) = v3 c
          ∧ r.2.mem ((c.tc : Thread Cert.InIdeal.nD Cert.InIdeal.τ).loc Cert.InIdeal.main_v45_4) = v4 c
          ∧ r.2.mem ((c.tc : Thread Cert.InIdeal.nD Cert.InIdeal.τ).loc Cert.InIdeal.main_v45_5) = v5 c
          ∧ r.2.mem ((c.tc : Thread Cert.InIdeal.nD Cert.InIdeal.τ).loc Cert.InIdeal.main_v45_6) = v6 c
          ∧ r.2.mem ((c.tc : Thread Cert.InIdeal.nD Cert.InIdeal.τ).loc Cert.InIdeal.main_v45_7) = v7 c
          ∧ r.2.mem ((c.tc : Thread Cert.InIdeal.nD Cert.InIdeal.τ).loc Cert.InIdeal.main_v45_8) = v8 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v33) = v0 c
          ∧ r.2.mem ((c.tc : Thread Cert.InRefIdeal.nD Cert.InRefIdeal.τ).loc Cert.InRefIdeal.main_v35) = v1 c
          ∧ r.2.mem ((c.tc : Thread Cert.InRefIdeal.nD Cert.InRefIdeal.τ).loc Cert.InRefIdeal.main_v37) = v2 c
          ∧ r.2.mem ((c.tc : Thread Cert.InRefIdeal.nD Cert.InRefIdeal.τ).loc Cert.InRefIdeal.main_v41) = v3 c
          ∧ r.2.mem ((c.tc : Thread Cert.InRefIdeal.nD Cert.InRefIdeal.τ).loc Cert.InRefIdeal.main_v44) = v4 c
          ∧ r.2.mem ((c.tc : Thread Cert.InRefIdeal.nD Cert.InRefIdeal.τ).loc Cert.InRefIdeal.main_v45) = v5 c
          ∧ r.2.mem ((c.tc : Thread Cert.InRefIdeal.nD Cert.InRefIdeal.τ).loc Cert.InRefIdeal.main_v48) = v6 c
          ∧ r.2.mem ((c.tc : Thread Cert.InRefIdeal.nD Cert.InRefIdeal.τ).loc Cert.InRefIdeal.main_v51) = v7 c
          ∧ r.2.mem ((c.tc : Thread Cert.InRefIdeal.nD Cert.InRefIdeal.τ).loc Cert.InRefIdeal.main_v27) = v8 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3))

def preserves_SwaIn_SwaInIdeal : Prop :=
  True

def algebraic_SwaInIdeal_SwaInRefIdeal [hSwaInIdeal : Cert.SwaInIdeal.Facts] [hSwaInRefIdeal : Cert.SwaInRefIdeal.Facts] : Prop :=
  ∀ (m : (ℓ : Loc Cert.SwaInIdeal.nD Cert.SwaInIdeal.τ Cert.SwaInIdeal.sig) → Buf (Elt Ideal) ℓ) (g : Dev Cert.SwaInIdeal.nD → PrngReg)
    (m' : (ℓ : Loc Cert.SwaInRefIdeal.nD Cert.SwaInRefIdeal.τ Cert.SwaInRefIdeal.sig) → Buf (Elt Ideal) ℓ) (g' : Dev Cert.SwaInRefIdeal.nD → PrngReg), Pre_SwaInIdeal m →
    (∀ c : Dev Cert.SwaInIdeal.nD,
      m' ((c.tc : Thread Cert.SwaInRefIdeal.nD Cert.SwaInRefIdeal.τ).loc Cert.SwaInRefIdeal.main_arg0) = m ((c.tc : Thread Cert.SwaInIdeal.nD Cert.SwaInIdeal.τ).loc Cert.SwaInIdeal.main_arg0)
      ∧ m' ((c.tc : Thread Cert.SwaInRefIdeal.nD Cert.SwaInRefIdeal.τ).loc Cert.SwaInRefIdeal.main_arg1) = m ((c.tc : Thread Cert.SwaInIdeal.nD Cert.SwaInIdeal.τ).loc Cert.SwaInIdeal.main_arg1)
      ∧ m' ((c.tc : Thread Cert.SwaInRefIdeal.nD Cert.SwaInRefIdeal.τ).loc Cert.SwaInRefIdeal.main_arg2) = m ((c.tc : Thread Cert.SwaInIdeal.nD Cert.SwaInIdeal.τ).loc Cert.SwaInIdeal.main_arg2)) →
    ∃ (v0 : (c : Dev Cert.SwaInIdeal.nD) → Buf (Elt Ideal) ((c.tc : Thread Cert.SwaInIdeal.nD Cert.SwaInIdeal.τ).loc Cert.SwaInIdeal.main_v60_0)) (v1 : (c : Dev Cert.SwaInIdeal.nD) → Buf (Elt Ideal) ((c.tc : Thread Cert.SwaInIdeal.nD Cert.SwaInIdeal.τ).loc Cert.SwaInIdeal.main_v60_1)) (v2 : (c : Dev Cert.SwaInIdeal.nD) → Buf (Elt Ideal) ((c.tc : Thread Cert.SwaInIdeal.nD Cert.SwaInIdeal.τ).loc Cert.SwaInIdeal.main_v60_2)) (v3 : (c : Dev Cert.SwaInIdeal.nD) → Buf (Elt Ideal) ((c.tc : Thread Cert.SwaInIdeal.nD Cert.SwaInIdeal.τ).loc Cert.SwaInIdeal.main_v60_3)) (v4 : (c : Dev Cert.SwaInIdeal.nD) → Buf (Elt Ideal) ((c.tc : Thread Cert.SwaInIdeal.nD Cert.SwaInIdeal.τ).loc Cert.SwaInIdeal.main_v60_4)) (v5 : (c : Dev Cert.SwaInIdeal.nD) → Buf (Elt Ideal) ((c.tc : Thread Cert.SwaInIdeal.nD Cert.SwaInIdeal.τ).loc Cert.SwaInIdeal.main_v60_5)) (v6 : (c : Dev Cert.SwaInIdeal.nD) → Buf (Elt Ideal) ((c.tc : Thread Cert.SwaInIdeal.nD Cert.SwaInIdeal.τ).loc Cert.SwaInIdeal.main_v60_6)) (v7 : (c : Dev Cert.SwaInIdeal.nD) → Buf (Elt Ideal) ((c.tc : Thread Cert.SwaInIdeal.nD Cert.SwaInIdeal.τ).loc Cert.SwaInIdeal.main_v60_7)),
      θ_run (Cert.SwaInIdeal.defs (F := Ideal)) (onTc (τ := Cert.SwaInIdeal.τ) (Cert.SwaInIdeal.main (F := Ideal))) ⟨m, fun _ => 0, g⟩ (fun r => ∀ c : Dev Cert.SwaInIdeal.nD,
          r.2.mem ((c.tc : Thread Cert.SwaInIdeal.nD Cert.SwaInIdeal.τ).loc Cert.SwaInIdeal.main_v60_0) = v0 c
          ∧ r.2.mem ((c.tc : Thread Cert.SwaInIdeal.nD Cert.SwaInIdeal.τ).loc Cert.SwaInIdeal.main_v60_1) = v1 c
          ∧ r.2.mem ((c.tc : Thread Cert.SwaInIdeal.nD Cert.SwaInIdeal.τ).loc Cert.SwaInIdeal.main_v60_2) = v2 c
          ∧ r.2.mem ((c.tc : Thread Cert.SwaInIdeal.nD Cert.SwaInIdeal.τ).loc Cert.SwaInIdeal.main_v60_3) = v3 c
          ∧ r.2.mem ((c.tc : Thread Cert.SwaInIdeal.nD Cert.SwaInIdeal.τ).loc Cert.SwaInIdeal.main_v60_4) = v4 c
          ∧ r.2.mem ((c.tc : Thread Cert.SwaInIdeal.nD Cert.SwaInIdeal.τ).loc Cert.SwaInIdeal.main_v60_5) = v5 c
          ∧ r.2.mem ((c.tc : Thread Cert.SwaInIdeal.nD Cert.SwaInIdeal.τ).loc Cert.SwaInIdeal.main_v60_6) = v6 c
          ∧ r.2.mem ((c.tc : Thread Cert.SwaInIdeal.nD Cert.SwaInIdeal.τ).loc Cert.SwaInIdeal.main_v60_7) = v7 c
          ∧ r.2.mem ((c.tc : Thread Cert.SwaInIdeal.nD Cert.SwaInIdeal.τ).loc Cert.SwaInIdeal.main_arg0) = m ((c.tc : Thread Cert.SwaInIdeal.nD Cert.SwaInIdeal.τ).loc Cert.SwaInIdeal.main_arg0)
          ∧ r.2.mem ((c.tc : Thread Cert.SwaInIdeal.nD Cert.SwaInIdeal.τ).loc Cert.SwaInIdeal.main_arg1) = m ((c.tc : Thread Cert.SwaInIdeal.nD Cert.SwaInIdeal.τ).loc Cert.SwaInIdeal.main_arg1)
          ∧ r.2.mem ((c.tc : Thread Cert.SwaInIdeal.nD Cert.SwaInIdeal.τ).loc Cert.SwaInIdeal.main_arg2) = m ((c.tc : Thread Cert.SwaInIdeal.nD Cert.SwaInIdeal.τ).loc Cert.SwaInIdeal.main_arg2))
      ∧ θ_run (Cert.SwaInRefIdeal.defs (F := Ideal)) (onTc (τ := Cert.SwaInRefIdeal.τ) (Cert.SwaInRefIdeal.main (F := Ideal))) ⟨m', fun _ => 0, g'⟩ (fun r => ∀ c : Dev Cert.SwaInRefIdeal.nD,
          r.2.mem ((c.tc : Thread Cert.SwaInRefIdeal.nD Cert.SwaInRefIdeal.τ).loc Cert.SwaInRefIdeal.main_v104) = v0 c
          ∧ r.2.mem ((c.tc : Thread Cert.SwaInRefIdeal.nD Cert.SwaInRefIdeal.τ).loc Cert.SwaInRefIdeal.main_v106) = v1 c
          ∧ r.2.mem ((c.tc : Thread Cert.SwaInRefIdeal.nD Cert.SwaInRefIdeal.τ).loc Cert.SwaInRefIdeal.main_v108) = v2 c
          ∧ r.2.mem ((c.tc : Thread Cert.SwaInRefIdeal.nD Cert.SwaInRefIdeal.τ).loc Cert.SwaInRefIdeal.main_v112) = v3 c
          ∧ r.2.mem ((c.tc : Thread Cert.SwaInRefIdeal.nD Cert.SwaInRefIdeal.τ).loc Cert.SwaInRefIdeal.main_v115) = v4 c
          ∧ r.2.mem ((c.tc : Thread Cert.SwaInRefIdeal.nD Cert.SwaInRefIdeal.τ).loc Cert.SwaInRefIdeal.main_v116) = v5 c
          ∧ r.2.mem ((c.tc : Thread Cert.SwaInRefIdeal.nD Cert.SwaInRefIdeal.τ).loc Cert.SwaInRefIdeal.main_v119) = v6 c
          ∧ r.2.mem ((c.tc : Thread Cert.SwaInRefIdeal.nD Cert.SwaInRefIdeal.τ).loc Cert.SwaInRefIdeal.main_v122) = v7 c
          ∧ r.2.mem ((c.tc : Thread Cert.SwaInRefIdeal.nD Cert.SwaInRefIdeal.τ).loc Cert.SwaInRefIdeal.main_arg0) = m' ((c.tc : Thread Cert.SwaInRefIdeal.nD Cert.SwaInRefIdeal.τ).loc Cert.SwaInRefIdeal.main_arg0)
          ∧ r.2.mem ((c.tc : Thread Cert.SwaInRefIdeal.nD Cert.SwaInRefIdeal.τ).loc Cert.SwaInRefIdeal.main_arg1) = m' ((c.tc : Thread Cert.SwaInRefIdeal.nD Cert.SwaInRefIdeal.τ).loc Cert.SwaInRefIdeal.main_arg1)
          ∧ r.2.mem ((c.tc : Thread Cert.SwaInRefIdeal.nD Cert.SwaInRefIdeal.τ).loc Cert.SwaInRefIdeal.main_arg2) = m' ((c.tc : Thread Cert.SwaInRefIdeal.nD Cert.SwaInRefIdeal.τ).loc Cert.SwaInRefIdeal.main_arg2))

def preserves_OutS_OutSIdeal : Prop :=
  True

def algebraic_OutSIdeal_OutSRefIdeal [hOutSIdeal : Cert.OutSIdeal.Facts] [hOutSRefIdeal : Cert.OutSRefIdeal.Facts] : Prop :=
  ∀ (m : (ℓ : Loc Cert.OutSIdeal.nD Cert.OutSIdeal.τ Cert.OutSIdeal.sig) → Buf (Elt Ideal) ℓ) (g : Dev Cert.OutSIdeal.nD → PrngReg)
    (m' : (ℓ : Loc Cert.OutSRefIdeal.nD Cert.OutSRefIdeal.τ Cert.OutSRefIdeal.sig) → Buf (Elt Ideal) ℓ) (g' : Dev Cert.OutSRefIdeal.nD → PrngReg), Pre_OutSIdeal m →
    (∀ c : Dev Cert.OutSIdeal.nD,
      m' ((c.tc : Thread Cert.OutSRefIdeal.nD Cert.OutSRefIdeal.τ).loc Cert.OutSRefIdeal.main_arg0) = m ((c.tc : Thread Cert.OutSIdeal.nD Cert.OutSIdeal.τ).loc Cert.OutSIdeal.main_arg0)
      ∧ m' ((c.tc : Thread Cert.OutSRefIdeal.nD Cert.OutSRefIdeal.τ).loc Cert.OutSRefIdeal.main_arg1) = m ((c.tc : Thread Cert.OutSIdeal.nD Cert.OutSIdeal.τ).loc Cert.OutSIdeal.main_arg1)
      ∧ m' ((c.tc : Thread Cert.OutSRefIdeal.nD Cert.OutSRefIdeal.τ).loc Cert.OutSRefIdeal.main_arg2) = m ((c.tc : Thread Cert.OutSIdeal.nD Cert.OutSIdeal.τ).loc Cert.OutSIdeal.main_arg2)
      ∧ m' ((c.tc : Thread Cert.OutSRefIdeal.nD Cert.OutSRefIdeal.τ).loc Cert.OutSRefIdeal.main_arg3) = m ((c.tc : Thread Cert.OutSIdeal.nD Cert.OutSIdeal.τ).loc Cert.OutSIdeal.main_arg3)
      ∧ m' ((c.tc : Thread Cert.OutSRefIdeal.nD Cert.OutSRefIdeal.τ).loc Cert.OutSRefIdeal.main_arg4) = m ((c.tc : Thread Cert.OutSIdeal.nD Cert.OutSIdeal.τ).loc Cert.OutSIdeal.main_arg4)
      ∧ m' ((c.tc : Thread Cert.OutSRefIdeal.nD Cert.OutSRefIdeal.τ).loc Cert.OutSRefIdeal.main_arg5) = m ((c.tc : Thread Cert.OutSIdeal.nD Cert.OutSIdeal.τ).loc Cert.OutSIdeal.main_arg5)
      ∧ m' ((c.tc : Thread Cert.OutSRefIdeal.nD Cert.OutSRefIdeal.τ).loc Cert.OutSRefIdeal.main_arg6) = m ((c.tc : Thread Cert.OutSIdeal.nD Cert.OutSIdeal.τ).loc Cert.OutSIdeal.main_arg6)) →
    ∃ (v0 : (c : Dev Cert.OutSIdeal.nD) → Buf (Elt Ideal) ((c.tc : Thread Cert.OutSIdeal.nD Cert.OutSIdeal.τ).loc Cert.OutSIdeal.main_v10)),
      θ_run (Cert.OutSIdeal.defs (F := Ideal)) (onTc (τ := Cert.OutSIdeal.τ) (Cert.OutSIdeal.main (F := Ideal))) ⟨m, fun _ => 0, g⟩ (fun r => ∀ c : Dev Cert.OutSIdeal.nD,
          r.2.mem ((c.tc : Thread Cert.OutSIdeal.nD Cert.OutSIdeal.τ).loc Cert.OutSIdeal.main_v10) = v0 c
          ∧ r.2.mem ((c.tc : Thread Cert.OutSIdeal.nD Cert.OutSIdeal.τ).loc Cert.OutSIdeal.main_arg0) = m ((c.tc : Thread Cert.OutSIdeal.nD Cert.OutSIdeal.τ).loc Cert.OutSIdeal.main_arg0)
          ∧ r.2.mem ((c.tc : Thread Cert.OutSIdeal.nD Cert.OutSIdeal.τ).loc Cert.OutSIdeal.main_arg1) = m ((c.tc : Thread Cert.OutSIdeal.nD Cert.OutSIdeal.τ).loc Cert.OutSIdeal.main_arg1)
          ∧ r.2.mem ((c.tc : Thread Cert.OutSIdeal.nD Cert.OutSIdeal.τ).loc Cert.OutSIdeal.main_arg2) = m ((c.tc : Thread Cert.OutSIdeal.nD Cert.OutSIdeal.τ).loc Cert.OutSIdeal.main_arg2)
          ∧ r.2.mem ((c.tc : Thread Cert.OutSIdeal.nD Cert.OutSIdeal.τ).loc Cert.OutSIdeal.main_arg3) = m ((c.tc : Thread Cert.OutSIdeal.nD Cert.OutSIdeal.τ).loc Cert.OutSIdeal.main_arg3)
          ∧ r.2.mem ((c.tc : Thread Cert.OutSIdeal.nD Cert.OutSIdeal.τ).loc Cert.OutSIdeal.main_arg4) = m ((c.tc : Thread Cert.OutSIdeal.nD Cert.OutSIdeal.τ).loc Cert.OutSIdeal.main_arg4)
          ∧ r.2.mem ((c.tc : Thread Cert.OutSIdeal.nD Cert.OutSIdeal.τ).loc Cert.OutSIdeal.main_arg5) = m ((c.tc : Thread Cert.OutSIdeal.nD Cert.OutSIdeal.τ).loc Cert.OutSIdeal.main_arg5)
          ∧ r.2.mem ((c.tc : Thread Cert.OutSIdeal.nD Cert.OutSIdeal.τ).loc Cert.OutSIdeal.main_arg6) = m ((c.tc : Thread Cert.OutSIdeal.nD Cert.OutSIdeal.τ).loc Cert.OutSIdeal.main_arg6))
      ∧ θ_run (Cert.OutSRefIdeal.defs (F := Ideal)) (onTc (τ := Cert.OutSRefIdeal.τ) (Cert.OutSRefIdeal.main (F := Ideal))) ⟨m', fun _ => 0, g'⟩ (fun r => ∀ c : Dev Cert.OutSRefIdeal.nD,
          r.2.mem ((c.tc : Thread Cert.OutSRefIdeal.nD Cert.OutSRefIdeal.τ).loc Cert.OutSRefIdeal.main_v23) = v0 c
          ∧ r.2.mem ((c.tc : Thread Cert.OutSRefIdeal.nD Cert.OutSRefIdeal.τ).loc Cert.OutSRefIdeal.main_arg0) = m' ((c.tc : Thread Cert.OutSRefIdeal.nD Cert.OutSRefIdeal.τ).loc Cert.OutSRefIdeal.main_arg0)
          ∧ r.2.mem ((c.tc : Thread Cert.OutSRefIdeal.nD Cert.OutSRefIdeal.τ).loc Cert.OutSRefIdeal.main_arg1) = m' ((c.tc : Thread Cert.OutSRefIdeal.nD Cert.OutSRefIdeal.τ).loc Cert.OutSRefIdeal.main_arg1)
          ∧ r.2.mem ((c.tc : Thread Cert.OutSRefIdeal.nD Cert.OutSRefIdeal.τ).loc Cert.OutSRefIdeal.main_arg2) = m' ((c.tc : Thread Cert.OutSRefIdeal.nD Cert.OutSRefIdeal.τ).loc Cert.OutSRefIdeal.main_arg2)
          ∧ r.2.mem ((c.tc : Thread Cert.OutSRefIdeal.nD Cert.OutSRefIdeal.τ).loc Cert.OutSRefIdeal.main_arg3) = m' ((c.tc : Thread Cert.OutSRefIdeal.nD Cert.OutSRefIdeal.τ).loc Cert.OutSRefIdeal.main_arg3)
          ∧ r.2.mem ((c.tc : Thread Cert.OutSRefIdeal.nD Cert.OutSRefIdeal.τ).loc Cert.OutSRefIdeal.main_arg4) = m' ((c.tc : Thread Cert.OutSRefIdeal.nD Cert.OutSRefIdeal.τ).loc Cert.OutSRefIdeal.main_arg4)
          ∧ r.2.mem ((c.tc : Thread Cert.OutSRefIdeal.nD Cert.OutSRefIdeal.τ).loc Cert.OutSRefIdeal.main_arg5) = m' ((c.tc : Thread Cert.OutSRefIdeal.nD Cert.OutSRefIdeal.τ).loc Cert.OutSRefIdeal.main_arg5)
          ∧ r.2.mem ((c.tc : Thread Cert.OutSRefIdeal.nD Cert.OutSRefIdeal.τ).loc Cert.OutSRefIdeal.main_arg6) = m' ((c.tc : Thread Cert.OutSRefIdeal.nD Cert.OutSRefIdeal.τ).loc Cert.OutSRefIdeal.main_arg6))

def preserves_InS_InSIdeal : Prop :=
  True

def algebraic_InSIdeal_InSRefIdeal [hInSIdeal : Cert.InSIdeal.Facts] [hInSRefIdeal : Cert.InSRefIdeal.Facts] : Prop :=
  ∀ (m : (ℓ : Loc Cert.InSIdeal.nD Cert.InSIdeal.τ Cert.InSIdeal.sig) → Buf (Elt Ideal) ℓ) (g : Dev Cert.InSIdeal.nD → PrngReg)
    (m' : (ℓ : Loc Cert.InSRefIdeal.nD Cert.InSRefIdeal.τ Cert.InSRefIdeal.sig) → Buf (Elt Ideal) ℓ) (g' : Dev Cert.InSRefIdeal.nD → PrngReg), Pre_InSIdeal m →
    (∀ c : Dev Cert.InSIdeal.nD,
      m' ((c.tc : Thread Cert.InSRefIdeal.nD Cert.InSRefIdeal.τ).loc Cert.InSRefIdeal.main_arg0) = m ((c.tc : Thread Cert.InSIdeal.nD Cert.InSIdeal.τ).loc Cert.InSIdeal.main_arg0)
      ∧ m' ((c.tc : Thread Cert.InSRefIdeal.nD Cert.InSRefIdeal.τ).loc Cert.InSRefIdeal.main_arg1) = m ((c.tc : Thread Cert.InSIdeal.nD Cert.InSIdeal.τ).loc Cert.InSIdeal.main_arg1)
      ∧ m' ((c.tc : Thread Cert.InSRefIdeal.nD Cert.InSRefIdeal.τ).loc Cert.InSRefIdeal.main_arg2) = m ((c.tc : Thread Cert.InSIdeal.nD Cert.InSIdeal.τ).loc Cert.InSIdeal.main_arg2)
      ∧ m' ((c.tc : Thread Cert.InSRefIdeal.nD Cert.InSRefIdeal.τ).loc Cert.InSRefIdeal.main_arg3) = m ((c.tc : Thread Cert.InSIdeal.nD Cert.InSIdeal.τ).loc Cert.InSIdeal.main_arg3)) →
    ∃ (v0 : (c : Dev Cert.InSIdeal.nD) → Buf (Elt Ideal) ((c.tc : Thread Cert.InSIdeal.nD Cert.InSIdeal.τ).loc Cert.InSIdeal.main_v27_0)) (v1 : (c : Dev Cert.InSIdeal.nD) → Buf (Elt Ideal) ((c.tc : Thread Cert.InSIdeal.nD Cert.InSIdeal.τ).loc Cert.InSIdeal.main_v27_1)) (v2 : (c : Dev Cert.InSIdeal.nD) → Buf (Elt Ideal) ((c.tc : Thread Cert.InSIdeal.nD Cert.InSIdeal.τ).loc Cert.InSIdeal.main_v27_2)) (v3 : (c : Dev Cert.InSIdeal.nD) → Buf (Elt Ideal) ((c.tc : Thread Cert.InSIdeal.nD Cert.InSIdeal.τ).loc Cert.InSIdeal.main_v27_3)) (v4 : (c : Dev Cert.InSIdeal.nD) → Buf (Elt Ideal) ((c.tc : Thread Cert.InSIdeal.nD Cert.InSIdeal.τ).loc Cert.InSIdeal.main_v27_4)) (v5 : (c : Dev Cert.InSIdeal.nD) → Buf (Elt Ideal) ((c.tc : Thread Cert.InSIdeal.nD Cert.InSIdeal.τ).loc Cert.InSIdeal.main_v27_5)) (v6 : (c : Dev Cert.InSIdeal.nD) → Buf (Elt Ideal) ((c.tc : Thread Cert.InSIdeal.nD Cert.InSIdeal.τ).loc Cert.InSIdeal.main_v27_6)) (v7 : (c : Dev Cert.InSIdeal.nD) → Buf (Elt Ideal) ((c.tc : Thread Cert.InSIdeal.nD Cert.InSIdeal.τ).loc Cert.InSIdeal.main_v27_7)) (v8 : (c : Dev Cert.InSIdeal.nD) → Buf (Elt Ideal) ((c.tc : Thread Cert.InSIdeal.nD Cert.InSIdeal.τ).loc Cert.InSIdeal.main_v27_8)),
      θ_run (Cert.InSIdeal.defs (F := Ideal)) (onTc (τ := Cert.InSIdeal.τ) (Cert.InSIdeal.main (F := Ideal))) ⟨m, fun _ => 0, g⟩ (fun r => ∀ c : Dev Cert.InSIdeal.nD,
          r.2.mem ((c.tc : Thread Cert.InSIdeal.nD Cert.InSIdeal.τ).loc Cert.InSIdeal.main_v27_0) = v0 c
          ∧ r.2.mem ((c.tc : Thread Cert.InSIdeal.nD Cert.InSIdeal.τ).loc Cert.InSIdeal.main_v27_1) = v1 c
          ∧ r.2.mem ((c.tc : Thread Cert.InSIdeal.nD Cert.InSIdeal.τ).loc Cert.InSIdeal.main_v27_2) = v2 c
          ∧ r.2.mem ((c.tc : Thread Cert.InSIdeal.nD Cert.InSIdeal.τ).loc Cert.InSIdeal.main_v27_3) = v3 c
          ∧ r.2.mem ((c.tc : Thread Cert.InSIdeal.nD Cert.InSIdeal.τ).loc Cert.InSIdeal.main_v27_4) = v4 c
          ∧ r.2.mem ((c.tc : Thread Cert.InSIdeal.nD Cert.InSIdeal.τ).loc Cert.InSIdeal.main_v27_5) = v5 c
          ∧ r.2.mem ((c.tc : Thread Cert.InSIdeal.nD Cert.InSIdeal.τ).loc Cert.InSIdeal.main_v27_6) = v6 c
          ∧ r.2.mem ((c.tc : Thread Cert.InSIdeal.nD Cert.InSIdeal.τ).loc Cert.InSIdeal.main_v27_7) = v7 c
          ∧ r.2.mem ((c.tc : Thread Cert.InSIdeal.nD Cert.InSIdeal.τ).loc Cert.InSIdeal.main_v27_8) = v8 c
          ∧ r.2.mem ((c.tc : Thread Cert.InSIdeal.nD Cert.InSIdeal.τ).loc Cert.InSIdeal.main_arg0) = m ((c.tc : Thread Cert.InSIdeal.nD Cert.InSIdeal.τ).loc Cert.InSIdeal.main_arg0)
          ∧ r.2.mem ((c.tc : Thread Cert.InSIdeal.nD Cert.InSIdeal.τ).loc Cert.InSIdeal.main_arg1) = m ((c.tc : Thread Cert.InSIdeal.nD Cert.InSIdeal.τ).loc Cert.InSIdeal.main_arg1)
          ∧ r.2.mem ((c.tc : Thread Cert.InSIdeal.nD Cert.InSIdeal.τ).loc Cert.InSIdeal.main_arg2) = m ((c.tc : Thread Cert.InSIdeal.nD Cert.InSIdeal.τ).loc Cert.InSIdeal.main_arg2)
          ∧ r.2.mem ((c.tc : Thread Cert.InSIdeal.nD Cert.InSIdeal.τ).loc Cert.InSIdeal.main_arg3) = m ((c.tc : Thread Cert.InSIdeal.nD Cert.InSIdeal.τ).loc Cert.InSIdeal.main_arg3))
      ∧ θ_run (Cert.InSRefIdeal.defs (F := Ideal)) (onTc (τ := Cert.InSRefIdeal.τ) (Cert.InSRefIdeal.main (F := Ideal))) ⟨m', fun _ => 0, g'⟩ (fun r => ∀ c : Dev Cert.InSRefIdeal.nD,
          r.2.mem ((c.tc : Thread Cert.InSRefIdeal.nD Cert.InSRefIdeal.τ).loc Cert.InSRefIdeal.main_v30) = v0 c
          ∧ r.2.mem ((c.tc : Thread Cert.InSRefIdeal.nD Cert.InSRefIdeal.τ).loc Cert.InSRefIdeal.main_v32) = v1 c
          ∧ r.2.mem ((c.tc : Thread Cert.InSRefIdeal.nD Cert.InSRefIdeal.τ).loc Cert.InSRefIdeal.main_v34) = v2 c
          ∧ r.2.mem ((c.tc : Thread Cert.InSRefIdeal.nD Cert.InSRefIdeal.τ).loc Cert.InSRefIdeal.main_v38) = v3 c
          ∧ r.2.mem ((c.tc : Thread Cert.InSRefIdeal.nD Cert.InSRefIdeal.τ).loc Cert.InSRefIdeal.main_v40) = v4 c
          ∧ r.2.mem ((c.tc : Thread Cert.InSRefIdeal.nD Cert.InSRefIdeal.τ).loc Cert.InSRefIdeal.main_v41) = v5 c
          ∧ r.2.mem ((c.tc : Thread Cert.InSRefIdeal.nD Cert.InSRefIdeal.τ).loc Cert.InSRefIdeal.main_v15) = v6 c
          ∧ r.2.mem ((c.tc : Thread Cert.InSRefIdeal.nD Cert.InSRefIdeal.τ).loc Cert.InSRefIdeal.main_v16) = v7 c
          ∧ r.2.mem ((c.tc : Thread Cert.InSRefIdeal.nD Cert.InSRefIdeal.τ).loc Cert.InSRefIdeal.main_v25) = v8 c
          ∧ r.2.mem ((c.tc : Thread Cert.InSRefIdeal.nD Cert.InSRefIdeal.τ).loc Cert.InSRefIdeal.main_arg0) = m' ((c.tc : Thread Cert.InSRefIdeal.nD Cert.InSRefIdeal.τ).loc Cert.InSRefIdeal.main_arg0)
          ∧ r.2.mem ((c.tc : Thread Cert.InSRefIdeal.nD Cert.InSRefIdeal.τ).loc Cert.InSRefIdeal.main_arg1) = m' ((c.tc : Thread Cert.InSRefIdeal.nD Cert.InSRefIdeal.τ).loc Cert.InSRefIdeal.main_arg1)
          ∧ r.2.mem ((c.tc : Thread Cert.InSRefIdeal.nD Cert.InSRefIdeal.τ).loc Cert.InSRefIdeal.main_arg2) = m' ((c.tc : Thread Cert.InSRefIdeal.nD Cert.InSRefIdeal.τ).loc Cert.InSRefIdeal.main_arg2)
          ∧ r.2.mem ((c.tc : Thread Cert.InSRefIdeal.nD Cert.InSRefIdeal.τ).loc Cert.InSRefIdeal.main_arg3) = m' ((c.tc : Thread Cert.InSRefIdeal.nD Cert.InSRefIdeal.τ).loc Cert.InSRefIdeal.main_arg3))

def Claim : Prop :=
  ∃ (hKernel : Cert.Kernel.Facts) (hKernelIdeal : Cert.KernelIdeal.Facts) (hReferenceIdeal : Cert.ReferenceIdeal.Facts) (hMemkv : Cert.Memkv.Facts) (hMemkvIdeal : Cert.MemkvIdeal.Facts) (hMemkvRefIdeal : Cert.MemkvRefIdeal.Facts) (hOut : Cert.Out.Facts) (hOutIdeal : Cert.OutIdeal.Facts) (hOutRefIdeal : Cert.OutRefIdeal.Facts) (hIn : Cert.In.Facts) (hInIdeal : Cert.InIdeal.Facts) (hInRefIdeal : Cert.InRefIdeal.Facts) (hSwaIn : Cert.SwaIn.Facts) (hSwaInIdeal : Cert.SwaInIdeal.Facts) (hSwaInRefIdeal : Cert.SwaInRefIdeal.Facts) (hOutS : Cert.OutS.Facts) (hOutSIdeal : Cert.OutSIdeal.Facts) (hOutSRefIdeal : Cert.OutSRefIdeal.Facts) (hInS : Cert.InS.Facts) (hInSIdeal : Cert.InSIdeal.Facts) (hInSRefIdeal : Cert.InSRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Memkv (hMemkv := hMemkv)
    ∧ quiescent_MemkvIdeal (hMemkvIdeal := hMemkvIdeal)
    ∧ quiescent_MemkvRefIdeal (hMemkvRefIdeal := hMemkvRefIdeal)
    ∧ quiescent_Out (hOut := hOut)
    ∧ quiescent_OutIdeal (hOutIdeal := hOutIdeal)
    ∧ quiescent_OutRefIdeal (hOutRefIdeal := hOutRefIdeal)
    ∧ quiescent_In (hIn := hIn)
    ∧ quiescent_InIdeal (hInIdeal := hInIdeal)
    ∧ quiescent_InRefIdeal (hInRefIdeal := hInRefIdeal)
    ∧ quiescent_SwaIn (hSwaIn := hSwaIn)
    ∧ quiescent_SwaInIdeal (hSwaInIdeal := hSwaInIdeal)
    ∧ quiescent_SwaInRefIdeal (hSwaInRefIdeal := hSwaInRefIdeal)
    ∧ quiescent_OutS (hOutS := hOutS)
    ∧ quiescent_OutSIdeal (hOutSIdeal := hOutSIdeal)
    ∧ quiescent_OutSRefIdeal (hOutSRefIdeal := hOutSRefIdeal)
    ∧ quiescent_InS (hInS := hInS)
    ∧ quiescent_InSIdeal (hInSIdeal := hInSIdeal)
    ∧ quiescent_InSRefIdeal (hInSRefIdeal := hInSRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Memkv_MemkvIdeal
    ∧ algebraic_MemkvIdeal_MemkvRefIdeal (hMemkvIdeal := hMemkvIdeal) (hMemkvRefIdeal := hMemkvRefIdeal)
    ∧ preserves_Out_OutIdeal
    ∧ algebraic_OutIdeal_OutRefIdeal (hOutIdeal := hOutIdeal) (hOutRefIdeal := hOutRefIdeal)
    ∧ preserves_In_InIdeal
    ∧ algebraic_InIdeal_InRefIdeal (hInIdeal := hInIdeal) (hInRefIdeal := hInRefIdeal)
    ∧ preserves_SwaIn_SwaInIdeal
    ∧ algebraic_SwaInIdeal_SwaInRefIdeal (hSwaInIdeal := hSwaInIdeal) (hSwaInRefIdeal := hSwaInRefIdeal)
    ∧ preserves_OutS_OutSIdeal
    ∧ algebraic_OutSIdeal_OutSRefIdeal (hOutSIdeal := hOutSIdeal) (hOutSRefIdeal := hOutSRefIdeal)
    ∧ preserves_InS_InSIdeal
    ∧ algebraic_InSIdeal_InSRefIdeal (hInSIdeal := hInSIdeal) (hInSRefIdeal := hInSRefIdeal)
-- ==== Pre_finite.lean ====
abbrev S4x4096x12x64 : Shape := ⟨4, ![4, 4096, 12, 64]⟩
abbrev S4x4096x4x64 : Shape := ⟨4, ![4, 4096, 4, 64]⟩
abbrev S4x4096x12 : Shape := ⟨3, ![4, 4096, 12]⟩
abbrev S_ : Shape := ⟨0, ![]⟩

class Facts : Prop where
  bcast_S_S4x4096x12x64 : S_.BroadcastsInDim S4x4096x12x64 (![] : Fin 0 → Fin S4x4096x12x64.rank)
  reducesTo_S4x4096x12x64_S_d0_1_2_3 : S4x4096x12x64.ReducesTo [0, 1, 2, 3] S_
  h_S_ : 0 < S_.numel
  bcast_S_S4x4096x4x64 : S_.BroadcastsInDim S4x4096x4x64 (![] : Fin 0 → Fin S4x4096x4x64.rank)
  reducesTo_S4x4096x4x64_S_d0_1_2_3 : S4x4096x4x64.ReducesTo [0, 1, 2, 3] S_
  bcast_S_S4x4096x12 : S_.BroadcastsInDim S4x4096x12 (![] : Fin 0 → Fin S4x4096x12.rank)
  reducesTo_S4x4096x12_S_d0_1_2 : S4x4096x12.ReducesTo [0, 1, 2] S_

variable [Facts]

def fn {F : FTy → Type} [FloatOps F] (main_arg0 : FVec F S4x4096x12x64 .f32) (main_arg1 : FVec F S4x4096x4x64 .f32) (main_arg2 : FVec F S4x4096x4x64 .f32) (main_arg3 : FVec F S4x4096x12 .f32) : IVec S_ 1 :=
  let main_v0 : FVec F S4x4096x12x64 .f32 := Host.absf main_arg0
  let main_cst : FVec F S_ .f32 := constant S_ .f32 0x7F800000#32
  let main_v1 : FVec F S4x4096x12x64 .f32 := broadcastInDim S4x4096x12x64 ![] bcast_S_S4x4096x12x64 main_cst
  let main_v2 : IVec S4x4096x12x64 1 := cmpf .olt main_v0 main_v1
  let main_c : IVec S_ 1 := constantI S_ 1 1#1
  let main_v3 : IVec S_ 1 := (fun x v => Host.reduce IntOp.andi x v reducesTo_S4x4096x12x64_S_d0_1_2_3 h_S_) main_v2 main_c
  let main_v4 : FVec F S4x4096x4x64 .f32 := Host.absf main_arg1
  let main_cst_0 : FVec F S_ .f32 := constant S_ .f32 0x7F800000#32
  let main_v5 : FVec F S4x4096x4x64 .f32 := broadcastInDim S4x4096x4x64 ![] bcast_S_S4x4096x4x64 main_cst_0
  let main_v6 : IVec S4x4096x4x64 1 := cmpf .olt main_v4 main_v5
  let main_c_1 : IVec S_ 1 := constantI S_ 1 1#1
  let main_v7 : IVec S_ 1 := (fun x v => Host.reduce IntOp.andi x v reducesTo_S4x4096x4x64_S_d0_1_2_3 h_S_) main_v6 main_c_1
  let main_v8 : IVec S_ 1 := andi main_v3 main_v7
  let main_v9 : FVec F S4x4096x12 .f32 := Host.absf main_arg3
  let main_cst_2 : FVec F S_ .f32 := constant S_ .f32 0x7F800000#32
  let main_v10 : FVec F S4x4096x12 .f32 := broadcastInDim S4x4096x12 ![] bcast_S_S4x4096x12 main_cst_2
  let main_v11 : IVec S4x4096x12 1 := cmpf .olt main_v9 main_v10
  let main_c_3 : IVec S_ 1 := constantI S_ 1 1#1
  let main_v12 : IVec S_ 1 := (fun x v => Host.reduce IntOp.andi x v reducesTo_S4x4096x12_S_d0_1_2 h_S_) main_v11 main_c_3
  let main_v13 : IVec S_ 1 := andi main_v8 main_v12
  main_v13
-- ==== Kernel.lean ====
abbrev S4x4096x12x64 : Shape := ⟨4, ![4, 4096, 12, 64]⟩
abbrev S4x4096x4x64 : Shape := ⟨4, ![4, 4096, 4, 64]⟩
abbrev S4x4096x12 : Shape := ⟨3, ![4, 4096, 12]⟩
abbrev S16384x4x3x64 : Shape := ⟨4, ![16384, 4, 3, 64]⟩
abbrev S16384x3x4x64 : Shape := ⟨4, ![16384, 3, 4, 64]⟩
abbrev S16384x768 : Shape := ⟨2, ![16384, 768]⟩
abbrev S_ : Shape := ⟨0, ![]⟩
abbrev S4x4096x4x3 : Shape := ⟨4, ![4, 4096, 4, 3]⟩
abbrev S4x3x4x4096 : Shape := ⟨4, ![4, 3, 4, 4096]⟩
abbrev S4x3x8x4096 : Shape := ⟨4, ![4, 3, 8, 4096]⟩
abbrev S4x32x128x256 : Shape := ⟨4, ![4, 32, 128, 256]⟩
abbrev S4x32x256x128 : Shape := ⟨4, ![4, 32, 256, 128]⟩
abbrev S512x256 : Shape := ⟨2, ![512, 256]⟩
abbrev S1x32x256x128 : Shape := ⟨4, ![1, 32, 256, 128]⟩
abbrev S1x1x8x4096 : Shape := ⟨4, ![1, 1, 8, 4096]⟩
abbrev S2048x256 : Shape := ⟨2, ![2048, 256]⟩
abbrev S2048x128 : Shape := ⟨2, ![2048, 128]⟩
abbrev S4x1x256 : Shape := ⟨3, ![4, 1, 256]⟩
abbrev S1x1x256 : Shape := ⟨3, ![1, 1, 256]⟩
abbrev S1x256 : Shape := ⟨2, ![1, 256]⟩
abbrev S1x1x256x128 : Shape := ⟨4, ![1, 1, 256, 128]⟩
abbrev S256x128 : Shape := ⟨2, ![256, 128]⟩
abbrev S256x512 : Shape := ⟨2, ![256, 512]⟩
abbrev S2048x512 : Shape := ⟨2, ![2048, 512]⟩
abbrev S4x512x512 : Shape := ⟨3, ![4, 512, 512]⟩
abbrev S1x1x4x512 : Shape := ⟨4, ![1, 1, 4, 512]⟩
abbrev S4x512 : Shape := ⟨2, ![4, 512]⟩
abbrev S4x1x512 : Shape := ⟨3, ![4, 1, 512]⟩
abbrev S2048 : Shape := ⟨1, ![2048]⟩
abbrev S2048x1 : Shape := ⟨2, ![2048, 1]⟩
abbrev S512x512 : Shape := ⟨2, ![512, 512]⟩
abbrev S1x512x512 : Shape := ⟨3, ![1, 512, 512]⟩

abbrev nBuf : Space → Nat
  | .hbm => 22
  | .vmem => 14
  | .smem => 0
  | _ => 0

abbrev bufTy : (tb : Table) → Fin (tcTables nBuf tb) → BufTy
  | .hbm, ⟨0, _⟩ => ⟨S4x4096x12x64, .f32⟩
  | .hbm, ⟨1, _⟩ => ⟨S4x4096x4x64, .f32⟩
  | .hbm, ⟨2, _⟩ => ⟨S4x4096x4x64, .f32⟩
  | .hbm, ⟨3, _⟩ => ⟨S4x4096x12, .f32⟩
  | .hbm, ⟨4, _⟩ => ⟨S16384x4x3x64, .f32⟩
  | .hbm, ⟨5, _⟩ => ⟨S16384x3x4x64, .f32⟩
  | .hbm, ⟨6, _⟩ => ⟨S16384x768, .f32⟩
  | .hbm, ⟨7, _⟩ => ⟨S_, .f32⟩
  | .hbm, ⟨8, _⟩ => ⟨S_, .f32⟩
  | .hbm, ⟨9, _⟩ => ⟨S4x4096x12, .f32⟩
  | .hbm, ⟨10, _⟩ => ⟨S4x4096x4x3, .f32⟩
  | .hbm, ⟨11, _⟩ => ⟨S4x3x4x4096, .f32⟩
  | .hbm, ⟨12, _⟩ => ⟨S_, .i32⟩
  | .hbm, ⟨13, _⟩ => ⟨S_, .f32⟩
  | .hbm, ⟨14, _⟩ => ⟨S4x3x8x4096, .f32⟩
  | .hbm, ⟨15, _⟩ => ⟨S4x32x128x256, .f32⟩
  | .hbm, ⟨16, _⟩ => ⟨S4x32x256x128, .f32⟩
  | .hbm, ⟨17, _⟩ => ⟨S4x32x256x128, .bf16⟩
  | .hbm, ⟨18, _⟩ => ⟨S4x32x128x256, .f32⟩
  | .hbm, ⟨19, _⟩ => ⟨S4x32x256x128, .f32⟩
  | .hbm, ⟨20, _⟩ => ⟨S4x32x256x128, .bf16⟩
  | .hbm, ⟨21, _⟩ => ⟨S16384x768, .f32⟩
  | .local _ .vmem, ⟨0, _⟩ => ⟨S512x256, .f32⟩
  | .local _ .vmem, ⟨1, _⟩ => ⟨S512x256, .f32⟩
  | .local _ .vmem, ⟨2, _⟩ => ⟨S1x32x256x128, .bf16⟩
  | .local _ .vmem, ⟨3, _⟩ => ⟨S1x32x256x128, .bf16⟩
  | .local _ .vmem, ⟨4, _⟩ => ⟨S1x32x256x128, .bf16⟩
  | .local _ .vmem, ⟨5, _⟩ => ⟨S1x32x256x128, .bf16⟩
  | .local _ .vmem, ⟨6, _⟩ => ⟨S1x1x8x4096, .f32⟩
  | .local _ .vmem, ⟨7, _⟩ => ⟨S1x1x8x4096, .f32⟩
  | .local _ .vmem, ⟨8, _⟩ => ⟨S512x256, .f32⟩
  | .local _ .vmem, ⟨9, _⟩ => ⟨S512x256, .f32⟩
  | .local _ .vmem, ⟨10, _⟩ => ⟨S2048x256, .bf16⟩
  | .local _ .vmem, ⟨11, _⟩ => ⟨S2048x128, .f32⟩
  | .local _ .vmem, ⟨12, _⟩ => ⟨S2048x128, .f32⟩
  | .local _ .vmem, ⟨13, _⟩ => ⟨S2048x256, .f32⟩
  | _, _ => ⟨S4x4096x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_call0_cst : Ref sig .tc := ⟨.hbm, 7, rfl⟩
abbrev main_call0_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 3, 8], ![false, false, false]⟩

@[reducible] def k0_t1_loop (i : grid0.Coords) : Scf.Loop 32 :=
  let c0_i32_26 : BitVec 32 := 0#32
  let arg2 : BitVec 32 := BitVec.ofNat 32 (i 2).val
  let c512_i32 : BitVec 32 := 512#32
  let v0 : BitVec 32 := Scalar.muli arg2 c512_i32
  let c0_i32_19 : BitVec 32 := 0#32
  let v70 : BitVec 1 := Scalar.cmpi .sgt v0 c0_i32_19
  let v71 : BitVec 32 := Scalar.extui v70
  let c0_i32_20 : BitVec 32 := 0#32
  let v72 : BitVec 1 := Scalar.cmpi .slt v0 c0_i32_20
  let v73 : BitVec 32 := Scalar.extui v72
  let v74 : BitVec 32 := Scalar.subi v71 v73
  let c512_i32_18 : BitVec 32 := 512#32
  let c0_i32_21 : BitVec 32 := 0#32
  let v75 : BitVec 1 := Scalar.cmpi .sgt c512_i32_18 c0_i32_21
  let v76 : BitVec 32 := Scalar.extui v75
  let c0_i32_22 : BitVec 32 := 0#32
  let v77 : BitVec 1 := Scalar.cmpi .slt c512_i32_18 c0_i32_22
  let v78 : BitVec 32 := Scalar.extui v77
  let v79 : BitVec 32 := Scalar.subi v76 v78
  let v80 : BitVec 1 := Scalar.cmpi .ne v74 v79
  let v81 : BitVec 32 := Scalar.remsi v0 c512_i32_18
  let c0_i32_23 : BitVec 32 := 0#32
  let v82 : BitVec 1 := Scalar.cmpi .ne v81 c0_i32_23
  let v83 : BitVec 1 := Scalar.andi v80 v82
  let v69 : BitVec 32 := Scalar.divsi v0 c512_i32_18
  let c1_i32_24 : BitVec 32 := 1#32
  let v84 : BitVec 32 := Scalar.subi v69 c1_i32_24
  let v85 : BitVec 32 := Scalar.select v83 v84 v69
  let v86 : BitVec 32 := Scalar.subi v85 c0_i32_26
  let c1_i32_27 : BitVec 32 := 1#32
  let v88 : BitVec 32 := Scalar.divsi v86 c1_i32_27
  let v89 : BitVec 32 := Scalar.muli v88 c1_i32_27
  let v90 : BitVec 32 := Scalar.addi c0_i32_26 v89
  let c1_i32_28 : BitVec 32 := 1#32
  ⟨c0_i32_26, v90, c1_i32_28⟩
def k0_mult1 (i : grid0.Coords) (k0_t1 : Fin (k0_t1_loop i).trips) : BitVec 32 :=
  let c0_i32_26 : BitVec 32 := 0#32
  let c1_i32_28 : BitVec 32 := 1#32
  let arg12 : BitVec 32 := Scf.iv c0_i32_26 c1_i32_28 k0_t1
  let c512_i32_106 : BitVec 32 := 512#32
  let v259 : BitVec 32 := Scalar.muli arg12 c512_i32_106
  v259
def k0_off1 (i : grid0.Coords) (k0_t1 : Fin (k0_t1_loop i).trips) (c0_i32_107 : BitVec 32) : Fin 4 → Nat :=
  let c0_108 : Index := 0#32
  let c0_i32_26 : BitVec 32 := 0#32
  let c1_i32_28 : BitVec 32 := 1#32
  let arg12 : BitVec 32 := Scf.iv c0_i32_26 c1_i32_28 k0_t1
  let c4_i32 : BitVec 32 := 4#32
  let v258 : BitVec 32 := Scalar.muli arg12 c4_i32
  let v261 : BitVec 32 := Scalar.addi v258 c0_i32_107
  let v262 : Index := Scalar.indexCast v261
  let c0_109 : Index := 0#32
  let c0_110 : Index := 0#32
  ![0, v262.toNat, 0, 0]
def k0_off2 (i : grid0.Coords) (k0_t1 : Fin (k0_t1_loop i).trips) : Fin 4 → Nat :=
  let c0_142 : Index := 0#32
  let c0_143 : Index := 0#32
  let c0_144 : Index := 0#32
  let c0_i32_26 : BitVec 32 := 0#32
  let c1_i32_28 : BitVec 32 := 1#32
  let arg12 : BitVec 32 := Scf.iv c0_i32_26 c1_i32_28 k0_t1
  let c512_i32_106 : BitVec 32 := 512#32
  let v259 : BitVec 32 := Scalar.muli arg12 c512_i32_106
  let v260 : BitVec 32 := v259
  let v298 : Index := Scalar.indexCast v260
  ![0, 0, 0, v298.toNat]
@[reducible] def k0_t2_loop (i : grid0.Coords) : Scf.Loop 32 :=
  let c0_i32_26 : BitVec 32 := 0#32
  let arg2 : BitVec 32 := BitVec.ofNat 32 (i 2).val
  let c512_i32 : BitVec 32 := 512#32
  let v0 : BitVec 32 := Scalar.muli arg2 c512_i32
  let c0_i32_19 : BitVec 32 := 0#32
  let v70 : BitVec 1 := Scalar.cmpi .sgt v0 c0_i32_19
  let v71 : BitVec 32 := Scalar.extui v70
  let c0_i32_20 : BitVec 32 := 0#32
  let v72 : BitVec 1 := Scalar.cmpi .slt v0 c0_i32_20
  let v73 : BitVec 32 := Scalar.extui v72
  let v74 : BitVec 32 := Scalar.subi v71 v73
  let c512_i32_18 : BitVec 32 := 512#32
  let c0_i32_21 : BitVec 32 := 0#32
  let v75 : BitVec 1 := Scalar.cmpi .sgt c512_i32_18 c0_i32_21
  let v76 : BitVec 32 := Scalar.extui v75
  let c0_i32_22 : BitVec 32 := 0#32
  let v77 : BitVec 1 := Scalar.cmpi .slt c512_i32_18 c0_i32_22
  let v78 : BitVec 32 := Scalar.extui v77
  let v79 : BitVec 32 := Scalar.subi v76 v78
  let v80 : BitVec 1 := Scalar.cmpi .ne v74 v79
  let v81 : BitVec 32 := Scalar.remsi v0 c512_i32_18
  let c0_i32_23 : BitVec 32 := 0#32
  let v82 : BitVec 1 := Scalar.cmpi .ne v81 c0_i32_23
  let v83 : BitVec 1 := Scalar.andi v80 v82
  let v69 : BitVec 32 := Scalar.divsi v0 c512_i32_18
  let c1_i32_24 : BitVec 32 := 1#32
  let v84 : BitVec 32 := Scalar.subi v69 c1_i32_24
  let v85 : BitVec 32 := Scalar.select v83 v84 v69
  let v86 : BitVec 32 := Scalar.subi v85 c0_i32_26
  let c1_i32_27 : BitVec 32 := 1#32
  let v88 : BitVec 32 := Scalar.divsi v86 c1_i32_27
  let v89 : BitVec 32 := Scalar.muli v88 c1_i32_27
  let v90 : BitVec 32 := Scalar.addi c0_i32_26 v89
  let v87 : BitVec 32 := Scalar.addi c0_i32_26 v86
  let c1_i32_29 : BitVec 32 := 1#32
  ⟨v90, v87, c1_i32_29⟩
def k0_mult2 (i : grid0.Coords) (k0_t2 : Fin (k0_t2_loop i).trips) : BitVec 32 :=
  let c0_i32_26 : BitVec 32 := 0#32
  let arg2 : BitVec 32 := BitVec.ofNat 32 (i 2).val
  let c512_i32 : BitVec 32 := 512#32
  let v0 : BitVec 32 := Scalar.muli arg2 c512_i32
  let c0_i32_19 : BitVec 32 := 0#32
  let v70 : BitVec 1 := Scalar.cmpi .sgt v0 c0_i32_19
  let v71 : BitVec 32 := Scalar.extui v70
  let c0_i32_20 : BitVec 32 := 0#32
  let v72 : BitVec 1 := Scalar.cmpi .slt v0 c0_i32_20
  let v73 : BitVec 32 := Scalar.extui v72
  let v74 : BitVec 32 := Scalar.subi v71 v73
  let c512_i32_18 : BitVec 32 := 512#32
  let c0_i32_21 : BitVec 32 := 0#32
  let v75 : BitVec 1 := Scalar.cmpi .sgt c512_i32_18 c0_i32_21
  let v76 : BitVec 32 := Scalar.extui v75
  let c0_i32_22 : BitVec 32 := 0#32
  let v77 : BitVec 1 := Scalar.cmpi .slt c512_i32_18 c0_i32_22
  let v78 : BitVec 32 := Scalar.extui v77
  let v79 : BitVec 32 := Scalar.subi v76 v78
  let v80 : BitVec 1 := Scalar.cmpi .ne v74 v79
  let v81 : BitVec 32 := Scalar.remsi v0 c512_i32_18
  let c0_i32_23 : BitVec 32 := 0#32
  let v82 : BitVec 1 := Scalar.cmpi .ne v81 c0_i32_23
  let v83 : BitVec 1 := Scalar.andi v80 v82
  let v69 : BitVec 32 := Scalar.divsi v0 c512_i32_18
  let c1_i32_24 : BitVec 32 := 1#32
  let v84 : BitVec 32 := Scalar.subi v69 c1_i32_24
  let v85 : BitVec 32 := Scalar.select v83 v84 v69
  let v86 : BitVec 32 := Scalar.subi v85 c0_i32_26
  let c1_i32_27 : BitVec 32 := 1#32
  let v88 : BitVec 32 := Scalar.divsi v86 c1_i32_27
  let v89 : BitVec 32 := Scalar.muli v88 c1_i32_27
  let v90 : BitVec 32 := Scalar.addi c0_i32_26 v89
  let c1_i32_29 : BitVec 32 := 1#32
  let arg12 : BitVec 32 := Scf.iv v90 c1_i32_29 k0_t2
  let c512_i32_106 : BitVec 32 := 512#32
  let v259 : BitVec 32 := Scalar.muli arg12 c512_i32_106
  v259
def k0_off3 (i : grid0.Coords) (k0_t2 : Fin (k0_t2_loop i).trips) (c0_i32_107 : BitVec 32) : Fin 4 → Nat :=
  let c0_108 : Index := 0#32
  let c0_i32_26 : BitVec 32 := 0#32
  let arg2 : BitVec 32 := BitVec.ofNat 32 (i 2).val
  let c512_i32 : BitVec 32 := 512#32
  let v0 : BitVec 32 := Scalar.muli arg2 c512_i32
  let c0_i32_19 : BitVec 32 := 0#32
  let v70 : BitVec 1 := Scalar.cmpi .sgt v0 c0_i32_19
  let v71 : BitVec 32 := Scalar.extui v70
  let c0_i32_20 : BitVec 32 := 0#32
  let v72 : BitVec 1 := Scalar.cmpi .slt v0 c0_i32_20
  let v73 : BitVec 32 := Scalar.extui v72
  let v74 : BitVec 32 := Scalar.subi v71 v73
  let c512_i32_18 : BitVec 32 := 512#32
  let c0_i32_21 : BitVec 32 := 0#32
  let v75 : BitVec 1 := Scalar.cmpi .sgt c512_i32_18 c0_i32_21
  let v76 : BitVec 32 := Scalar.extui v75
  let c0_i32_22 : BitVec 32 := 0#32
  let v77 : BitVec 1 := Scalar.cmpi .slt c512_i32_18 c0_i32_22
  let v78 : BitVec 32 := Scalar.extui v77
  let v79 : BitVec 32 := Scalar.subi v76 v78
  let v80 : BitVec 1 := Scalar.cmpi .ne v74 v79
  let v81 : BitVec 32 := Scalar.remsi v0 c512_i32_18
  let c0_i32_23 : BitVec 32 := 0#32
  let v82 : BitVec 1 := Scalar.cmpi .ne v81 c0_i32_23
  let v83 : BitVec 1 := Scalar.andi v80 v82
  let v69 : BitVec 32 := Scalar.divsi v0 c512_i32_18
  let c1_i32_24 : BitVec 32 := 1#32
  let v84 : BitVec 32 := Scalar.subi v69 c1_i32_24
  let v85 : BitVec 32 := Scalar.select v83 v84 v69
  let v86 : BitVec 32 := Scalar.subi v85 c0_i32_26
  let c1_i32_27 : BitVec 32 := 1#32
  let v88 : BitVec 32 := Scalar.divsi v86 c1_i32_27
  let v89 : BitVec 32 := Scalar.muli v88 c1_i32_27
  let v90 : BitVec 32 := Scalar.addi c0_i32_26 v89
  let c1_i32_29 : BitVec 32 := 1#32
  let arg12 : BitVec 32 := Scf.iv v90 c1_i32_29 k0_t2
  let c4_i32 : BitVec 32 := 4#32
  let v258 : BitVec 32 := Scalar.muli arg12 c4_i32
  let v261 : BitVec 32 := Scalar.addi v258 c0_i32_107
  let v262 : Index := Scalar.indexCast v261
  let c0_109 : Index := 0#32
  let c0_110 : Index := 0#32
  ![0, v262.toNat, 0, 0]
def k0_off4 (i : grid0.Coords) (k0_t2 : Fin (k0_t2_loop i).trips) : Fin 4 → Nat :=
  let c0_142 : Index := 0#32
  let c0_143 : Index := 0#32
  let c0_144 : Index := 0#32
  let c0_i32_26 : BitVec 32 := 0#32
  let arg2 : BitVec 32 := BitVec.ofNat 32 (i 2).val
  let c512_i32 : BitVec 32 := 512#32
  let v0 : BitVec 32 := Scalar.muli arg2 c512_i32
  let c0_i32_19 : BitVec 32 := 0#32
  let v70 : BitVec 1 := Scalar.cmpi .sgt v0 c0_i32_19
  let v71 : BitVec 32 := Scalar.extui v70
  let c0_i32_20 : BitVec 32 := 0#32
  let v72 : BitVec 1 := Scalar.cmpi .slt v0 c0_i32_20
  let v73 : BitVec 32 := Scalar.extui v72
  let v74 : BitVec 32 := Scalar.subi v71 v73
  let c512_i32_18 : BitVec 32 := 512#32
  let c0_i32_21 : BitVec 32 := 0#32
  let v75 : BitVec 1 := Scalar.cmpi .sgt c512_i32_18 c0_i32_21
  let v76 : BitVec 32 := Scalar.extui v75
  let c0_i32_22 : BitVec 32 := 0#32
  let v77 : BitVec 1 := Scalar.cmpi .slt c512_i32_18 c0_i32_22
  let v78 : BitVec 32 := Scalar.extui v77
  let v79 : BitVec 32 := Scalar.subi v76 v78
  let v80 : BitVec 1 := Scalar.cmpi .ne v74 v79
  let v81 : BitVec 32 := Scalar.remsi v0 c512_i32_18
  let c0_i32_23 : BitVec 32 := 0#32
  let v82 : BitVec 1 := Scalar.cmpi .ne v81 c0_i32_23
  let v83 : BitVec 1 := Scalar.andi v80 v82
  let v69 : BitVec 32 := Scalar.divsi v0 c512_i32_18
  let c1_i32_24 : BitVec 32 := 1#32
  let v84 : BitVec 32 := Scalar.subi v69 c1_i32_24
  let v85 : BitVec 32 := Scalar.select v83 v84 v69
  let v86 : BitVec 32 := Scalar.subi v85 c0_i32_26
  let c1_i32_27 : BitVec 32 := 1#32
  let v88 : BitVec 32 := Scalar.divsi v86 c1_i32_27
  let v89 : BitVec 32 := Scalar.muli v88 c1_i32_27
  let v90 : BitVec 32 := Scalar.addi c0_i32_26 v89
  let c1_i32_29 : BitVec 32 := 1#32
  let arg12 : BitVec 32 := Scf.iv v90 c1_i32_29 k0_t2
  let c512_i32_106 : BitVec 32 := 512#32
  let v259 : BitVec 32 := Scalar.muli arg12 c512_i32_106
  let v260 : BitVec 32 := v259
  let v298 : Index := Scalar.indexCast v260
  ![0, 0, 0, v298.toNat]
def k0_mult3 (i : grid0.Coords) : BitVec 32 :=
  let arg2 : BitVec 32 := BitVec.ofNat 32 (i 2).val
  let c512_i32 : BitVec 32 := 512#32
  let v0 : BitVec 32 := Scalar.muli arg2 c512_i32
  let c0_i32_37 : BitVec 32 := 0#32
  let v109 : BitVec 32 := Scalar.addi v0 c0_i32_37
  v109
def k0_off5 (i : grid0.Coords) (c0_i32_38 : BitVec 32) : Fin 4 → Nat :=
  let c0_39 : Index := 0#32
  let arg2 : BitVec 32 := BitVec.ofNat 32 (i 2).val
  let c512_i32 : BitVec 32 := 512#32
  let v0 : BitVec 32 := Scalar.muli arg2 c512_i32
  let c0_i32_30 : BitVec 32 := 0#32
  let v91 : BitVec 32 := Scalar.addi v0 c0_i32_30
  let c0_i32_31 : BitVec 32 := 0#32
  let v93 : BitVec 1 := Scalar.cmpi .sgt v91 c0_i32_31
  let v94 : BitVec 32 := Scalar.extui v93
  let c0_i32_32 : BitVec 32 := 0#32
  let v95 : BitVec 1 := Scalar.cmpi .slt v91 c0_i32_32
  let v96 : BitVec 32 := Scalar.extui v95
  let v97 : BitVec 32 := Scalar.subi v94 v96
  let c128_i32 : BitVec 32 := 128#32
  let c0_i32_33 : BitVec 32 := 0#32
  let v98 : BitVec 1 := Scalar.cmpi .sgt c128_i32 c0_i32_33
  let v99 : BitVec 32 := Scalar.extui v98
  let c0_i32_34 : BitVec 32 := 0#32
  let v100 : BitVec 1 := Scalar.cmpi .slt c128_i32 c0_i32_34
  let v101 : BitVec 32 := Scalar.extui v100
  let v102 : BitVec 32 := Scalar.subi v99 v101
  let v103 : BitVec 1 := Scalar.cmpi .ne v97 v102
  let v104 : BitVec 32 := Scalar.remsi v91 c128_i32
  let c0_i32_35 : BitVec 32 := 0#32
  let v105 : BitVec 1 := Scalar.cmpi .ne v104 c0_i32_35
  let v106 : BitVec 1 := Scalar.andi v103 v105
  let v92 : BitVec 32 := Scalar.divsi v91 c128_i32
  let c1_i32_36 : BitVec 32 := 1#32
  let v107 : BitVec 32 := Scalar.subi v92 c1_i32_36
  let v108 : BitVec 32 := Scalar.select v106 v107 v92
  let v111 : BitVec 32 := Scalar.addi v108 c0_i32_38
  let v112 : Index := Scalar.indexCast v111
  let c0_40 : Index := 0#32
  let c0_41 : Index := 0#32
  ![0, v112.toNat, 0, 0]
def k0_off6 (i : grid0.Coords) : Fin 4 → Nat :=
  let c0_71 : Index := 0#32
  let c0_72 : Index := 0#32
  let c0_73 : Index := 0#32
  let arg2 : BitVec 32 := BitVec.ofNat 32 (i 2).val
  let c512_i32 : BitVec 32 := 512#32
  let v0 : BitVec 32 := Scalar.muli arg2 c512_i32
  let c0_i32_37 : BitVec 32 := 0#32
  let v109 : BitVec 32 := Scalar.addi v0 c0_i32_37
  let v110 : BitVec 32 := v109
  let v148 : Index := Scalar.indexCast v110
  ![0, 0, 0, v148.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x32x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x32x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | "neg_log2e" => some ((-((Real.log 2)⁻¹) : ℝ) : EReal)
  | "q_scale" => some (((1 / 8) * (Real.log 2)⁻¹ : ℝ) : EReal)
  | _ => none
-- ==== ReferenceIdeal.lean ====
abbrev S4x4096x12x64 : Shape := ⟨4, ![4, 4096, 12, 64]⟩
abbrev S4x4096x4x64 : Shape := ⟨4, ![4, 4096, 4, 64]⟩
abbrev S4x4096x12 : Shape := ⟨3, ![4, 4096, 12]⟩
abbrev S_ : Shape := ⟨0, ![]⟩
abbrev S4x4096x4x3 : Shape := ⟨4, ![4, 4096, 4, 3]⟩
abbrev S4x4x3x4096 : Shape := ⟨4, ![4, 4, 3, 4096]⟩
abbrev S4x4096x4x3x64 : Shape := ⟨5, ![4, 4096, 4, 3, 64]⟩
abbrev S4x4x4096x4096x3 : Shape := ⟨5, ![4, 4, 4096, 4096, 3]⟩
abbrev S4x4x3x4096x4096 : Shape := ⟨5, ![4, 4, 3, 4096, 4096]⟩
abbrev S4x4x3x4096x1 : Shape := ⟨5, ![4, 4, 3, 4096, 1]⟩
abbrev S4x4x3x1x4096 : Shape := ⟨5, ![4, 4, 3, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4x64x3x4096 : Shape := ⟨5, ![4, 4, 64, 3, 4096]⟩
abbrev S4x4096x3x4x64 : Shape := ⟨5, ![4, 4096, 3, 4, 64]⟩
abbrev S16384x768 : Shape := ⟨2, ![16384, 768]⟩

abbrev nBuf : Space → Nat
  | .hbm => 50
  | .vmem => 0
  | .smem => 0
  | _ => 0

abbrev bufTy : (tb : Table) → Fin (tcTables nBuf tb) → BufTy
  | .hbm, ⟨0, _⟩ => ⟨S4x4096x12x64, .f32⟩
  | .hbm, ⟨1, _⟩ => ⟨S4x4096x4x64, .f32⟩
  | .hbm, ⟨2, _⟩ => ⟨S4x4096x4x64, .f32⟩
  | .hbm, ⟨3, _⟩ => ⟨S4x4096x12, .f32⟩
  | .hbm, ⟨4, _⟩ => ⟨S_, .f32⟩
  | .hbm, ⟨5, _⟩ => ⟨S_, .f32⟩
  | .hbm, ⟨6, _⟩ => ⟨S4x4096x12, .f32⟩
  | .hbm, ⟨7, _⟩ => ⟨S4x4096x4x3, .f32⟩
  | .hbm, ⟨8, _⟩ => ⟨S4x4x3x4096, .f32⟩
  | .hbm, ⟨9, _⟩ => ⟨S4x4096x4x3x64, .f32⟩
  | .hbm, ⟨10, _⟩ => ⟨S4x4x4096x4096x3, .f32⟩
  | .hbm, ⟨11, _⟩ => ⟨S4x4x3x4096x4096, .f32⟩
  | .hbm, ⟨12, _⟩ => ⟨S_, .f32⟩
  | .hbm, ⟨13, _⟩ => ⟨S4x4x3x4096x4096, .f32⟩
  | .hbm, ⟨14, _⟩ => ⟨S4x4x3x4096x4096, .f32⟩
  | .hbm, ⟨15, _⟩ => ⟨S4x4x3x4096x1, .f32⟩
  | .hbm, ⟨16, _⟩ => ⟨S4x4x3x1x4096, .f32⟩
  | .hbm, ⟨17, _⟩ => ⟨S4x4x3x4096x4096, .f32⟩
  | .hbm, ⟨18, _⟩ => ⟨S4x4x3x4096x4096, .f32⟩
  | .hbm, ⟨19, _⟩ => ⟨S4x4x3x4096x4096, .f32⟩
  | .hbm, ⟨20, _⟩ => ⟨S4x4x3x4096x4096, .f32⟩
  | .hbm, ⟨21, _⟩ => ⟨S4096, .i32⟩
  | .hbm, ⟨22, _⟩ => ⟨S1x4096, .i32⟩
  | .hbm, ⟨23, _⟩ => ⟨S4096, .i32⟩
  | .hbm, ⟨24, _⟩ => ⟨S4096x1, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S_, .f32⟩
  | .hbm, ⟨29, _⟩ => ⟨S_, .f32⟩
  | .hbm, ⟨30, _⟩ => ⟨S4x4x3x4096x4096, .i1⟩
  | .hbm, ⟨31, _⟩ => ⟨S4x4x3x4096x4096, .f32⟩
  | .hbm, ⟨32, _⟩ => ⟨S4x4x3x4096x4096, .f32⟩
  | .hbm, ⟨33, _⟩ => ⟨S_, .f32⟩
  | .hbm, ⟨34, _⟩ => ⟨S4x4x3x4096, .f32⟩
  | .hbm, ⟨35, _⟩ => ⟨S_, .f32⟩
  | .hbm, ⟨36, _⟩ => ⟨S4x4x3x4096, .f32⟩
  | .hbm, ⟨37, _⟩ => ⟨S4x4x3x4096, .f32⟩
  | .hbm, ⟨38, _⟩ => ⟨S4x4x3x4096x1, .f32⟩
  | .hbm, ⟨39, _⟩ => ⟨S4x4x3x4096x4096, .f32⟩
  | .hbm, ⟨40, _⟩ => ⟨S4x4x3x4096x4096, .f32⟩
  | .hbm, ⟨41, _⟩ => ⟨S4x4x3x4096x4096, .f32⟩
  | .hbm, ⟨42, _⟩ => ⟨S_, .f32⟩
  | .hbm, ⟨43, _⟩ => ⟨S4x4x3x4096, .f32⟩
  | .hbm, ⟨44, _⟩ => ⟨S4x4x3x4096x1, .f32⟩
  | .hbm, ⟨45, _⟩ => ⟨S4x4x3x4096x4096, .f32⟩
  | .hbm, ⟨46, _⟩ => ⟨S4x4x3x4096x4096, .f32⟩
  | .hbm, ⟨47, _⟩ => ⟨S4x4x64x3x4096, .f32⟩
  | .hbm, ⟨48, _⟩ => ⟨S4x4096x3x4x64, .f32⟩
  | .hbm, ⟨49, _⟩ => ⟨S16384x768, .f32⟩
  | _, _ => ⟨S4x4096x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_cst : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Memkv.lean ====
abbrev S4x256x1024 : Shape := ⟨3, ![4, 256, 1024]⟩
abbrev S4x1024 : Shape := ⟨2, ![4, 1024]⟩
abbrev S4x1024x512 : Shape := ⟨3, ![4, 1024, 512]⟩
abbrev S4x1x1024 : Shape := ⟨3, ![4, 1, 1024]⟩
abbrev S4x4x256x256 : Shape := ⟨4, ![4, 4, 256, 256]⟩
abbrev S1x256x1024 : Shape := ⟨3, ![1, 256, 1024]⟩
abbrev S1x1x1024 : Shape := ⟨3, ![1, 1, 1024]⟩
abbrev S1x1024x512 : Shape := ⟨3, ![1, 1024, 512]⟩
abbrev S1x1x256x256 : Shape := ⟨4, ![1, 1, 256, 256]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩
abbrev S1024x512 : Shape := ⟨2, ![1024, 512]⟩
abbrev S256x512 : Shape := ⟨2, ![256, 512]⟩
abbrev S256x256 : Shape := ⟨2, ![256, 256]⟩

abbrev nBuf : Space → Nat
  | .hbm => 9
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x1024, .f32⟩
  | .hbm, ⟨2, _⟩ => ⟨S4x1024x512, .f32⟩
  | .hbm, ⟨3, _⟩ => ⟨S4x1024x512, .bf16⟩
  | .hbm, ⟨4, _⟩ => ⟨S4x1x1024, .f32⟩
  | .hbm, ⟨5, _⟩ => ⟨S4x4x256x256, .f32⟩
  | .hbm, ⟨6, _⟩ => ⟨S4x4x256x256, .f32⟩
  | .hbm, ⟨7, _⟩ => ⟨S4x4x256x256, .bf16⟩
  | .hbm, ⟨8, _⟩ => ⟨S4x4x256x256, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024x512, .bf16⟩
  | .local _ .vmem, ⟨5, _⟩ => ⟨S1x1024x512, .bf16⟩
  | .local _ .vmem, ⟨6, _⟩ => ⟨S1x1x256x256, .f32⟩
  | .local _ .vmem, ⟨7, _⟩ => ⟨S1x1x256x256, .f32⟩
  | .local _ .vmem, ⟨8, _⟩ => ⟨S1x1x256x256, .f32⟩
  | .local _ .vmem, ⟨9, _⟩ => ⟨S1x1x256x256, .f32⟩
  | .local _ .vmem, ⟨10, _⟩ => ⟨S1x1x256x256, .bf16⟩
  | .local _ .vmem, ⟨11, _⟩ => ⟨S1x1x256x256, .bf16⟩
  | .local _ .vmem, ⟨12, _⟩ => ⟨S1x1x256x256, .bf16⟩
  | .local _ .vmem, ⟨13, _⟩ => ⟨S1x1x256x256, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MemkvRefIdeal.lean ====
abbrev S4x256x1024 : Shape := ⟨3, ![4, 256, 1024]⟩
abbrev S4x1024 : Shape := ⟨2, ![4, 1024]⟩
abbrev S4x1024x512 : Shape := ⟨3, ![4, 1024, 512]⟩
abbrev S_ : Shape := ⟨0, ![]⟩
abbrev S4x256 : Shape := ⟨2, ![4, 256]⟩
abbrev S4x256x1 : Shape := ⟨3, ![4, 256, 1]⟩
abbrev S1x4x256x1024 : Shape := ⟨4, ![1, 4, 256, 1024]⟩
abbrev S4x1x1x1024 : Shape := ⟨4, ![4, 1, 1, 1024]⟩
abbrev S4x4x256x1024 : Shape := ⟨4, ![4, 4, 256, 1024]⟩
abbrev S4x512x4x256 : Shape := ⟨4, ![4, 512, 4, 256]⟩
abbrev S4x4x512x256 : Shape := ⟨4, ![4, 4, 512, 256]⟩
abbrev S4x4x256x256 : Shape := ⟨4, ![4, 4, 256, 256]⟩

abbrev nBuf : Space → Nat
  | .hbm => 27
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x1024, .f32⟩
  | .hbm, ⟨2, _⟩ => ⟨S4x1024x512, .f32⟩
  | .hbm, ⟨3, _⟩ => ⟨S4x256x1024, .f32⟩
  | .hbm, ⟨4, _⟩ => ⟨S_, .f32⟩
  | .hbm, ⟨5, _⟩ => ⟨S4x256, .f32⟩
  | .hbm, ⟨6, _⟩ => ⟨S4x256x1, .f32⟩
  | .hbm, ⟨7, _⟩ => ⟨S_, .f32⟩
  | .hbm, ⟨8, _⟩ => ⟨S4x256x1, .f32⟩
  | .hbm, ⟨9, _⟩ => ⟨S4x256x1, .f32⟩
  | .hbm, ⟨10, _⟩ => ⟨S_, .f32⟩
  | .hbm, ⟨11, _⟩ => ⟨S4x256x1, .f32⟩
  | .hbm, ⟨12, _⟩ => ⟨S4x256x1, .f32⟩
  | .hbm, ⟨13, _⟩ => ⟨S4x256x1, .f32⟩
  | .hbm, ⟨14, _⟩ => ⟨S4x256x1024, .f32⟩
  | .hbm, ⟨15, _⟩ => ⟨S4x256x1024, .f32⟩
  | .hbm, ⟨16, _⟩ => ⟨S1x4x256x1024, .f32⟩
  | .hbm, ⟨17, _⟩ => ⟨S4x1x1x1024, .f32⟩
  | .hbm, ⟨18, _⟩ => ⟨S4x4x256x1024, .f32⟩
  | .hbm, ⟨19, _⟩ => ⟨S4x4x256x1024, .f32⟩
  | .hbm, ⟨20, _⟩ => ⟨S4x4x256x1024, .f32⟩
  | .hbm, ⟨21, _⟩ => ⟨S4x512x4x256, .f32⟩
  | .hbm, ⟨22, _⟩ => ⟨S4x4x512x256, .f32⟩
  | .hbm, ⟨23, _⟩ => ⟨S4x4x256x256, .f32⟩
  | .hbm, ⟨24, _⟩ => ⟨S4x4x256x256, .f32⟩
  | .hbm, ⟨25, _⟩ => ⟨S4x4x256x256, .bf16⟩
  | .hbm, ⟨26, _⟩ => ⟨S4x4x256x256, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Out.lean ====
abbrev S16384x768 : Shape := ⟨2, ![16384, 768]⟩
abbrev S16384x256 : Shape := ⟨2, ![16384, 256]⟩
abbrev S16384x1024 : Shape := ⟨2, ![16384, 1024]⟩
abbrev S1024x1024 : Shape := ⟨2, ![1024, 1024]⟩
abbrev S1024 : Shape := ⟨1, ![1024]⟩
abbrev S768 : Shape := ⟨1, ![768]⟩
abbrev S768x1024 : Shape := ⟨2, ![768, 1024]⟩
abbrev S_ : Shape := ⟨0, ![]⟩
abbrev S768x1 : Shape := ⟨2, ![768, 1]⟩
abbrev S256x1024 : Shape := ⟨2, ![256, 1024]⟩
abbrev S1x1024 : Shape := ⟨2, ![1, 1024]⟩
abbrev S512x768 : Shape := ⟨2, ![512, 768]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩

abbrev nBuf : Space → Nat
  | .hbm => 21
  | .vmem => 14
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S16384x256, .f32⟩
  | .hbm, ⟨3, _⟩ => ⟨S16384x256, .f32⟩
  | .hbm, ⟨4, _⟩ => ⟨S16384x1024, .f32⟩
  | .hbm, ⟨5, _⟩ => ⟨S1024x1024, .f32⟩
  | .hbm, ⟨6, _⟩ => ⟨S1024, .f32⟩
  | .hbm, ⟨7, _⟩ => ⟨S768, .i32⟩
  | .hbm, ⟨8, _⟩ => ⟨S768, .i1⟩
  | .hbm, ⟨9, _⟩ => ⟨S768x1024, .f32⟩
  | .hbm, ⟨10, _⟩ => ⟨S_, .i32⟩
  | .hbm, ⟨11, _⟩ => ⟨S768, .i32⟩
  | .hbm, ⟨12, _⟩ => ⟨S768, .i32⟩
  | .hbm, ⟨13, _⟩ => ⟨S768, .i32⟩
  | .hbm, ⟨14, _⟩ => ⟨S768x1, .i32⟩
  | .hbm, ⟨15, _⟩ => ⟨S768x1024, .f32⟩
  | .hbm, ⟨16, _⟩ => ⟨S256x1024, .f32⟩
  | .hbm, ⟨17, _⟩ => ⟨S1024x1024, .f32⟩
  | .hbm, ⟨18, _⟩ => ⟨S1024x1024, .bf16⟩
  | .hbm, ⟨19, _⟩ => ⟨S1x1024, .f32⟩
  | .hbm, ⟨20, _⟩ => ⟨S16384x1024, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v0 : Ref sig .tc := ⟨.hbm, 9, rfl⟩
abbrev main_c_1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutRefIdeal.lean ====
abbrev S16384x768 : Shape := ⟨2, ![16384, 768]⟩
abbrev S16384x256 : Shape := ⟨2, ![16384, 256]⟩
abbrev S16384x1024 : Shape := ⟨2, ![16384, 1024]⟩
abbrev S1024x1024 : Shape := ⟨2, ![1024, 1024]⟩
abbrev S1024 : Shape := ⟨1, ![1024]⟩
abbrev S16384x3x4x64 : Shape := ⟨4, ![16384, 3, 4, 64]⟩
abbrev S16384x4x3x64 : Shape := ⟨4, ![16384, 4, 3, 64]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S16384x256, .f32⟩
  | .hbm, ⟨3, _⟩ => ⟨S16384x256, .f32⟩
  | .hbm, ⟨4, _⟩ => ⟨S16384x1024, .f32⟩
  | .hbm, ⟨5, _⟩ => ⟨S1024x1024, .f32⟩
  | .hbm, ⟨6, _⟩ => ⟨S1024, .f32⟩
  | .hbm, ⟨7, _⟩ => ⟨S16384x3x4x64, .f32⟩
  | .hbm, ⟨8, _⟩ => ⟨S16384x4x3x64, .f32⟩
  | .hbm, ⟨9, _⟩ => ⟨S16384x768, .f32⟩
  | .hbm, ⟨10, _⟩ => ⟨S16384x3x4x64, .f32⟩
  | .hbm, ⟨11, _⟩ => ⟨S16384x4x3x64, .f32⟩
  | .hbm, ⟨12, _⟩ => ⟨S16384x768, .f32⟩
  | .hbm, ⟨13, _⟩ => ⟨S16384x768, .f32⟩
  | .hbm, ⟨14, _⟩ => ⟨S16384x256, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S16384x1024, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== In.lean ====
abbrev S16384x1024 : Shape := ⟨2, ![16384, 1024]⟩
abbrev S1024 : Shape := ⟨1, ![1024]⟩
abbrev S1024x2572 : Shape := ⟨2, ![1024, 2572]⟩
abbrev S12 : Shape := ⟨1, ![12]⟩
abbrev S768 : Shape := ⟨1, ![768]⟩
abbrev S1024x768 : Shape := ⟨2, ![1024, 768]⟩
abbrev S_ : Shape := ⟨0, ![]⟩
abbrev S768x1 : Shape := ⟨2, ![768, 1]⟩
abbrev S1024x256 : Shape := ⟨2, ![1024, 256]⟩
abbrev S1024x12 : Shape := ⟨2, ![1024, 12]⟩
abbrev S1024x128 : Shape := ⟨2, ![1024, 128]⟩
abbrev S1024x2688 : Shape := ⟨2, ![1024, 2688]⟩
abbrev S1024x4x3 : Shape := ⟨3, ![1024, 4, 3]⟩
abbrev S1024x3x4 : Shape := ⟨3, ![1024, 3, 4]⟩
abbrev S1024x3x8 : Shape := ⟨3, ![1024, 3, 8]⟩
abbrev S1024x24 : Shape := ⟨2, ![1024, 24]⟩
abbrev S24x1024 : Shape := ⟨2, ![24, 1024]⟩
abbrev S4x3 : Shape := ⟨2, ![4, 3]⟩
abbrev S3x4 : Shape := ⟨2, ![3, 4]⟩
abbrev S3x8 : Shape := ⟨2, ![3, 8]⟩
abbrev S24 : Shape := ⟨1, ![24]⟩
abbrev S24x1 : Shape := ⟨2, ![24, 1]⟩
abbrev S512x512 : Shape := ⟨2, ![512, 512]⟩
abbrev S512x1024 : Shape := ⟨2, ![512, 1024]⟩
abbrev S1x1024 : Shape := ⟨2, ![1, 1024]⟩
abbrev S16384x768 : Shape := ⟨2, ![16384, 768]⟩
abbrev S4x256x4096 : Shape := ⟨3, ![4, 256, 4096]⟩
abbrev S16384x256 : Shape := ⟨2, ![16384, 256]⟩
abbrev S4x32x256x128 : Shape := ⟨4, ![4, 32, 256, 128]⟩
abbrev S4x3x8x4096 : Shape := ⟨4, ![4, 3, 8, 4096]⟩
abbrev S512x768 : Shape := ⟨2, ![512, 768]⟩
abbrev S1x256x512 : Shape := ⟨3, ![1, 256, 512]⟩
abbrev S512x256 : Shape := ⟨2, ![512, 256]⟩
abbrev S1x4x256x128 : Shape := ⟨4, ![1, 4, 256, 128]⟩
abbrev S1x3x8x512 : Shape := ⟨4, ![1, 3, 8, 512]⟩
abbrev S24x512 : Shape := ⟨2, ![24, 512]⟩
abbrev S512 : Shape := ⟨1, ![512]⟩
abbrev S512x1 : Shape := ⟨2, ![512, 1]⟩
abbrev S256x512 : Shape := ⟨2, ![256, 512]⟩
abbrev S256x128 : Shape := ⟨2, ![256, 128]⟩
abbrev S1x1x256x128 : Shape := ⟨4, ![1, 1, 256, 128]⟩
abbrev S3x8x512 : Shape := ⟨3, ![3, 8, 512]⟩

abbrev nBuf : Space → Nat
  | .hbm => 77
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2572, .f32⟩
  | .hbm, ⟨3, _⟩ => ⟨S12, .f32⟩
  | .hbm, ⟨4, _⟩ => ⟨S768, .i32⟩
  | .hbm, ⟨5, _⟩ => ⟨S768, .i1⟩
  | .hbm, ⟨6, _⟩ => ⟨S768, .i1⟩
  | .hbm, ⟨7, _⟩ => ⟨S1024x768, .f32⟩
  | .hbm, ⟨8, _⟩ => ⟨S_, .i32⟩
  | .hbm, ⟨9, _⟩ => ⟨S768, .i32⟩
  | .hbm, ⟨10, _⟩ => ⟨S768, .i32⟩
  | .hbm, ⟨11, _⟩ => ⟨S768, .i32⟩
  | .hbm, ⟨12, _⟩ => ⟨S768x1, .i32⟩
  | .hbm, ⟨13, _⟩ => ⟨S1024x768, .f32⟩
  | .hbm, ⟨14, _⟩ => ⟨S_, .f32⟩
  | .hbm, ⟨15, _⟩ => ⟨S1024x768, .f32⟩
  | .hbm, ⟨16, _⟩ => ⟨S1024x768, .f32⟩
  | .hbm, ⟨17, _⟩ => ⟨S1024x256, .f32⟩
  | .hbm, ⟨18, _⟩ => ⟨S1024x256, .f32⟩
  | .hbm, ⟨19, _⟩ => ⟨S1024x768, .f32⟩
  | .hbm, ⟨20, _⟩ => ⟨S_, .i32⟩
  | .hbm, ⟨21, _⟩ => ⟨S768, .i32⟩
  | .hbm, ⟨22, _⟩ => ⟨S768, .i32⟩
  | .hbm, ⟨23, _⟩ => ⟨S768, .i32⟩
  | .hbm, ⟨24, _⟩ => ⟨S768x1, .i32⟩
  | .hbm, ⟨25, _⟩ => ⟨S1024x768, .f32⟩
  | .hbm, ⟨26, _⟩ => ⟨S1024x256, .f32⟩
  | .hbm, ⟨27, _⟩ => ⟨S_, .f32⟩
  | .hbm, ⟨28, _⟩ => ⟨S1024x256, .f32⟩
  | .hbm, ⟨29, _⟩ => ⟨S1024x256, .f32⟩
  | .hbm, ⟨30, _⟩ => ⟨S1024x256, .f32⟩
  | .hbm, ⟨31, _⟩ => ⟨S1024x12, .f32⟩
  | .hbm, ⟨32, _⟩ => ⟨S_, .i32⟩
  | .hbm, ⟨33, _⟩ => ⟨S_, .f32⟩
  | .hbm, ⟨34, _⟩ => ⟨S1024x128, .f32⟩
  | .hbm, ⟨35, _⟩ => ⟨S1024x2688, .f32⟩
  | .hbm, ⟨36, _⟩ => ⟨S1024x2688, .bf16⟩
  | .hbm, ⟨37, _⟩ => ⟨S1024x12, .f32⟩
  | .hbm, ⟨38, _⟩ => ⟨S1024x4x3, .f32⟩
  | .hbm, ⟨39, _⟩ => ⟨S1024x3x4, .f32⟩
  | .hbm, ⟨40, _⟩ => ⟨S_, .i32⟩
  | .hbm, ⟨41, _⟩ => ⟨S_, .f32⟩
  | .hbm, ⟨42, _⟩ => ⟨S1024x3x8, .f32⟩
  | .hbm, ⟨43, _⟩ => ⟨S1024x24, .f32⟩
  | .hbm, ⟨44, _⟩ => ⟨S24x1024, .f32⟩
  | .hbm, ⟨45, _⟩ => ⟨S24x1024, .bf16⟩
  | .hbm, ⟨46, _⟩ => ⟨S4x3, .f32⟩
  | .hbm, ⟨47, _⟩ => ⟨S3x4, .f32⟩
  | .hbm, ⟨48, _⟩ => ⟨S_, .i32⟩
  | .hbm, ⟨49, _⟩ => ⟨S_, .f32⟩
  | .hbm, ⟨50, _⟩ => ⟨S3x8, .f32⟩
  | .hbm, ⟨51, _⟩ => ⟨S24, .f32⟩
  | .hbm, ⟨52, _⟩ => ⟨S24x1, .f32⟩
  | .hbm, ⟨53, _⟩ => ⟨S512x512, .i32⟩
  | .hbm, ⟨54, _⟩ => ⟨S512x512, .i32⟩
  | .hbm, ⟨55, _⟩ => ⟨S512x512, .i1⟩
  | .hbm, ⟨56, _⟩ => ⟨S_, .f32⟩
  | .hbm, ⟨57, _⟩ => ⟨S_, .f32⟩
  | .hbm, ⟨58, _⟩ => ⟨S512x512, .f32⟩
  | .hbm, ⟨59, _⟩ => ⟨S512x512, .f32⟩
  | .hbm, ⟨60, _⟩ => ⟨S512x512, .f32⟩
  | .hbm, ⟨61, _⟩ => ⟨S_, .f32⟩
  | .hbm, ⟨62, _⟩ => ⟨S512x512, .f32⟩
  | .hbm, ⟨63, _⟩ => ⟨S512x512, .f32⟩
  | .hbm, ⟨64, _⟩ => ⟨S512x1024, .f32⟩
  | .hbm, ⟨65, _⟩ => ⟨S512x1024, .bf16⟩
  | .hbm, ⟨66, _⟩ => ⟨S1x1024, .f32⟩
  | .hbm, ⟨67, _⟩ => ⟨S16384x768, .bf16⟩
  | .hbm, ⟨68, _⟩ => ⟨S4x256x4096, .f32⟩
  | .hbm, ⟨69, _⟩ => ⟨S4x256x4096, .f32⟩
  | .hbm, ⟨70, _⟩ => ⟨S16384x768, .f32⟩
  | .hbm, ⟨71, _⟩ => ⟨S16384x256, .bf16⟩
  | .hbm, ⟨72, _⟩ => ⟨S16384x256, .f32⟩
  | .hbm, ⟨73, _⟩ => ⟨S4x32x256x128, .bf16⟩
  | .hbm, ⟨74, _⟩ => ⟨S4x32x256x128, .bf16⟩
  | .hbm, ⟨75, _⟩ => ⟨S4x3x8x4096, .f32⟩
  | .hbm, ⟨76, _⟩ => ⟨S4x3x8x4096, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2688, .bf16⟩
  | .local _ .vmem, ⟨4, _⟩ => ⟨S24x1024, .bf16⟩
  | .local _ .vmem, ⟨5, _⟩ => ⟨S24x1, .f32⟩
  | .local _ .vmem, ⟨6, _⟩ => ⟨S512x1024, .bf16⟩
  | .local _ .vmem, ⟨7, _⟩ => ⟨S512x768, .bf16⟩
  | .local _ .vmem, ⟨8, _⟩ => ⟨S512x768, .bf16⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S512x768, .f32⟩
  | .local _ .vmem, ⟨14, _⟩ => ⟨S512x768, .f32⟩
  | .local _ .vmem, ⟨15, _⟩ => ⟨S512x256, .bf16⟩
  | .local _ .vmem, ⟨16, _⟩ => ⟨S512x256, .bf16⟩
  | .local _ .vmem, ⟨17, _⟩ => ⟨S512x256, .f32⟩
  | .local _ .vmem, ⟨18, _⟩ => ⟨S512x256, .f32⟩
  | .local _ .vmem, ⟨19, _⟩ => ⟨S1x4x256x128, .bf16⟩
  | .local _ .vmem, ⟨20, _⟩ => ⟨S1x4x256x128, .bf16⟩
  | .local _ .vmem, ⟨21, _⟩ => ⟨S1x4x256x128, .bf16⟩
  | .local _ .vmem, ⟨22, _⟩ => ⟨S1x4x256x128, .bf16⟩
  | .local _ .vmem, ⟨23, _⟩ => ⟨S1x3x8x512, .f32⟩
  | .local _ .vmem, ⟨24, _⟩ => ⟨S1x3x8x512, .f32⟩
  | .local _ .vmem, ⟨25, _⟩ => ⟨S1x3x8x512, .f32⟩
  | .local _ .vmem, ⟨26, _⟩ => ⟨S1x3x8x512, .f32⟩
  | .local _ .vmem, ⟨27, _⟩ => ⟨S24x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_c_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_call0_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_call1_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_call2_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_cst_9 : Ref sig .tc := ⟨.hbm, 57, rfl⟩
abbrev main_call3_v0 : Ref sig .tc := ⟨.hbm, 58, rfl⟩
abbrev main_call3_v1 : Ref sig .tc := ⟨.hbm, 59, rfl⟩
abbrev main_v39 : Ref sig .tc := ⟨.hbm, 60, rfl⟩
abbrev main_cst_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45_0 : Ref sig .tc := ⟨.hbm, 67, rfl⟩
abbrev main_v45_1 : Ref sig .tc := ⟨.hbm, 68, rfl⟩
abbrev main_v45_2 : Ref sig .tc := ⟨.hbm, 69, rfl⟩
abbrev main_v45_3 : Ref sig .tc := ⟨.hbm, 70, rfl⟩
abbrev main_v45_4 : Ref sig .tc := ⟨.hbm, 71, rfl⟩
abbrev main_v45_5 : Ref sig .tc := ⟨.hbm, 72, rfl⟩
abbrev main_v45_6 : Ref sig .tc := ⟨.hbm, 73, rfl⟩
abbrev main_v45_7 : Ref sig .tc := ⟨.hbm, 74, rfl⟩
abbrev main_v45_8 : Ref sig .tc := ⟨.hbm, 75, rfl⟩
abbrev main_v45_9 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_13 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_14 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_15 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S24x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x4x256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x3x8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x3x8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== InRefIdeal.lean ====
abbrev S16384x1024 : Shape := ⟨2, ![16384, 1024]⟩
abbrev S1024 : Shape := ⟨1, ![1024]⟩
abbrev S1024x2572 : Shape := ⟨2, ![1024, 2572]⟩
abbrev S12 : Shape := ⟨1, ![12]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2572 : Shape := ⟨2, ![16384, 2572]⟩
abbrev S16384x768 : Shape := ⟨2, ![16384, 768]⟩
abbrev S16384x256 : Shape := ⟨2, ![16384, 256]⟩
abbrev S16384x12 : Shape := ⟨2, ![16384, 12]⟩
abbrev S1x12 : Shape := ⟨2, ![1, 12]⟩
abbrev S4x4096x4x3 : Shape := ⟨4, ![4, 4096, 4, 3]⟩
abbrev S4x3x4x4096 : Shape := ⟨4, ![4, 3, 4, 4096]⟩
abbrev S4x3x8x4096 : Shape := ⟨4, ![4, 3, 8, 4096]⟩
abbrev S16384x4x3x64 : Shape := ⟨4, ![16384, 4, 3, 64]⟩
abbrev S16384x3x4x64 : Shape := ⟨4, ![16384, 3, 4, 64]⟩
abbrev S4x4096x256 : Shape := ⟨3, ![4, 4096, 256]⟩
abbrev S4x256x4096 : Shape := ⟨3, ![4, 256, 4096]⟩
abbrev S4x32x128x256 : Shape := ⟨4, ![4, 32, 128, 256]⟩
abbrev S4x32x256x128 : Shape := ⟨4, ![4, 32, 256, 128]⟩

abbrev nBuf : Space → Nat
  | .hbm => 94
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2572, .f32⟩
  | .hbm, ⟨3, _⟩ => ⟨S12, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x2572, .f32⟩
  | .hbm, ⟨21, _⟩ => ⟨S16384x768, .f32⟩
  | .hbm, ⟨22, _⟩ => ⟨S16384x256, .f32⟩
  | .hbm, ⟨23, _⟩ => ⟨S16384x256, .f32⟩
  | .hbm, ⟨24, _⟩ => ⟨S16384x768, .f32⟩
  | .hbm, ⟨25, _⟩ => ⟨S16384x256, .f32⟩
  | .hbm, ⟨26, _⟩ => ⟨S16384x256, .f32⟩
  | .hbm, ⟨27, _⟩ => ⟨S16384x12, .f32⟩
  | .hbm, ⟨28, _⟩ => ⟨S1x12, .f32⟩
  | .hbm, ⟨29, _⟩ => ⟨S16384x12, .f32⟩
  | .hbm, ⟨30, _⟩ => ⟨S16384x12, .f32⟩
  | .hbm, ⟨31, _⟩ => ⟨S4x4096x4x3, .f32⟩
  | .hbm, ⟨32, _⟩ => ⟨S4x3x4x4096, .f32⟩
  | .hbm, ⟨33, _⟩ => ⟨S_, .i32⟩
  | .hbm, ⟨34, _⟩ => ⟨S_, .f32⟩
  | .hbm, ⟨35, _⟩ => ⟨S4x3x8x4096, .f32⟩
  | .hbm, ⟨36, _⟩ => ⟨S4x3x8x4096, .f32⟩
  | .hbm, ⟨37, _⟩ => ⟨S_, .f32⟩
  | .hbm, ⟨38, _⟩ => ⟨S4x3x8x4096, .f32⟩
  | .hbm, ⟨39, _⟩ => ⟨S4x3x8x4096, .f32⟩
  | .hbm, ⟨40, _⟩ => ⟨S4x3x8x4096, .f32⟩
  | .hbm, ⟨41, _⟩ => ⟨S4x3x8x4096, .f32⟩
  | .hbm, ⟨42, _⟩ => ⟨S4x3x8x4096, .i1⟩
  | .hbm, ⟨43, _⟩ => ⟨S4x3x8x4096, .f32⟩
  | .hbm, ⟨44, _⟩ => ⟨S4x3x8x4096, .f32⟩
  | .hbm, ⟨45, _⟩ => ⟨S4x3x8x4096, .f32⟩
  | .hbm, ⟨46, _⟩ => ⟨S4x3x8x4096, .f32⟩
  | .hbm, ⟨47, _⟩ => ⟨S4x3x8x4096, .f32⟩
  | .hbm, ⟨48, _⟩ => ⟨S4x3x8x4096, .f32⟩
  | .hbm, ⟨49, _⟩ => ⟨S4x3x8x4096, .f32⟩
  | .hbm, ⟨50, _⟩ => ⟨S4x3x8x4096, .f32⟩
  | .hbm, ⟨51, _⟩ => ⟨S4x3x8x4096, .f32⟩
  | .hbm, ⟨52, _⟩ => ⟨S_, .f32⟩
  | .hbm, ⟨53, _⟩ => ⟨S16384x768, .f32⟩
  | .hbm, ⟨54, _⟩ => ⟨S16384x768, .f32⟩
  | .hbm, ⟨55, _⟩ => ⟨S16384x4x3x64, .f32⟩
  | .hbm, ⟨56, _⟩ => ⟨S16384x3x4x64, .f32⟩
  | .hbm, ⟨57, _⟩ => ⟨S16384x768, .f32⟩
  | .hbm, ⟨58, _⟩ => ⟨S16384x768, .bf16⟩
  | .hbm, ⟨59, _⟩ => ⟨S4x4096x256, .f32⟩
  | .hbm, ⟨60, _⟩ => ⟨S4x256x4096, .f32⟩
  | .hbm, ⟨61, _⟩ => ⟨S4x4096x256, .f32⟩
  | .hbm, ⟨62, _⟩ => ⟨S4x256x4096, .f32⟩
  | .hbm, ⟨63, _⟩ => ⟨S16384x768, .f32⟩
  | .hbm, ⟨64, _⟩ => ⟨S16384x768, .f32⟩
  | .hbm, ⟨65, _⟩ => ⟨S_, .f32⟩
  | .hbm, ⟨66, _⟩ => ⟨S16384x768, .f32⟩
  | .hbm, ⟨67, _⟩ => ⟨S16384x768, .f32⟩
  | .hbm, ⟨68, _⟩ => ⟨S_, .f32⟩
  | .hbm, ⟨69, _⟩ => ⟨S16384x768, .f32⟩
  | .hbm, ⟨70, _⟩ => ⟨S16384x768, .f32⟩
  | .hbm, ⟨71, _⟩ => ⟨S16384x768, .f32⟩
  | .hbm, ⟨72, _⟩ => ⟨S16384x4x3x64, .f32⟩
  | .hbm, ⟨73, _⟩ => ⟨S16384x3x4x64, .f32⟩
  | .hbm, ⟨74, _⟩ => ⟨S16384x768, .f32⟩
  | .hbm, ⟨75, _⟩ => ⟨S_, .f32⟩
  | .hbm, ⟨76, _⟩ => ⟨S16384x256, .f32⟩
  | .hbm, ⟨77, _⟩ => ⟨S16384x256, .f32⟩
  | .hbm, ⟨78, _⟩ => ⟨S16384x256, .bf16⟩
  | .hbm, ⟨79, _⟩ => ⟨S16384x256, .f32⟩
  | .hbm, ⟨80, _⟩ => ⟨S16384x256, .f32⟩
  | .hbm, ⟨81, _⟩ => ⟨S_, .f32⟩
  | .hbm, ⟨82, _⟩ => ⟨S16384x256, .f32⟩
  | .hbm, ⟨83, _⟩ => ⟨S16384x256, .f32⟩
  | .hbm, ⟨84, _⟩ => ⟨S_, .f32⟩
  | .hbm, ⟨85, _⟩ => ⟨S16384x256, .f32⟩
  | .hbm, ⟨86, _⟩ => ⟨S16384x256, .f32⟩
  | .hbm, ⟨87, _⟩ => ⟨S16384x256, .f32⟩
  | .hbm, ⟨88, _⟩ => ⟨S4x32x128x256, .f32⟩
  | .hbm, ⟨89, _⟩ => ⟨S4x32x256x128, .f32⟩
  | .hbm, ⟨90, _⟩ => ⟨S4x32x256x128, .bf16⟩
  | .hbm, ⟨91, _⟩ => ⟨S4x32x128x256, .f32⟩
  | .hbm, ⟨92, _⟩ => ⟨S4x32x256x128, .f32⟩
  | .hbm, ⟨93, _⟩ => ⟨S4x32x256x128, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c : Ref sig .tc := ⟨.hbm, 33, rfl⟩
abbrev main_call0_v0 : Ref sig .tc := ⟨.hbm, 34, rfl⟩
abbrev main_v26 : Ref sig .tc := ⟨.hbm, 35, rfl⟩
abbrev main_call1_v0 : Ref sig .tc := ⟨.hbm, 36, rfl⟩
abbrev main_call1_call0_cst : Ref sig .tc := ⟨.hbm, 37, rfl⟩
abbrev main_call1_call0_v0 : Ref sig .tc := ⟨.hbm, 38, rfl⟩
abbrev main_call1_call0_v1 : Ref sig .tc := ⟨.hbm, 39, rfl⟩
abbrev main_call1_call0_v2 : Ref sig .tc := ⟨.hbm, 40, rfl⟩
abbrev main_call1_call0_v3 : Ref sig .tc := ⟨.hbm, 41, rfl⟩
abbrev main_call1_call0_v4 : Ref sig .tc := ⟨.hbm, 42, rfl⟩
abbrev main_call1_call0_v5 : Ref sig .tc := ⟨.hbm, 43, rfl⟩
abbrev main_call1_call0_v6 : Ref sig .tc := ⟨.hbm, 44, rfl⟩
abbrev main_call1_call0_v7 : Ref sig .tc := ⟨.hbm, 45, rfl⟩
abbrev main_call1_call0_v8 : Ref sig .tc := ⟨.hbm, 46, rfl⟩
abbrev main_call1_call0_v9 : Ref sig .tc := ⟨.hbm, 47, rfl⟩
abbrev main_call1_call0_v10 : Ref sig .tc := ⟨.hbm, 48, rfl⟩
abbrev main_call1_call0_v11 : Ref sig .tc := ⟨.hbm, 49, rfl⟩
abbrev main_call1_v1 : Ref sig .tc := ⟨.hbm, 50, rfl⟩
abbrev main_v27 : Ref sig .tc := ⟨.hbm, 51, rfl⟩
abbrev main_cst_2 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_call2_v0 : Ref sig .tc := ⟨.hbm, 63, rfl⟩
abbrev main_call2_v1 : Ref sig .tc := ⟨.hbm, 64, rfl⟩
abbrev main_call2_cst : Ref sig .tc := ⟨.hbm, 65, rfl⟩
abbrev main_call2_v2 : Ref sig .tc := ⟨.hbm, 66, rfl⟩
abbrev main_call2_v3 : Ref sig .tc := ⟨.hbm, 67, rfl⟩
abbrev main_call2_cst_0 : Ref sig .tc := ⟨.hbm, 68, rfl⟩
abbrev main_call2_v4 : Ref sig .tc := ⟨.hbm, 69, rfl⟩
abbrev main_call2_v5 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_3 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_call3_v0 : Ref sig .tc := ⟨.hbm, 79, rfl⟩
abbrev main_call3_v1 : Ref sig .tc := ⟨.hbm, 80, rfl⟩
abbrev main_call3_cst : Ref sig .tc := ⟨.hbm, 81, rfl⟩
abbrev main_call3_v2 : Ref sig .tc := ⟨.hbm, 82, rfl⟩
abbrev main_call3_v3 : Ref sig .tc := ⟨.hbm, 83, rfl⟩
abbrev main_call3_cst_0 : Ref sig .tc := ⟨.hbm, 84, rfl⟩
abbrev main_call3_v4 : Ref sig .tc := ⟨.hbm, 85, rfl⟩
abbrev main_call3_v5 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩

abbrev nD : Nat := 1
abbrev τ : Topo := Topo.v7x

variable {F : FTy → Type} [FloatOps F]
-- ==== SwaIn.lean ====
abbrev S16384x1024 : Shape := ⟨2, ![16384, 1024]⟩
abbrev S1024 : Shape := ⟨1, ![1024]⟩
abbrev S1024x2560 : Shape := ⟨2, ![1024, 2560]⟩
abbrev S768 : Shape := ⟨1, ![768]⟩
abbrev S1024x768 : Shape := ⟨2, ![1024, 768]⟩
abbrev S_ : Shape := ⟨0, ![]⟩
abbrev S768x1 : Shape := ⟨2, ![768, 1]⟩
abbrev S1024x256 : Shape := ⟨2, ![1024, 256]⟩
abbrev S1024x128 : Shape := ⟨2, ![1024, 128]⟩
abbrev S1024x2688 : Shape := ⟨2, ![1024, 2688]⟩
abbrev S4096 : Shape := ⟨1, ![4096]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S4096x56 : Shape := ⟨2, ![4096, 56]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x1024 : Shape := ⟨2, ![1, 1024]⟩
abbrev S16384x768 : Shape := ⟨2, ![16384, 768]⟩
abbrev S4x256x4096 : Shape := ⟨3, ![4, 256, 4096]⟩
abbrev S16384x256 : Shape := ⟨2, ![16384, 256]⟩
abbrev S4x32x256x128 : Shape := ⟨4, ![4, 32, 256, 128]⟩
abbrev S512x1024 : Shape := ⟨2, ![512, 1024]⟩
abbrev S512x128 : Shape := ⟨2, ![512, 128]⟩
abbrev S512x768 : Shape := ⟨2, ![512, 768]⟩
abbrev S1x256x512 : Shape := ⟨3, ![1, 256, 512]⟩
abbrev S512x256 : Shape := ⟨2, ![512, 256]⟩
abbrev S1x4x256x128 : Shape := ⟨4, ![1, 4, 256, 128]⟩
abbrev S512 : Shape := ⟨1, ![512]⟩
abbrev S512x1 : Shape := ⟨2, ![512, 1]⟩
abbrev S256x512 : Shape := ⟨2, ![256, 512]⟩
abbrev S256x128 : Shape := ⟨2, ![256, 128]⟩
abbrev S1x1x256x128 : Shape := ⟨4, ![1, 1, 256, 128]⟩

abbrev nBuf : Space → Nat
  | .hbm => 87
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2560, .f32⟩
  | .hbm, ⟨3, _⟩ => ⟨S768, .i32⟩
  | .hbm, ⟨4, _⟩ => ⟨S768, .i1⟩
  | .hbm, ⟨5, _⟩ => ⟨S768, .i1⟩
  | .hbm, ⟨6, _⟩ => ⟨S1024x768, .f32⟩
  | .hbm, ⟨7, _⟩ => ⟨S_, .i32⟩
  | .hbm, ⟨8, _⟩ => ⟨S768, .i32⟩
  | .hbm, ⟨9, _⟩ => ⟨S768, .i32⟩
  | .hbm, ⟨10, _⟩ => ⟨S768, .i32⟩
  | .hbm, ⟨11, _⟩ => ⟨S768x1, .i32⟩
  | .hbm, ⟨12, _⟩ => ⟨S1024x768, .f32⟩
  | .hbm, ⟨13, _⟩ => ⟨S_, .f32⟩
  | .hbm, ⟨14, _⟩ => ⟨S1024x768, .f32⟩
  | .hbm, ⟨15, _⟩ => ⟨S1024x768, .f32⟩
  | .hbm, ⟨16, _⟩ => ⟨S1024x256, .f32⟩
  | .hbm, ⟨17, _⟩ => ⟨S1024x256, .f32⟩
  | .hbm, ⟨18, _⟩ => ⟨S1024x768, .f32⟩
  | .hbm, ⟨19, _⟩ => ⟨S_, .i32⟩
  | .hbm, ⟨20, _⟩ => ⟨S768, .i32⟩
  | .hbm, ⟨21, _⟩ => ⟨S768, .i32⟩
  | .hbm, ⟨22, _⟩ => ⟨S768, .i32⟩
  | .hbm, ⟨23, _⟩ => ⟨S768x1, .i32⟩
  | .hbm, ⟨24, _⟩ => ⟨S1024x768, .f32⟩
  | .hbm, ⟨25, _⟩ => ⟨S1024x256, .f32⟩
  | .hbm, ⟨26, _⟩ => ⟨S_, .f32⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x128, .f32⟩
  | .hbm, ⟨32, _⟩ => ⟨S1024x2688, .f32⟩
  | .hbm, ⟨33, _⟩ => ⟨S1024x2688, .bf16⟩
  | .hbm, ⟨34, _⟩ => ⟨S4096, .i32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S4096, .f32⟩
  | .hbm, ⟨50, _⟩ => ⟨S4096x1, .f32⟩
  | .hbm, ⟨51, _⟩ => ⟨S1x8, .f32⟩
  | .hbm, ⟨52, _⟩ => ⟨S4096x8, .f32⟩
  | .hbm, ⟨53, _⟩ => ⟨S4096x8, .f32⟩
  | .hbm, ⟨54, _⟩ => ⟨S4096x8, .f32⟩
  | .hbm, ⟨55, _⟩ => ⟨S4096x8, .f32⟩
  | .hbm, ⟨56, _⟩ => ⟨S4096x8, .f32⟩
  | .hbm, ⟨57, _⟩ => ⟨S_, .f32⟩
  | .hbm, ⟨58, _⟩ => ⟨S4096x48, .f32⟩
  | .hbm, ⟨59, _⟩ => ⟨S4096x64, .f32⟩
  | .hbm, ⟨60, _⟩ => ⟨S_, .f32⟩
  | .hbm, ⟨61, _⟩ => ⟨S4096x8, .f32⟩
  | .hbm, ⟨62, _⟩ => ⟨S_, .f32⟩
  | .hbm, ⟨63, _⟩ => ⟨S4096x48, .f32⟩
  | .hbm, ⟨64, _⟩ => ⟨S4096x64, .f32⟩
  | .hbm, ⟨65, _⟩ => ⟨S4096x8, .f32⟩
  | .hbm, ⟨66, _⟩ => ⟨S_, .f32⟩
  | .hbm, ⟨67, _⟩ => ⟨S4096x56, .f32⟩
  | .hbm, ⟨68, _⟩ => ⟨S4096x64, .f32⟩
  | .hbm, ⟨69, _⟩ => ⟨S1x4096x1x64, .f32⟩
  | .hbm, ⟨70, _⟩ => ⟨S1x4096x2x64, .f32⟩
  | .hbm, ⟨71, _⟩ => ⟨S4096x128, .f32⟩
  | .hbm, ⟨72, _⟩ => ⟨S1x4096x1x64, .f32⟩
  | .hbm, ⟨73, _⟩ => ⟨S1x4096x2x64, .f32⟩
  | .hbm, ⟨74, _⟩ => ⟨S4096x128, .f32⟩
  | .hbm, ⟨75, _⟩ => ⟨S1x4096x1x64, .f32⟩
  | .hbm, ⟨76, _⟩ => ⟨S1x4096x2x64, .f32⟩
  | .hbm, ⟨77, _⟩ => ⟨S4096x128, .f32⟩
  | .hbm, ⟨78, _⟩ => ⟨S1x1024, .f32⟩
  | .hbm, ⟨79, _⟩ => ⟨S16384x768, .bf16⟩
  | .hbm, ⟨80, _⟩ => ⟨S4x256x4096, .f32⟩
  | .hbm, ⟨81, _⟩ => ⟨S4x256x4096, .f32⟩
  | .hbm, ⟨82, _⟩ => ⟨S16384x768, .f32⟩
  | .hbm, ⟨83, _⟩ => ⟨S16384x256, .bf16⟩
  | .hbm, ⟨84, _⟩ => ⟨S16384x256, .f32⟩
  | .hbm, ⟨85, _⟩ => ⟨S4x32x256x128, .bf16⟩
  | .hbm, ⟨86, _⟩ => ⟨S4x32x256x128, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2688, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x768, .bf16⟩
  | .local _ .vmem, ⟨11, _⟩ => ⟨S512x768, .bf16⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S512x768, .f32⟩
  | .local _ .vmem, ⟨17, _⟩ => ⟨S512x768, .f32⟩
  | .local _ .vmem, ⟨18, _⟩ => ⟨S512x256, .bf16⟩
  | .local _ .vmem, ⟨19, _⟩ => ⟨S512x256, .bf16⟩
  | .local _ .vmem, ⟨20, _⟩ => ⟨S512x256, .f32⟩
  | .local _ .vmem, ⟨21, _⟩ => ⟨S512x256, .f32⟩
  | .local _ .vmem, ⟨22, _⟩ => ⟨S1x4x256x128, .bf16⟩
  | .local _ .vmem, ⟨23, _⟩ => ⟨S1x4x256x128, .bf16⟩
  | .local _ .vmem, ⟨24, _⟩ => ⟨S1x4x256x128, .bf16⟩
  | .local _ .vmem, ⟨25, _⟩ => ⟨S1x4x256x128, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v0 : Ref sig .tc := ⟨.hbm, 6, rfl⟩
abbrev main_c_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_cst_11 : Ref sig .tc := ⟨.hbm, 60, rfl⟩
abbrev main_v44 : Ref sig .tc := ⟨.hbm, 61, rfl⟩
abbrev main_cst_12 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_13 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60_0 : Ref sig .tc := ⟨.hbm, 79, rfl⟩
abbrev main_v60_1 : Ref sig .tc := ⟨.hbm, 80, rfl⟩
abbrev main_v60_2 : Ref sig .tc := ⟨.hbm, 81, rfl⟩
abbrev main_v60_3 : Ref sig .tc := ⟨.hbm, 82, rfl⟩
abbrev main_v60_4 : Ref sig .tc := ⟨.hbm, 83, rfl⟩
abbrev main_v60_5 : Ref sig .tc := ⟨.hbm, 84, rfl⟩
abbrev main_v60_6 : Ref sig .tc := ⟨.hbm, 85, rfl⟩
abbrev main_v60_7 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_13 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x4x256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== SwaInRefIdeal.lean ====
abbrev S16384x1024 : Shape := ⟨2, ![16384, 1024]⟩
abbrev S1024 : Shape := ⟨1, ![1024]⟩
abbrev S1024x2560 : Shape := ⟨2, ![1024, 2560]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2560 : Shape := ⟨2, ![16384, 2560]⟩
abbrev S16384x768 : Shape := ⟨2, ![16384, 768]⟩
abbrev S16384x256 : Shape := ⟨2, ![16384, 256]⟩
abbrev S4096 : Shape := ⟨1, ![4096]⟩
abbrev S4x4096x12x64 : Shape := ⟨4, ![4, 4096, 12, 64]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4x4096x12x8 : Shape := ⟨4, ![4, 4096, 12, 8]⟩
abbrev S1x4096x1x8 : Shape := ⟨4, ![1, 4096, 1, 8]⟩
abbrev S4x4096x12x48 : Shape := ⟨4, ![4, 4096, 12, 48]⟩
abbrev S4x4096x4x64 : Shape := ⟨4, ![4, 4096, 4, 64]⟩
abbrev S4x4096x4x8 : Shape := ⟨4, ![4, 4096, 4, 8]⟩
abbrev S4x4096x4x48 : Shape := ⟨4, ![4, 4096, 4, 48]⟩
abbrev S16384x4x3x64 : Shape := ⟨4, ![16384, 4, 3, 64]⟩
abbrev S16384x3x4x64 : Shape := ⟨4, ![16384, 3, 4, 64]⟩
abbrev S4x4096x256 : Shape := ⟨3, ![4, 4096, 256]⟩
abbrev S4x256x4096 : Shape := ⟨3, ![4, 256, 4096]⟩
abbrev S4x32x128x256 : Shape := ⟨4, ![4, 32, 128, 256]⟩
abbrev S4x32x256x128 : Shape := ⟨4, ![4, 32, 256, 128]⟩

abbrev nBuf : Space → Nat
  | .hbm => 155
  | .vmem => 0
  | .smem => 0
  | _ => 0

abbrev hbmTy0_0 (i : Nat) : BufTy := match i % 128 with
  | 0 => ⟨S16384x1024, .f32⟩
  | 1 => ⟨S1024, .f32⟩
  | 2 => ⟨S1024x2560, .f32⟩
  | 3 => ⟨S16384x1024, .f32⟩
  | 4 => ⟨S_, .f32⟩
  | 5 => ⟨S16384, .f32⟩
  | 6 => ⟨S16384x1, .f32⟩
  | 7 => ⟨S_, .f32⟩
  | 8 => ⟨S16384x1, .f32⟩
  | 9 => ⟨S16384x1, .f32⟩
  | 10 => ⟨S_, .f32⟩
  | 11 => ⟨S16384x1, .f32⟩
  | 12 => ⟨S16384x1, .f32⟩
  | 13 => ⟨S16384x1, .f32⟩
  | 14 => ⟨S16384x1024, .f32⟩
  | 15 => ⟨S16384x1024, .f32⟩
  | 16 => ⟨S1x1024, .f32⟩
  | 17 => ⟨S16384x1024, .f32⟩
  | 18 => ⟨S16384x1024, .f32⟩
  | 19 => ⟨S16384x2560, .f32⟩
  | 20 => ⟨S16384x768, .f32⟩
  | 21 => ⟨S16384x256, .f32⟩
  | 22 => ⟨S16384x256, .f32⟩
  | 23 => ⟨S16384x768, .f32⟩
  | 24 => ⟨S16384x256, .f32⟩
  | 25 => ⟨S16384x256, .f32⟩
  | 26 => ⟨S4096, .i32⟩
  | 27 => ⟨S_, .f32⟩
  | 28 => ⟨S16384x768, .f32⟩
  | 29 => ⟨S16384x768, .f32⟩
  | 30 => ⟨S4x4096x12x64, .f32⟩
  | 31 => ⟨S8, .f32⟩
  | 32 => ⟨S_, .f32⟩
  | 33 => ⟨S8, .f32⟩
  | 34 => ⟨S8, .f32⟩
  | 35 => ⟨S_, .f32⟩
  | 36 => ⟨S8, .f32⟩
  | 37 => ⟨S8, .f32⟩
  | 38 => ⟨S8, .f32⟩
  | 39 => ⟨S_, .f32⟩
  | 40 => ⟨S8, .f32⟩
  | 41 => ⟨S8, .f32⟩
  | 42 => ⟨S_, .f32⟩
  | 43 => ⟨S8, .f32⟩
  | 44 => ⟨S8, .f32⟩
  | 45 => ⟨S4096, .f32⟩
  | 46 => ⟨S4096x1, .f32⟩
  | 47 => ⟨S1x8, .f32⟩
  | 48 => ⟨S4096x8, .f32⟩
  | 49 => ⟨S4096x8, .f32⟩
  | 50 => ⟨S4096x8, .f32⟩
  | 51 => ⟨S4096x8, .f32⟩
  | 52 => ⟨S4096x1x8, .f32⟩
  | 53 => ⟨S4096x8, .f32⟩
  | 54 => ⟨S4096x1x8, .f32⟩
  | 55 => ⟨S4x4096x12x8, .f32⟩
  | 56 => ⟨S4x4096x12x8, .f32⟩
  | 57 => ⟨S1x4096x1x8, .f32⟩
  | 58 => ⟨S4x4096x12x8, .f32⟩
  | 59 => ⟨S4x4096x12x8, .f32⟩
  | 60 => ⟨S1x4096x1x8, .f32⟩
  | 61 => ⟨S4x4096x12x8, .f32⟩
  | 62 => ⟨S4x4096x12x8, .f32⟩
  | 63 => ⟨S4x4096x12x8, .f32⟩
  | 64 => ⟨S1x4096x1x8, .f32⟩
  | 65 => ⟨S4x4096x12x8, .f32⟩
  | 66 => ⟨S4x4096x12x8, .f32⟩
  | 67 => ⟨S1x4096x1x8, .f32⟩
  | 68 => ⟨S4x4096x12x8, .f32⟩
  | 69 => ⟨S4x4096x12x8, .f32⟩
  | 70 => ⟨S4x4096x12x8, .f32⟩
  | 71 => ⟨S4x4096x12x48, .f32⟩
  | 72 => ⟨S4x4096x12x64, .f32⟩
  | 73 => ⟨S4x4096x4x64, .f32⟩
  | 74 => ⟨S8, .f32⟩
  | 75 => ⟨S_, .f32⟩
  | 76 => ⟨S8, .f32⟩
  | 77 => ⟨S8, .f32⟩
  | 78 => ⟨S_, .f32⟩
  | 79 => ⟨S8, .f32⟩
  | 80 => ⟨S8, .f32⟩
  | 81 => ⟨S8, .f32⟩
  | 82 => ⟨S_, .f32⟩
  | 83 => ⟨S8, .f32⟩
  | 84 => ⟨S8, .f32⟩
  | 85 => ⟨S_, .f32⟩
  | 86 => ⟨S8, .f32⟩
  | 87 => ⟨S8, .f32⟩
  | 88 => ⟨S4096, .f32⟩
  | 89 => ⟨S4096x1, .f32⟩
  | 90 => ⟨S1x8, .f32⟩
  | 91 => ⟨S4096x8, .f32⟩
  | 92 => ⟨S4096x8, .f32⟩
  | 93 => ⟨S4096x8, .f32⟩
  | 94 => ⟨S4096x8, .f32⟩
  | 95 => ⟨S4096x1x8, .f32⟩
  | 96 => ⟨S4096x8, .f32⟩
  | 97 => ⟨S4096x1x8, .f32⟩
  | 98 => ⟨S4x4096x4x8, .f32⟩
  | 99 => ⟨S4x4096x4x8, .f32⟩
  | 100 => ⟨S1x4096x1x8, .f32⟩
  | 101 => ⟨S4x4096x4x8, .f32⟩
  | 102 => ⟨S4x4096x4x8, .f32⟩
  | 103 => ⟨S1x4096x1x8, .f32⟩
  | 104 => ⟨S4x4096x4x8, .f32⟩
  | 105 => ⟨S4x4096x4x8, .f32⟩
  | 106 => ⟨S4x4096x4x8, .f32⟩
  | 107 => ⟨S1x4096x1x8, .f32⟩
  | 108 => ⟨S4x4096x4x8, .f32⟩
  | 109 => ⟨S4x4096x4x8, .f32⟩
  | 110 => ⟨S1x4096x1x8, .f32⟩
  | 111 => ⟨S4x4096x4x8, .f32⟩
  | 112 => ⟨S4x4096x4x8, .f32⟩
  | 113 => ⟨S4x4096x4x8, .f32⟩
  | 114 => ⟨S4x4096x4x48, .f32⟩
  | 115 => ⟨S4x4096x4x64, .f32⟩
  | 116 => ⟨S16384x4x3x64, .f32⟩
  | 117 => ⟨S16384x3x4x64, .f32⟩
  | 118 => ⟨S16384x768, .f32⟩
  | 119 => ⟨S16384x768, .bf16⟩
  | 120 => ⟨S4x4096x256, .f32⟩
  | 121 => ⟨S4x256x4096, .f32⟩
  | 122 => ⟨S4x4096x256, .f32⟩
  | 123 => ⟨S4x256x4096, .f32⟩
  | 124 => ⟨S16384x768, .f32⟩
  | 125 => ⟨S16384x768, .f32⟩
  | 126 => ⟨S_, .f32⟩
  | 127 => ⟨S16384x768, .f32⟩
  | _ => ⟨S16384x1024, .f32⟩

abbrev hbmTy0_1 (i : Nat) : BufTy := match i % 128 with
  | 0 => ⟨S16384x768, .f32⟩
  | 1 => ⟨S_, .f32⟩
  | 2 => ⟨S16384x768, .f32⟩
  | 3 => ⟨S16384x768, .f32⟩
  | 4 => ⟨S16384x768, .f32⟩
  | 5 => ⟨S16384x4x3x64, .f32⟩
  | 6 => ⟨S16384x3x4x64, .f32⟩
  | 7 => ⟨S16384x768, .f32⟩
  | 8 => ⟨S_, .f32⟩
  | 9 => ⟨S16384x256, .f32⟩
  | 10 => ⟨S16384x256, .f32⟩
  | 11 => ⟨S16384x256, .bf16⟩
  | 12 => ⟨S16384x256, .f32⟩
  | 13 => ⟨S16384x256, .f32⟩
  | 14 => ⟨S_, .f32⟩
  | 15 => ⟨S16384x256, .f32⟩
  | 16 => ⟨S16384x256, .f32⟩
  | 17 => ⟨S_, .f32⟩
  | 18 => ⟨S16384x256, .f32⟩
  | 19 => ⟨S16384x256, .f32⟩
  | 20 => ⟨S16384x256, .f32⟩
  | 21 => ⟨S4x32x128x256, .f32⟩
  | 22 => ⟨S4x32x256x128, .f32⟩
  | 23 => ⟨S4x32x256x128, .bf16⟩
  | 24 => ⟨S4x32x128x256, .f32⟩
  | 25 => ⟨S4x32x256x128, .f32⟩
  | 26 => ⟨S4x32x256x128, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_cst_7 : Ref sig .tc := ⟨.hbm, 75, rfl⟩
abbrev main_v64 : Ref sig .tc := ⟨.hbm, 76, rfl⟩
abbrev main_v65 : Ref sig .tc := ⟨.hbm, 77, rfl⟩
abbrev main_cst_8 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_cst_9 : Ref sig .tc := ⟨.hbm, 82, rfl⟩
abbrev main_v69 : Ref sig .tc := ⟨.hbm, 83, rfl⟩
abbrev main_v70 : Ref sig .tc := ⟨.hbm, 84, rfl⟩
abbrev main_cst_10 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_call0_v0 : Ref sig .tc := ⟨.hbm, 124, rfl⟩
abbrev main_call0_v1 : Ref sig .tc := ⟨.hbm, 125, rfl⟩
abbrev main_call0_cst : Ref sig .tc := ⟨.hbm, 126, rfl⟩
abbrev main_call0_v2 : Ref sig .tc := ⟨.hbm, 127, rfl⟩
abbrev main_call0_v3 : Ref sig .tc := ⟨.hbm, 128, rfl⟩
abbrev main_call0_cst_0 : Ref sig .tc := ⟨.hbm, 129, rfl⟩
abbrev main_call0_v4 : Ref sig .tc := ⟨.hbm, 130, rfl⟩
abbrev main_call0_v5 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_cst_11 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_call1_v0 : Ref sig .tc := ⟨.hbm, 140, rfl⟩
abbrev main_call1_v1 : Ref sig .tc := ⟨.hbm, 141, rfl⟩
abbrev main_call1_cst : Ref sig .tc := ⟨.hbm, 142, rfl⟩
abbrev main_call1_v2 : Ref sig .tc := ⟨.hbm, 143, rfl⟩
abbrev main_call1_v3 : Ref sig .tc := ⟨.hbm, 144, rfl⟩
abbrev main_call1_cst_0 : Ref sig .tc := ⟨.hbm, 145, rfl⟩
abbrev main_call1_v4 : Ref sig .tc := ⟨.hbm, 146, rfl⟩
abbrev main_call1_v5 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩

abbrev nD : Nat := 1
abbrev τ : Topo := Topo.v7x

variable {F : FTy → Type} [FloatOps F]
-- ==== OutS.lean ====
abbrev S128x768 : Shape := ⟨2, ![128, 768]⟩
abbrev S128x256 : Shape := ⟨2, ![128, 256]⟩
abbrev S128x1024 : Shape := ⟨2, ![128, 1024]⟩
abbrev S1024x1024 : Shape := ⟨2, ![1024, 1024]⟩
abbrev S1024 : Shape := ⟨1, ![1024]⟩
abbrev S768 : Shape := ⟨1, ![768]⟩
abbrev S768x1024 : Shape := ⟨2, ![768, 1024]⟩
abbrev S_ : Shape := ⟨0, ![]⟩
abbrev S768x1 : Shape := ⟨2, ![768, 1]⟩
abbrev S256x1024 : Shape := ⟨2, ![256, 1024]⟩
abbrev S1x1024 : Shape := ⟨2, ![1, 1024]⟩
abbrev S128 : Shape := ⟨1, ![128]⟩
abbrev S128x1 : Shape := ⟨2, ![128, 1]⟩

abbrev nBuf : Space → Nat
  | .hbm => 21
  | .vmem => 8
  | .smem => 0
  | _ => 0

abbrev bufTy : (tb : Table) → Fin (tcTables nBuf tb) → BufTy
  | .hbm, ⟨0, _⟩ => ⟨S128x768, .f32⟩
  | .hbm, ⟨1, _⟩ => ⟨S128x768, .f32⟩
  | .hbm, ⟨2, _⟩ => ⟨S128x256, .f32⟩
  | .hbm, ⟨3, _⟩ => ⟨S128x256, .f32⟩
  | .hbm, ⟨4, _⟩ => ⟨S128x1024, .f32⟩
  | .hbm, ⟨5, _⟩ => ⟨S1024x1024, .f32⟩
  | .hbm, ⟨6, _⟩ => ⟨S1024, .f32⟩
  | .hbm, ⟨7, _⟩ => ⟨S768, .i32⟩
  | .hbm, ⟨8, _⟩ => ⟨S768, .i1⟩
  | .hbm, ⟨9, _⟩ => ⟨S768x1024, .f32⟩
  | .hbm, ⟨10, _⟩ => ⟨S_, .i32⟩
  | .hbm, ⟨11, _⟩ => ⟨S768, .i32⟩
  | .hbm, ⟨12, _⟩ => ⟨S768, .i32⟩
  | .hbm, ⟨13, _⟩ => ⟨S768, .i32⟩
  | .hbm, ⟨14, _⟩ => ⟨S768x1, .i32⟩
  | .hbm, ⟨15, _⟩ => ⟨S768x1024, .f32⟩
  | .hbm, ⟨16, _⟩ => ⟨S256x1024, .f32⟩
  | .hbm, ⟨17, _⟩ => ⟨S1024x1024, .f32⟩
  | .hbm, ⟨18, _⟩ => ⟨S1024x1024, .bf16⟩
  | .hbm, ⟨19, _⟩ => ⟨S1x1024, .f32⟩
  | .hbm, ⟨20, _⟩ => ⟨S128x1024, .f32⟩
  | .local _ .vmem, ⟨0, _⟩ => ⟨S128x768, .f32⟩
  | .local _ .vmem, ⟨1, _⟩ => ⟨S128x768, .f32⟩
  | .local _ .vmem, ⟨2, _⟩ => ⟨S128x256, .f32⟩
  | .local _ .vmem, ⟨3, _⟩ => ⟨S128x256, .f32⟩
  | .local _ .vmem, ⟨4, _⟩ => ⟨S128x1024, .f32⟩
  | .local _ .vmem, ⟨5, _⟩ => ⟨S1024x1024, .bf16⟩
  | .local _ .vmem, ⟨6, _⟩ => ⟨S1x1024, .f32⟩
  | .local _ .vmem, ⟨7, _⟩ => ⟨S128x1024, .f32⟩
  | _, _ => ⟨S128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v0 : Ref sig .tc := ⟨.hbm, 9, rfl⟩
abbrev main_c_1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== OutSRefIdeal.lean ====
abbrev S128x768 : Shape := ⟨2, ![128, 768]⟩
abbrev S128x256 : Shape := ⟨2, ![128, 256]⟩
abbrev S128x1024 : Shape := ⟨2, ![128, 1024]⟩
abbrev S1024x1024 : Shape := ⟨2, ![1024, 1024]⟩
abbrev S1024 : Shape := ⟨1, ![1024]⟩
abbrev S128x3x4x64 : Shape := ⟨4, ![128, 3, 4, 64]⟩
abbrev S128x4x3x64 : Shape := ⟨4, ![128, 4, 3, 64]⟩
abbrev S_ : Shape := ⟨0, ![]⟩
abbrev S128 : Shape := ⟨1, ![128]⟩
abbrev S128x1 : Shape := ⟨2, ![128, 1]⟩
abbrev S1x1024 : Shape := ⟨2, ![1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S128x768, .f32⟩
  | .hbm, ⟨1, _⟩ => ⟨S128x768, .f32⟩
  | .hbm, ⟨2, _⟩ => ⟨S128x256, .f32⟩
  | .hbm, ⟨3, _⟩ => ⟨S128x256, .f32⟩
  | .hbm, ⟨4, _⟩ => ⟨S128x1024, .f32⟩
  | .hbm, ⟨5, _⟩ => ⟨S1024x1024, .f32⟩
  | .hbm, ⟨6, _⟩ => ⟨S1024, .f32⟩
  | .hbm, ⟨7, _⟩ => ⟨S128x3x4x64, .f32⟩
  | .hbm, ⟨8, _⟩ => ⟨S128x4x3x64, .f32⟩
  | .hbm, ⟨9, _⟩ => ⟨S128x768, .f32⟩
  | .hbm, ⟨10, _⟩ => ⟨S128x3x4x64, .f32⟩
  | .hbm, ⟨11, _⟩ => ⟨S128x4x3x64, .f32⟩
  | .hbm, ⟨12, _⟩ => ⟨S128x768, .f32⟩
  | .hbm, ⟨13, _⟩ => ⟨S128x768, .f32⟩
  | .hbm, ⟨14, _⟩ => ⟨S128x256, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128, .f32⟩
  | .hbm, ⟨20, _⟩ => ⟨S128x1, .f32⟩
  | .hbm, ⟨21, _⟩ => ⟨S_, .f32⟩
  | .hbm, ⟨22, _⟩ => ⟨S128x1, .f32⟩
  | .hbm, ⟨23, _⟩ => ⟨S128x1, .f32⟩
  | .hbm, ⟨24, _⟩ => ⟨S_, .f32⟩
  | .hbm, ⟨25, _⟩ => ⟨S128x1, .f32⟩
  | .hbm, ⟨26, _⟩ => ⟨S128x1, .f32⟩
  | .hbm, ⟨27, _⟩ => ⟨S128x1, .f32⟩
  | .hbm, ⟨28, _⟩ => ⟨S128x1024, .f32⟩
  | .hbm, ⟨29, _⟩ => ⟨S128x1024, .f32⟩
  | .hbm, ⟨30, _⟩ => ⟨S1x1024, .f32⟩
  | .hbm, ⟨31, _⟩ => ⟨S128x1024, .f32⟩
  | .hbm, ⟨32, _⟩ => ⟨S128x1024, .f32⟩
  | .hbm, ⟨33, _⟩ => ⟨S128x1024, .f32⟩
  | _, _ => ⟨S128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== InS.lean ====
abbrev S128x1024 : Shape := ⟨2, ![128, 1024]⟩
abbrev S1024 : Shape := ⟨1, ![1024]⟩
abbrev S1024x2572 : Shape := ⟨2, ![1024, 2572]⟩
abbrev S12 : Shape := ⟨1, ![12]⟩
abbrev S768 : Shape := ⟨1, ![768]⟩
abbrev S1024x768 : Shape := ⟨2, ![1024, 768]⟩
abbrev S_ : Shape := ⟨0, ![]⟩
abbrev S768x1 : Shape := ⟨2, ![768, 1]⟩
abbrev S1024x256 : Shape := ⟨2, ![1024, 256]⟩
abbrev S1024x12 : Shape := ⟨2, ![1024, 12]⟩
abbrev S1024x128 : Shape := ⟨2, ![1024, 128]⟩
abbrev S1024x2688 : Shape := ⟨2, ![1024, 2688]⟩
abbrev S128 : Shape := ⟨1, ![128]⟩
abbrev S1x128 : Shape := ⟨2, ![1, 128]⟩
abbrev S1x1024 : Shape := ⟨2, ![1, 1024]⟩
abbrev S128x768 : Shape := ⟨2, ![128, 768]⟩
abbrev S1x256x128 : Shape := ⟨3, ![1, 256, 128]⟩
abbrev S128x256 : Shape := ⟨2, ![128, 256]⟩
abbrev S128x128 : Shape := ⟨2, ![128, 128]⟩
abbrev S128x1 : Shape := ⟨2, ![128, 1]⟩
abbrev S256x128 : Shape := ⟨2, ![256, 128]⟩

abbrev nBuf : Space → Nat
  | .hbm => 51
  | .vmem => 13
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x2572, .f32⟩
  | .hbm, ⟨3, _⟩ => ⟨S12, .f32⟩
  | .hbm, ⟨4, _⟩ => ⟨S768, .i32⟩
  | .hbm, ⟨5, _⟩ => ⟨S768, .i1⟩
  | .hbm, ⟨6, _⟩ => ⟨S768, .i1⟩
  | .hbm, ⟨7, _⟩ => ⟨S1024x768, .f32⟩
  | .hbm, ⟨8, _⟩ => ⟨S_, .i32⟩
  | .hbm, ⟨9, _⟩ => ⟨S768, .i32⟩
  | .hbm, ⟨10, _⟩ => ⟨S768, .i32⟩
  | .hbm, ⟨11, _⟩ => ⟨S768, .i32⟩
  | .hbm, ⟨12, _⟩ => ⟨S768x1, .i32⟩
  | .hbm, ⟨13, _⟩ => ⟨S1024x768, .f32⟩
  | .hbm, ⟨14, _⟩ => ⟨S_, .f32⟩
  | .hbm, ⟨15, _⟩ => ⟨S1024x768, .f32⟩
  | .hbm, ⟨16, _⟩ => ⟨S1024x768, .f32⟩
  | .hbm, ⟨17, _⟩ => ⟨S1024x256, .f32⟩
  | .hbm, ⟨18, _⟩ => ⟨S1024x256, .f32⟩
  | .hbm, ⟨19, _⟩ => ⟨S1024x768, .f32⟩
  | .hbm, ⟨20, _⟩ => ⟨S_, .i32⟩
  | .hbm, ⟨21, _⟩ => ⟨S768, .i32⟩
  | .hbm, ⟨22, _⟩ => ⟨S768, .i32⟩
  | .hbm, ⟨23, _⟩ => ⟨S768, .i32⟩
  | .hbm, ⟨24, _⟩ => ⟨S768x1, .i32⟩
  | .hbm, ⟨25, _⟩ => ⟨S1024x768, .f32⟩
  | .hbm, ⟨26, _⟩ => ⟨S1024x256, .f32⟩
  | .hbm, ⟨27, _⟩ => ⟨S_, .f32⟩
  | .hbm, ⟨28, _⟩ => ⟨S1024x256, .f32⟩
  | .hbm, ⟨29, _⟩ => ⟨S1024x256, .f32⟩
  | .hbm, ⟨30, _⟩ => ⟨S1024x256, .f32⟩
  | .hbm, ⟨31, _⟩ => ⟨S1024x12, .f32⟩
  | .hbm, ⟨32, _⟩ => ⟨S_, .i32⟩
  | .hbm, ⟨33, _⟩ => ⟨S_, .f32⟩
  | .hbm, ⟨34, _⟩ => ⟨S1024x128, .f32⟩
  | .hbm, ⟨35, _⟩ => ⟨S1024x2688, .f32⟩
  | .hbm, ⟨36, _⟩ => ⟨S1024x2688, .bf16⟩
  | .hbm, ⟨37, _⟩ => ⟨S_, .i32⟩
  | .hbm, ⟨38, _⟩ => ⟨S_, .f32⟩
  | .hbm, ⟨39, _⟩ => ⟨S128, .f32⟩
  | .hbm, ⟨40, _⟩ => ⟨S1x128, .f32⟩
  | .hbm, ⟨41, _⟩ => ⟨S1x1024, .f32⟩
  | .hbm, ⟨42, _⟩ => ⟨S128x768, .f32⟩
  | .hbm, ⟨43, _⟩ => ⟨S1x256x128, .f32⟩
  | .hbm, ⟨44, _⟩ => ⟨S1x256x128, .f32⟩
  | .hbm, ⟨45, _⟩ => ⟨S128x768, .f32⟩
  | .hbm, ⟨46, _⟩ => ⟨S128x256, .f32⟩
  | .hbm, ⟨47, _⟩ => ⟨S128x256, .f32⟩
  | .hbm, ⟨48, _⟩ => ⟨S128x256, .f32⟩
  | .hbm, ⟨49, _⟩ => ⟨S128x256, .f32⟩
  | .hbm, ⟨50, _⟩ => ⟨S128x128, .f32⟩
  | .local _ .vmem, ⟨0, _⟩ => ⟨S128x1024, .f32⟩
  | .local _ .vmem, ⟨1, _⟩ => ⟨S1x1024, .f32⟩
  | .local _ .vmem, ⟨2, _⟩ => ⟨S1024x2688, .bf16⟩
  | .local _ .vmem, ⟨3, _⟩ => ⟨S1x128, .f32⟩
  | .local _ .vmem, ⟨4, _⟩ => ⟨S128x768, .f32⟩
  | .local _ .vmem, ⟨5, _⟩ => ⟨S1x256x128, .f32⟩
  | .local _ .vmem, ⟨6, _⟩ => ⟨S1x256x128, .f32⟩
  | .local _ .vmem, ⟨7, _⟩ => ⟨S128x768, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_c_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_call0_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_call1_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27_0 : Ref sig .tc := ⟨.hbm, 42, rfl⟩
abbrev main_v27_1 : Ref sig .tc := ⟨.hbm, 43, rfl⟩
abbrev main_v27_2 : Ref sig .tc := ⟨.hbm, 44, rfl⟩
abbrev main_v27_3 : Ref sig .tc := ⟨.hbm, 45, rfl⟩
abbrev main_v27_4 : Ref sig .tc := ⟨.hbm, 46, rfl⟩
abbrev main_v27_5 : Ref sig .tc := ⟨.hbm, 47, rfl⟩
abbrev main_v27_6 : Ref sig .tc := ⟨.hbm, 48, rfl⟩
abbrev main_v27_7 : Ref sig .tc := ⟨.hbm, 49, rfl⟩
abbrev main_v27_8 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_6 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== InSRefIdeal.lean ====
abbrev S128x1024 : Shape := ⟨2, ![128, 1024]⟩
abbrev S1024 : Shape := ⟨1, ![1024]⟩
abbrev S1024x2572 : Shape := ⟨2, ![1024, 2572]⟩
abbrev S12 : Shape := ⟨1, ![12]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x2572 : Shape := ⟨2, ![128, 2572]⟩
abbrev S128x768 : Shape := ⟨2, ![128, 768]⟩
abbrev S128x256 : Shape := ⟨2, ![128, 256]⟩
abbrev S128x12 : Shape := ⟨2, ![128, 12]⟩
abbrev S1x12 : Shape := ⟨2, ![1, 12]⟩
abbrev S128x128 : Shape := ⟨2, ![128, 128]⟩
abbrev S128x4x3x64 : Shape := ⟨4, ![128, 4, 3, 64]⟩
abbrev S128x3x4x64 : Shape := ⟨4, ![128, 3, 4, 64]⟩
abbrev S256x128 : Shape := ⟨2, ![256, 128]⟩
abbrev S1x256x128 : Shape := ⟨3, ![1, 256, 128]⟩

abbrev nBuf : Space → Nat
  | .hbm => 84
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x2572, .f32⟩
  | .hbm, ⟨3, _⟩ => ⟨S12, .f32⟩
  | .hbm, ⟨4, _⟩ => ⟨S128x1024, .f32⟩
  | .hbm, ⟨5, _⟩ => ⟨S_, .f32⟩
  | .hbm, ⟨6, _⟩ => ⟨S128, .f32⟩
  | .hbm, ⟨7, _⟩ => ⟨S128x1, .f32⟩
  | .hbm, ⟨8, _⟩ => ⟨S_, .f32⟩
  | .hbm, ⟨9, _⟩ => ⟨S128x1, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S128x1, .f32⟩
  | .hbm, ⟨15, _⟩ => ⟨S128x1024, .f32⟩
  | .hbm, ⟨16, _⟩ => ⟨S128x1024, .f32⟩
  | .hbm, ⟨17, _⟩ => ⟨S1x1024, .f32⟩
  | .hbm, ⟨18, _⟩ => ⟨S128x1024, .f32⟩
  | .hbm, ⟨19, _⟩ => ⟨S128x1024, .f32⟩
  | .hbm, ⟨20, _⟩ => ⟨S128x2572, .f32⟩
  | .hbm, ⟨21, _⟩ => ⟨S128x768, .f32⟩
  | .hbm, ⟨22, _⟩ => ⟨S128x256, .f32⟩
  | .hbm, ⟨23, _⟩ => ⟨S128x256, .f32⟩
  | .hbm, ⟨24, _⟩ => ⟨S128x768, .f32⟩
  | .hbm, ⟨25, _⟩ => ⟨S128x256, .f32⟩
  | .hbm, ⟨26, _⟩ => ⟨S128x256, .f32⟩
  | .hbm, ⟨27, _⟩ => ⟨S128x12, .f32⟩
  | .hbm, ⟨28, _⟩ => ⟨S1x12, .f32⟩
  | .hbm, ⟨29, _⟩ => ⟨S128x12, .f32⟩
  | .hbm, ⟨30, _⟩ => ⟨S128x12, .f32⟩
  | .hbm, ⟨31, _⟩ => ⟨S_, .i32⟩
  | .hbm, ⟨32, _⟩ => ⟨S_, .f32⟩
  | .hbm, ⟨33, _⟩ => ⟨S128x128, .f32⟩
  | .hbm, ⟨34, _⟩ => ⟨S128x128, .f32⟩
  | .hbm, ⟨35, _⟩ => ⟨S_, .f32⟩
  | .hbm, ⟨36, _⟩ => ⟨S128x128, .f32⟩
  | .hbm, ⟨37, _⟩ => ⟨S128x128, .f32⟩
  | .hbm, ⟨38, _⟩ => ⟨S128x128, .f32⟩
  | .hbm, ⟨39, _⟩ => ⟨S128x128, .f32⟩
  | .hbm, ⟨40, _⟩ => ⟨S128x128, .i1⟩
  | .hbm, ⟨41, _⟩ => ⟨S128x128, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S128x128, .f32⟩
  | .hbm, ⟨48, _⟩ => ⟨S128x128, .f32⟩
  | .hbm, ⟨49, _⟩ => ⟨S128x128, .f32⟩
  | .hbm, ⟨50, _⟩ => ⟨S_, .f32⟩
  | .hbm, ⟨51, _⟩ => ⟨S128x768, .f32⟩
  | .hbm, ⟨52, _⟩ => ⟨S128x768, .f32⟩
  | .hbm, ⟨53, _⟩ => ⟨S128x4x3x64, .f32⟩
  | .hbm, ⟨54, _⟩ => ⟨S128x3x4x64, .f32⟩
  | .hbm, ⟨55, _⟩ => ⟨S128x768, .f32⟩
  | .hbm, ⟨56, _⟩ => ⟨S256x128, .f32⟩
  | .hbm, ⟨57, _⟩ => ⟨S1x256x128, .f32⟩
  | .hbm, ⟨58, _⟩ => ⟨S256x128, .f32⟩
  | .hbm, ⟨59, _⟩ => ⟨S1x256x128, .f32⟩
  | .hbm, ⟨60, _⟩ => ⟨S128x768, .f32⟩
  | .hbm, ⟨61, _⟩ => ⟨S128x768, .f32⟩
  | .hbm, ⟨62, _⟩ => ⟨S_, .f32⟩
  | .hbm, ⟨63, _⟩ => ⟨S128x768, .f32⟩
  | .hbm, ⟨64, _⟩ => ⟨S128x768, .f32⟩
  | .hbm, ⟨65, _⟩ => ⟨S_, .f32⟩
  | .hbm, ⟨66, _⟩ => ⟨S128x768, .f32⟩
  | .hbm, ⟨67, _⟩ => ⟨S128x768, .f32⟩
  | .hbm, ⟨68, _⟩ => ⟨S128x768, .f32⟩
  | .hbm, ⟨69, _⟩ => ⟨S128x4x3x64, .f32⟩
  | .hbm, ⟨70, _⟩ => ⟨S128x3x4x64, .f32⟩
  | .hbm, ⟨71, _⟩ => ⟨S128x768, .f32⟩
  | .hbm, ⟨72, _⟩ => ⟨S_, .f32⟩
  | .hbm, ⟨73, _⟩ => ⟨S128x256, .f32⟩
  | .hbm, ⟨74, _⟩ => ⟨S128x256, .f32⟩
  | .hbm, ⟨75, _⟩ => ⟨S128x256, .f32⟩
  | .hbm, ⟨76, _⟩ => ⟨S128x256, .f32⟩
  | .hbm, ⟨77, _⟩ => ⟨S_, .f32⟩
  | .hbm, ⟨78, _⟩ => ⟨S128x256, .f32⟩
  | .hbm, ⟨79, _⟩ => ⟨S128x256, .f32⟩
  | .hbm, ⟨80, _⟩ => ⟨S_, .f32⟩
  | .hbm, ⟨81, _⟩ => ⟨S128x256, .f32⟩
  | .hbm, ⟨82, _⟩ => ⟨S128x256, .f32⟩
  | .hbm, ⟨83, _⟩ => ⟨S128x256, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c : Ref sig .tc := ⟨.hbm, 31, rfl⟩
abbrev main_call0_v0 : Ref sig .tc := ⟨.hbm, 32, rfl⟩
abbrev main_v24 : Ref sig .tc := ⟨.hbm, 33, rfl⟩
abbrev main_call1_v0 : Ref sig .tc := ⟨.hbm, 34, rfl⟩
abbrev main_call1_call0_cst : Ref sig .tc := ⟨.hbm, 35, rfl⟩
abbrev main_call1_call0_v0 : Ref sig .tc := ⟨.hbm, 36, rfl⟩
abbrev main_call1_call0_v1 : Ref sig .tc := ⟨.hbm, 37, rfl⟩
abbrev main_call1_call0_v2 : Ref sig .tc := ⟨.hbm, 38, rfl⟩
abbrev main_call1_call0_v3 : Ref sig .tc := ⟨.hbm, 39, rfl⟩
abbrev main_call1_call0_v4 : Ref sig .tc := ⟨.hbm, 40, rfl⟩
abbrev main_call1_call0_v5 : Ref sig .tc := ⟨.hbm, 41, rfl⟩
abbrev main_call1_call0_v6 : Ref sig .tc := ⟨.hbm, 42, rfl⟩
abbrev main_call1_call0_v7 : Ref sig .tc := ⟨.hbm, 43, rfl⟩
abbrev main_call1_call0_v8 : Ref sig .tc := ⟨.hbm, 44, rfl⟩
abbrev main_call1_call0_v9 : Ref sig .tc := ⟨.hbm, 45, rfl⟩
abbrev main_call1_call0_v10 : Ref sig .tc := ⟨.hbm, 46, rfl⟩
abbrev main_call1_call0_v11 : Ref sig .tc := ⟨.hbm, 47, rfl⟩
abbrev main_call1_v1 : Ref sig .tc := ⟨.hbm, 48, rfl⟩
abbrev main_v25 : Ref sig .tc := ⟨.hbm, 49, rfl⟩
abbrev main_cst_2 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_call2_v0 : Ref sig .tc := ⟨.hbm, 60, rfl⟩
abbrev main_call2_v1 : Ref sig .tc := ⟨.hbm, 61, rfl⟩
abbrev main_call2_cst : Ref sig .tc := ⟨.hbm, 62, rfl⟩
abbrev main_call2_v2 : Ref sig .tc := ⟨.hbm, 63, rfl⟩
abbrev main_call2_v3 : Ref sig .tc := ⟨.hbm, 64, rfl⟩
abbrev main_call2_cst_0 : Ref sig .tc := ⟨.hbm, 65, rfl⟩
abbrev main_call2_v4 : Ref sig .tc := ⟨.hbm, 66, rfl⟩
abbrev main_call2_v5 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_3 : Ref sig .tc := ⟨.hbm, 72, rfl⟩
abbrev main_v39 : Ref sig .tc := ⟨.hbm, 73, rfl⟩
abbrev main_v40 : Ref sig .tc := ⟨.hbm, 74, rfl⟩
abbrev main_call3_v0 : Ref sig .tc := ⟨.hbm, 75, rfl⟩
abbrev main_call3_v1 : Ref sig .tc := ⟨.hbm, 76, rfl⟩
abbrev main_call3_cst : Ref sig .tc := ⟨.hbm, 77, rfl⟩
abbrev main_call3_v2 : Ref sig .tc := ⟨.hbm, 78, rfl⟩
abbrev main_call3_v3 : Ref sig .tc := ⟨.hbm, 79, rfl⟩
abbrev main_call3_cst_0 : Ref sig .tc := ⟨.hbm, 80, rfl⟩
abbrev main_call3_v4 : Ref sig .tc := ⟨.hbm, 81, rfl⟩
abbrev main_call3_v5 : Ref sig .tc := ⟨.hbm, 82, rfl⟩
abbrev main_v41 : Ref sig .tc := ⟨.hbm, 83, rfl⟩

abbrev nD : Nat := 1
abbrev τ : Topo := Topo.v7x

variable {F : FTy → Type} [FloatOps F]
-- ==== Proof.Fox.Run.lean ====
module

public import proofs.«01_k».proof.Proof.Gen.KernelIdeal.Value
public import Idealize.ShloMosaic.Lib.Pipeline.ValueKit

@[expose] public section

set_option maxRecDepth 16384

noncomputable section

/-! What one grid point of the forgetting attention leaves in its block: the state the loop over the full key
    tiles reaches, one masked step at the diagonal tile, then the quotient. -/

namespace Cert.KernelIdeal.Fox

open Cert.KernelIdeal Cert.KernelIdeal.Gen Idealize.ShloMosaic Idealize.ShloMosaic.TcCoe

variable {F : FTy → Type} [FloatOps F] [Named F]

theorem trips1 : ∀ i : grid0.Coords, (k0_t1_loop i).trips = (i 2).val := by decide +kernel
theorem trips2 : ∀ i : grid0.Coords, (k0_t2_loop i).trips = 0 := by decide +kernel

/-- The running maxima, the running sums and the accumulated products. -/
abbrev St (F : FTy → Type) : Type := FVec F S2048x128 .f32 × FVec F S2048x128 .f32 × FVec F S2048x256 .f32

/-- The four heads' queries, each with the other heads' lanes set to zero. -/
def q4 (x0 : Vec F S512x256 .f32) : Vec F S2048x256 .bf16 :=
  k0_pay26 (k0_pay22 x0) k0_pay23 (k0_pay24 x0) k0_pay25

variable (x1 x2 : Vec F S1x32x256x128 .bf16) (x3 : Vec F S1x1x8x4096 .f32) (Q : Vec F S2048x256 .bf16)

/-- The `r`-th quarter of key tile `k`. -/
def quarter (i : grid0.Coords) (x : Vec F S1x32x256x128 .bf16) (k : Fin (k0_t1_loop i).trips) (r : Fin 4) :
    Vec F S1x1x256x128 .bf16 :=
  View.ld x (Rect.unit (k0_off1 i k (BitVec.ofNat 32 r.val)) ![1, 1, 256, 128] (k0_off1_inb i k r))

def ktile (i : grid0.Coords) (k : Fin (k0_t1_loop i).trips) : FVec F S256x512 .bf16 :=
  k0_pay2 (quarter i x1 k 0) (quarter i x1 k 1) (quarter i x1 k 2) (quarter i x1 k 3)

def vtile (i : grid0.Coords) (k : Fin (k0_t1_loop i).trips) : FVec F S256x512 .bf16 :=
  k0_pay5 (k0_pay3 (quarter i x2 k 0)) (k0_pay4 (quarter i x2 k 1)) (quarter i x2 k 2) (quarter i x2 k 3)

def nctile (i : grid0.Coords) (k : Fin (k0_t1_loop i).trips) : Vec F S1x1x4x512 .f32 :=
  View.ld x3 (Rect.unit (k0_off2 i k) ![1, 1, 4, 512] (k0_off2_inb i k))

/-- One trip of the loop over the full key tiles. -/
def fullStep (i : grid0.Coords) (k : Fin (k0_t1_loop i).trips) (s : St F) : St F :=
  (k0_pay31 (k0_pay7 (ktile x1 i k) Q (nctile x3 i k) s.1),
   k0_pay10 (ktile x1 i k) Q (nctile x3 i k) s.1 s.2.1,
   k0_pay30 (vtile x2 i k) (k0_pay9 (ktile x1 i k) Q (nctile x3 i k) s.1)
     (k0_pay11 (ktile x1 i k) Q (nctile x3 i k) s.1) s.2.2)

/-- The state before trip `k`. -/
def states (i : grid0.Coords) : ℕ → St F
  | 0 => (k0_pay27, k0_pay28, k0_pay29)
  | k + 1 => if h : k < (k0_t1_loop i).trips then fullStep x1 x2 x3 Q i ⟨k, h⟩ (states i k) else states i k

theorem states_succ (i : grid0.Coords) (k : Fin (k0_t1_loop i).trips) :
    states x1 x2 x3 Q i (k.val + 1) = fullStep x1 x2 x3 Q i k (states x1 x2 x3 Q i k.val) := by
  rw [states]; exact dif_pos k.isLt

variable (c : Dev nD) (i : grid0.Coords)
  (arg3 : Memref sig .tc .vmem S512x256 .f32) (harg3 : arg3.IsWhole)
  (arg4 : Memref sig .tc .vmem S1x32x256x128 .bf16) (harg4 : arg4.IsWhole)
  (arg5 : Memref sig .tc .vmem S1x32x256x128 .bf16) (harg5 : arg5.IsWhole)
  (arg6 : Memref sig .tc .vmem S1x1x8x4096 .f32) (harg6 : arg6.IsWhole)
  (arg7 : Memref sig .tc .vmem S512x256 .f32) (harg7 : arg7.IsWhole)
  (arg8 : Memref sig .tc .vmem S2048x256 .bf16) (harg8 : arg8.IsWhole)
  (arg9 : Memref sig .tc .vmem S2048x128 .f32) (harg9 : arg9.IsWhole)
  (arg10 : Memref sig .tc .vmem S2048x128 .f32) (harg10 : arg10.IsWhole)
  (arg11 : Memref sig .tc .vmem S2048x256 .f32) (harg11 : arg11.IsWhole)
  (v0 v69 : BitVec 32) (v80 v82 : BitVec 1)

include x1 x2 x3 Q in
theorem trip_eq (k : Fin (k0_t1_loop i).trips) (f9 : BufTy.Contents (Elt F) arg9.view.ty)
    (f10 : BufTy.Contents (Elt F) arg10.view.ty) (f11 : BufTy.Contents (Elt F) arg11.view.ty) (s : St F)
    (h9 : arg9.view.read (Elt F) f9 = s.1) (h10 : arg10.view.read (Elt F) f10 = s.2.1)
    (h11 : arg11.view.read (Elt F) f11 = s.2.2) :
    tripL_k0_t1 Variants.none c none i arg3 harg3 arg4 harg4 arg5 harg5 arg6 harg6 arg7 harg7 arg8 harg8 arg9 harg9 arg10 harg10 arg11 harg11 v0 v69 v80 v82 (harg4.unread x1) (harg5.unread x2) (harg6.unread x3) (arg8.view.writes (Elt F) arg8.view.junk [⟨Rect.unit ![0, 0] ![2048, 256] inb_S2048x256_S2048x256_0_0, Q⟩]) k f9 f10 f11
      = ([⟨Rect.unit ![0, 0] ![2048, 128] inb_S2048x128_S2048x128_0_0, (fullStep x1 x2 x3 Q i k s).1⟩], [⟨Rect.unit ![0, 0] ![2048, 128] inb_S2048x128_S2048x128_0_0, (fullStep x1 x2 x3 Q i k s).2.1⟩],
         [⟨Rect.unit ![0, 0] ![2048, 256] inb_S2048x256_S2048x256_0_0, (fullStep x1 x2 x3 Q i k s).2.2⟩]) := by
  have e9 : View.readAt (Elt F) arg9.view (Rect.unit ![0, 0] ![2048, 128] inb_S2048x128_S2048x128_0_0 : Rect S2048x128).toLoadRect f9 = s.1 := by
    rw [View.readAt_eq_ld, h9]; exact View.ld_unit_lit _ _ (by decide)
  have e10 : View.readAt (Elt F) arg10.view (Rect.unit ![0, 0] ![2048, 128] inb_S2048x128_S2048x128_0_0 : Rect S2048x128).toLoadRect f10 = s.2.1 := by
    rw [View.readAt_eq_ld, h10]; exact View.ld_unit_lit _ _ (by decide)
  have e11 : View.readAt (Elt F) arg11.view (Rect.unit ![0, 0] ![2048, 256] inb_S2048x256_S2048x256_0_0 : Rect S2048x256).toLoadRect f11 = s.2.2 := by
    rw [View.readAt_eq_ld, h11]; exact View.ld_unit_lit _ _ (by decide)
  have e8 : View.readAt (Elt F) arg8.view (Rect.unit ![0, 0] ![2048, 256] inb_S2048x256_S2048x256_0_0 : Rect S2048x256).toLoadRect (arg8.view.writes (Elt F) arg8.view.junk [⟨Rect.unit ![0, 0] ![2048, 256] inb_S2048x256_S2048x256_0_0, Q⟩]) = Q := by
    rw [View.readAt_eq_ld, View.read_writes_junk_eq_canon, View.canon_cons_unit_lit _ _ _ (by decide)]
    exact View.ld_unit_lit _ _ (by decide)
  have eq4 (r : Fin 4) : View.readAt (Elt F) arg4.view (Rect.unit (s := S1x32x256x128) (k0_off1 i k (BitVec.ofNat 32 r.val)) S1x1x256x128.size (k0_off1_inb i k r)).toLoadRect (harg4.unread x1) = quarter i x1 k r := by
    rw [View.readAt_eq_ld, harg4.read_unread]; rfl
  have eq5 (r : Fin 4) : View.readAt (Elt F) arg5.view (Rect.unit (s := S1x32x256x128) (k0_off1 i k (BitVec.ofNat 32 r.val)) S1x1x256x128.size (k0_off1_inb i k r)).toLoadRect (harg5.unread x2) = quarter i x2 k r := by
    rw [View.readAt_eq_ld, harg5.read_unread]; rfl
  have eq6 : View.readAt (Elt F) arg6.view (Rect.unit (s := S1x1x8x4096) (k0_off2 i k) S1x1x4x512.size (k0_off2_inb i k)).toLoadRect (harg6.unread x3) = nctile x3 i k := by
    rw [View.readAt_eq_ld, harg6.read_unread]; rfl
  unfold fullStep ktile vtile
  rw [← e9, ← e10, ← e11, ← eq4 0, ← eq4 1, ← eq4 2, ← eq4 3, ← eq5 0, ← eq5 1, ← eq5 2, ← eq5 3, ← eq6]
  conv_rhs => rw [← e8]
  unfold tripL_k0_t1 trip_k0_t1
  rfl

theorem pb_read : ∀ k ≤ (k0_t1_loop i).trips,
    View.canon ((pb_k0_t1 Variants.none c none i arg3 harg3 arg4 harg4 arg5 harg5 arg6 harg6 arg7 harg7 arg8 harg8 arg9 harg9 arg10 harg10 arg11 harg11 v0 v69 v80 v82 (harg4.unread x1) (harg5.unread x2) (harg6.unread x3) (arg8.view.writes (Elt F) arg8.view.junk [⟨Rect.unit ![0, 0] ![2048, 256] inb_S2048x256_S2048x256_0_0, Q⟩]) (arg9.view.writes (Elt F) arg9.view.junk [⟨Rect.unit ![0, 0] ![2048, 128] inb_S2048x128_S2048x128_0_0, k0_pay27⟩]) (arg10.view.writes (Elt F) arg10.view.junk [⟨Rect.unit ![0, 0] ![2048, 128] inb_S2048x128_S2048x128_0_0, k0_pay28⟩]) (arg11.view.writes (Elt F) arg11.view.junk [⟨Rect.unit ![0, 0] ![2048, 256] inb_S2048x256_S2048x256_0_0, k0_pay29⟩]) k).1 ++ [⟨Rect.unit ![0, 0] ![2048, 128] inb_S2048x128_S2048x128_0_0, k0_pay27⟩]) = (states x1 x2 x3 Q i k).1
    ∧ View.canon ((pb_k0_t1 Variants.none c none i arg3 harg3 arg4 harg4 arg5 harg5 arg6 harg6 arg7 harg7 arg8 harg8 arg9 harg9 arg10 harg10 arg11 harg11 v0 v69 v80 v82 (harg4.unread x1) (harg5.unread x2) (harg6.unread x3) (arg8.view.writes (Elt F) arg8.view.junk [⟨Rect.unit ![0, 0] ![2048, 256] inb_S2048x256_S2048x256_0_0, Q⟩]) (arg9.view.writes (Elt F) arg9.view.junk [⟨Rect.unit ![0, 0] ![2048, 128] inb_S2048x128_S2048x128_0_0, k0_pay27⟩]) (arg10.view.writes (Elt F) arg10.view.junk [⟨Rect.unit ![0, 0] ![2048, 128] inb_S2048x128_S2048x128_0_0, k0_pay28⟩]) (arg11.view.writes (Elt F) arg11.view.junk [⟨Rect.unit ![0, 0] ![2048, 256] inb_S2048x256_S2048x256_0_0, k0_pay29⟩]) k).2.1 ++ [⟨Rect.unit ![0, 0] ![2048, 128] inb_S2048x128_S2048x128_0_0, k0_pay28⟩]) = (states x1 x2 x3 Q i k).2.1
    ∧ View.canon ((pb_k0_t1 Variants.none c none i arg3 harg3 arg4 harg4 arg5 harg5 arg6 harg6 arg7 harg7 arg8 harg8 arg9 harg9 arg10 harg10 arg11 harg11 v0 v69 v80 v82 (harg4.unread x1) (harg5.unread x2) (harg6.unread x3) (arg8.view.writes (Elt F) arg8.view.junk [⟨Rect.unit ![0, 0] ![2048, 256] inb_S2048x256_S2048x256_0_0, Q⟩]) (arg9.view.writes (Elt F) arg9.view.junk [⟨Rect.unit ![0, 0] ![2048, 128] inb_S2048x128_S2048x128_0_0, k0_pay27⟩]) (arg10.view.writes (Elt F) arg10.view.junk [⟨Rect.unit ![0, 0] ![2048, 128] inb_S2048x128_S2048x128_0_0, k0_pay28⟩]) (arg11.view.writes (Elt F) arg11.view.junk [⟨Rect.unit ![0, 0] ![2048, 256] inb_S2048x256_S2048x256_0_0, k0_pay29⟩]) k).2.2 ++ [⟨Rect.unit ![0, 0] ![2048, 256] inb_S2048x256_S2048x256_0_0, k0_pay29⟩]) = (states x1 x2 x3 Q i k).2.2
  | 0, _ => ⟨View.canon_cons_unit_lit _ _ _ (by decide), View.canon_cons_unit_lit _ _ _ (by decide), View.canon_cons_unit_lit _ _ _ (by decide)⟩
  | k + 1, hk => by
    obtain ⟨h9, h10, h11⟩ := pb_read k (Nat.le_of_succ_le hk)
    have e := pb_k0_t1_succ (F := F) Variants.none c none i arg3 harg3 arg4 harg4 arg5 harg5 arg6 harg6 arg7 harg7 arg8 harg8 arg9 harg9 arg10 harg10 arg11 harg11 v0 v69 v80 v82 (harg4.unread x1) (harg5.unread x2) (harg6.unread x3) (arg8.view.writes (Elt F) arg8.view.junk [⟨Rect.unit ![0, 0] ![2048, 256] inb_S2048x256_S2048x256_0_0, Q⟩]) (arg9.view.writes (Elt F) arg9.view.junk [⟨Rect.unit ![0, 0] ![2048, 128] inb_S2048x128_S2048x128_0_0, k0_pay27⟩]) (arg10.view.writes (Elt F) arg10.view.junk [⟨Rect.unit ![0, 0] ![2048, 128] inb_S2048x128_S2048x128_0_0, k0_pay28⟩]) (arg11.view.writes (Elt F) arg11.view.junk [⟨Rect.unit ![0, 0] ![2048, 256] inb_S2048x256_S2048x256_0_0, k0_pay29⟩]) ⟨k, hk⟩
    rw [trip_eq x1 x2 x3 Q c i arg3 harg3 arg4 harg4 arg5 harg5 arg6 harg6 arg7 harg7 arg8 harg8 arg9 harg9 arg10 harg10 arg11 harg11 v0 v69 v80 v82 ⟨k, hk⟩ _ _ _ (states x1 x2 x3 Q i k)
      (by rw [← View.writes_append, View.read_writes_junk_eq_canon, h9])
      (by rw [← View.writes_append, View.read_writes_junk_eq_canon, h10])
      (by rw [← View.writes_append, View.read_writes_junk_eq_canon, h11])] at e
    rw [show k + 1 = (⟨k, hk⟩ : Fin (k0_t1_loop i).trips).val + 1 from rfl, e, states_succ]
    exact ⟨View.canon_cons_unit_lit _ _ _ (by decide), View.canon_cons_unit_lit _ _ _ (by decide), View.canon_cons_unit_lit _ _ _ (by decide)⟩

end Cert.KernelIdeal.Fox
end
-- ==== Proof.Fox.Out.lean ====
module

public import proofs.«01_k».proof.Proof.Fox.Run

@[expose] public section

set_option maxRecDepth 16384

noncomputable section

/-! The diagonal tile and the value of the output block. -/

namespace Cert.KernelIdeal.Fox

open Cert.KernelIdeal Cert.KernelIdeal.Gen Idealize.ShloMosaic Idealize.ShloMosaic.TcCoe

variable {F : FTy → Type} [FloatOps F] [Named F]

/-- The `r`-th quarter of the diagonal tile. -/
def dquarter (i : grid0.Coords) (x : Vec F S1x32x256x128 .bf16) (r : Fin 4) : Vec F S1x1x256x128 .bf16 :=
  View.ld x (Rect.unit (k0_off5 i (BitVec.ofNat 32 r.val)) ![1, 1, 256, 128] (k0_off5_inb i r))

def row0 (i : grid0.Coords) : BitVec 32 := Scalar.muli (BitVec.ofNat 32 (i 2).val) 512#32

def dscore (x1 : Vec F S1x32x256x128 .bf16) (Q : Vec F S2048x256 .bf16) (i : grid0.Coords) : FVec F S4x512x512 .f32 :=
  k0_pay36 (k0_pay34 (dquarter i x1 0)) (dquarter i x1 1) (dquarter i x1 2) (dquarter i x1 3) Q

def dnc (x3 : Vec F S1x1x8x4096 .f32) (i : grid0.Coords) : Vec F S1x1x4x512 .f32 :=
  (View.ld x3 (Rect.unit (k0_off6 i) ![1, 1, 4, 512] (k0_off6_inb i)))

def dv (x2 : Vec F S1x32x256x128 .bf16) (i : grid0.Coords) : FVec F S256x512 .bf16 :=
  k0_pay35 (dquarter i x2 0) (dquarter i x2 1) (dquarter i x2 2) (dquarter i x2 3)

/-- The masked step at the diagonal tile: what it leaves in the sums and the accumulated products. -/
def lastL (x1 : Vec F S1x32x256x128 .bf16) (x3 : Vec F S1x1x8x4096 .f32) (Q : Vec F S2048x256 .bf16) (i : grid0.Coords) (v107 : BitVec 32) (s : St F) : FVec F S2048x128 .f32 :=
  k0_pay41 (row0 i) v107 (dscore x1 Q i) (dnc x3 i) s.1 s.2.1

def lastA (x1 x2 : Vec F S1x32x256x128 .bf16) (x3 : Vec F S1x1x8x4096 .f32) (Q : Vec F S2048x256 .bf16) (i : grid0.Coords) (v107 : BitVec 32) (s : St F) : FVec F S2048x256 .f32 :=
  k0_pay43 (k0_pay42 (row0 i) v107 (dv x2 i) (dscore x1 Q i) (dnc x3 i) s.1 s.2.2)

/-- The four heads' quotients, each at its own lanes. -/
def merge (a : FVec F S2048x256 .f32) (l : FVec F S2048x128 .f32) : FVec F S512x256 .f32 :=
  k0_pay1 (k0_pay45 a l) k0_pay46 (k0_pay47 a l)

/-- What the block of one grid point holds after the body. -/
def blockOut (i : grid0.Coords) (x0 : Vec F S512x256 .f32) (x1 x2 : Vec F S1x32x256x128 .bf16)
    (x3 : Vec F S1x1x8x4096 .f32) : FVec F S512x256 .f32 :=
  let s := states x1 x2 x3 (q4 x0) i (k0_t1_loop i).trips
  let w := Scalar.addi (row0 i) 0#32
  merge (lastA x1 x2 x3 (q4 x0) i w s) (lastL x1 x3 (q4 x0) i w s)

set_option maxHeartbeats 1000000 in
theorem out_eq (c : Dev nD) (i : grid0.Coords) (arg3 : Memref sig .tc .vmem S512x256 .f32) (harg3 : arg3.IsWhole) (arg4 : Memref sig .tc .vmem S1x32x256x128 .bf16) (harg4 : arg4.IsWhole) (arg5 : Memref sig .tc .vmem S1x32x256x128 .bf16) (harg5 : arg5.IsWhole) (arg6 : Memref sig .tc .vmem S1x1x8x4096 .f32) (harg6 : arg6.IsWhole) (arg7 : Memref sig .tc .vmem S512x256 .f32) (harg7 : arg7.IsWhole) (arg8 : Memref sig .tc .vmem S2048x256 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x256 .f32) (harg11 : arg11.IsWhole)
    (x0 : Vec F S512x256 .f32) (x1 : Vec F S1x32x256x128 .bf16) (x2 : Vec F S1x32x256x128 .bf16) (x3 : Vec F S1x1x8x4096 .f32) (y : S512x256.Idx) :
    out0_A_4 c i arg3 harg3 arg4 harg4 arg5 harg5 arg6 harg6 arg7 harg7 arg8 harg8 arg9 harg9 arg10 harg10 arg11 harg11 x0 x1 x2 x3 y = blockOut i x0 x1 x2 x3 y := by
  generalize hv : blockOut i x0 x1 x2 x3 y = v
  frame_out
  simp only [View.readCov_eq_canon']
  rw [← hv]
  have h := fun v0 v69 v80 v82 => pb_read x1 x2 x3 (q4 x0) c i arg3 harg3 arg4 harg4 arg5 harg5 arg6 harg6 arg7 harg7 arg8 harg8 arg9 harg9 arg10 harg10 arg11 harg11 v0 v69 v80 v82 (k0_t1_loop i).trips le_rfl
  have z : ∀ V v0 v69 v80 v82 v87 X4 X5 X6 X8 G9 G10 G11, pb_k0_t2 (F := F) V c none i arg3 harg3 arg4 harg4 arg5 harg5 arg6 harg6 arg7 harg7 arg8 harg8 arg9 harg9 arg10 harg10 arg11 harg11 v0 v69 v80 v82 v87 X4 X5 X6 X8 G9 G10 G11 (k0_t2_loop i).trips = ([], [], []) := by
    intros; rw [trips2]; rfl
  have u9 : ∀ X : Vec F S2048x128 .f32, (fun j => X ((Rect.unit ![0, 0] ![2048, 128] inb_S2048x128_S2048x128_0_0 : Rect S2048x128).toLoadRect.idx j)) = X :=
    fun X => View.ld_unit_lit _ X (by decide)
  have u11 : ∀ X : Vec F S2048x256 .f32, (fun j => X ((Rect.unit ![0, 0] ![2048, 256] inb_S2048x256_S2048x256_0_0 : Rect S2048x256).toLoadRect.idx j)) = X :=
    fun X => View.ld_unit_lit _ X (by decide)
  unfold q4 at h
  dsimp only [k0_t2_loop, Scf.Loop.trips] at z
  simp only [z, List.nil_append]
  have h9 := fun v0 v69 v80 v82 => (h v0 v69 v80 v82).1
  have h10 := fun v0 v69 v80 v82 => (h v0 v69 v80 v82).2.1
  have h11 := fun v0 v69 v80 v82 => (h v0 v69 v80 v82).2.2
  dsimp only [k0_t1_loop, Scf.Loop.trips] at h9 h10 h11
  simp only [h9, h10, h11]
  rw [u9, u9, u11]
  rfl

end Cert.KernelIdeal.Fox
end
-- ==== Proof.Fox.Row.lean ====
module

public import Idealize.ShloMosaic.PureOps.Ideal

@[expose] public section

noncomputable section

/-! One row of the running softmax over the extended reals: what the maximum, the sum and the accumulated product hold
    after some columns, and what their quotient is. -/

namespace Cert.Row

open Idealize.ShloMosaic Finset

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [sum_insert ha, sum_insert ha, EReal.coe_add, ih]

theorem mul_sum_coe {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [sum_insert ha, sum_insert ha,
      EReal.left_distrib_of_nonneg_of_ne_top (EReal.coe_nonneg.2 hc) (EReal.coe_ne_top c), ih]

theorem sum_head {T t : ℕ} (ht : t ≤ T) (f : ℕ → EReal) (g : Fin T → EReal)
    (h : ∀ j : Fin T, g j = if j.val < t then f j.val else 0) : ∑ j, g j = ∑ j ∈ range t, f j := by
  rw [sum_congr rfl fun j _ => h j, Fin.sum_univ_eq_sum_range (fun j => if j < t then f j else 0) T, ← sum_filter]
  exact sum_congr (by ext j; simp only [mem_filter, mem_range]; omega) fun _ _ => rfl

theorem fold_real {T t : ℕ} (h0 : 0 < t) (ht : t ≤ T) (x : ℕ → ℝ) (s : Fin T → EReal)
    (hs : ∀ j : Fin T, s j = if j.val < t then (x j.val : EReal) else ⊥) :
    ∃ M : ℝ, univ.fold max ⊥ s = (M : EReal) := by
  have htop : univ.fold max ⊥ s ≠ ⊤ := ((fold_max_lt _).2 ⟨bot_lt_top, fun j _ => by
    rw [hs j]; split
    · exact EReal.coe_lt_top _
    · exact bot_lt_top⟩).ne
  have hbot : univ.fold max ⊥ s ≠ ⊥ := ((lt_fold_max _).2 (.inr ⟨⟨0, h0.trans_le ht⟩, mem_univ _, by
    rw [hs, if_pos (by exact h0)]; exact EReal.bot_lt_coe _⟩)).ne'
  exact ⟨_, (EReal.coe_toReal htop hbot).symm⟩

/-- After `n` columns of scores `x` and values `v`: nothing seen yet, or the maximum is some real `μ`, and sum and
    product are taken relative to it. -/
def Inv {L E : ℕ} (x : ℕ → ℝ) (v : Fin E → ℕ → EReal) (n : ℕ) (m l : Fin L → EReal) (a : Fin E → EReal) : Prop :=
  (n = 0 ∧ (∀ z, m z = ⊥) ∧ (∀ z, l z = 0) ∧ ∀ e, a e = 0)
  ∨ ∃ μ : ℝ, (∀ z, m z = (μ : EReal))
      ∧ (∀ z, l z = ((∑ j ∈ range n, Real.rpow 2 (x j - μ) : ℝ) : EReal))
      ∧ ∀ e, a e = ∑ j ∈ range n, ((Real.rpow 2 (x j - μ) : ℝ) : EReal) * v e j

theorem rpow_shift (a b c : ℝ) : Real.rpow 2 (a - b) * Real.rpow 2 (c - a) = Real.rpow 2 (c - b) := by
  change (2 : ℝ) ^ (a - b) * (2 : ℝ) ^ (c - a) = (2 : ℝ) ^ (c - b)
  rw [← Real.rpow_add two_pos]; congr 1; ring

theorem rpow_two_pos (a : ℝ) : 0 < Real.rpow 2 a := Real.rpow_pos_of_pos two_pos a

/-- One tile of `T` columns, of which the first `t` count. -/
theorem Inv.step {L E T : ℕ} {x : ℕ → ℝ} {v : Fin E → ℕ → EReal} {n t : ℕ} {m l : Fin L → EReal} {a : Fin E → EReal}
    (h : Inv x v n m l a) (h0 : 0 < t) (ht : t ≤ T) {s : Fin T → EReal} {w : Fin E → Fin T → EReal}
    (hs : ∀ j : Fin T, s j = if j.val < t then (x (n + j.val) : EReal) else ⊥)
    (hw : ∀ e, ∀ j : Fin T, j.val < t → w e j = v e (n + j.val))
    {m' l' : Fin L → EReal} {a' : Fin E → EReal} (lane : Fin T → Fin L) (elane : Fin E → Fin L)
    (hm' : ∀ z, m' z = max (m z) (univ.fold max ⊥ s))
    (hl' : ∀ z, l' z = Ideal.exp2 (m z - m' z) * l z + ∑ j, Ideal.exp2 (s j - m' (lane j)))
    (ha' : ∀ e, a' e = Ideal.exp2 (m (elane e) - m' (elane e)) * a e + ∑ j, Ideal.exp2 (s j - m' (lane j)) * w e j) :
    Inv x v (n + t) m' l' a' := by
  obtain ⟨M, hM⟩ := fold_real h0 ht (fun j => x (n + j)) s hs
  obtain ⟨μ', hμ'⟩ : ∃ μ' : ℝ, ∀ z, m' z = (μ' : EReal) := by
    rcases h with ⟨_, hm, _⟩ | ⟨μ, hm, _⟩
    · exact ⟨M, fun z => by rw [hm', hm, hM, bot_sup_eq]⟩
    · exact ⟨max μ M, fun z => by rw [hm', hm, hM]; exact (EReal.coe_strictMono.monotone.map_max).symm⟩
  have hp : ∀ j : Fin T, Ideal.exp2 (s j - m' (lane j))
      = if j.val < t then ((Real.rpow 2 (x (n + j.val) - μ') : ℝ) : EReal) else 0 := fun j => by
    rw [hs, hμ']; split
    · rw [← EReal.coe_sub, Ideal.exp2_coe]
    · rw [EReal.bot_sub, Ideal.exp2_bot]
  have hP : ∑ j, Ideal.exp2 (s j - m' (lane j)) = ((∑ j ∈ range t, Real.rpow 2 (x (n + j) - μ') : ℝ) : EReal) := by
    rw [coe_sum, sum_head ht (fun j => ((Real.rpow 2 (x (n + j) - μ') : ℝ) : EReal)) _ hp]
  have hV : ∀ e, ∑ j, Ideal.exp2 (s j - m' (lane j)) * w e j
      = ∑ j ∈ range t, ((Real.rpow 2 (x (n + j) - μ') : ℝ) : EReal) * v e (n + j) := fun e =>
    sum_head ht (fun j => ((Real.rpow 2 (x (n + j) - μ') : ℝ) : EReal) * v e (n + j)) _ fun j => by
      rw [hp]; split
      · next hj => rw [hw e j hj]
      · rw [zero_mul]
  refine .inr ⟨μ', hμ', fun z => ?_, fun e => ?_⟩
  · rw [hl', hP, hμ']
    rcases h with ⟨rfl, hm, hl, _⟩ | ⟨μ, hm, hl, _⟩
    · rw [hl, mul_zero, zero_add]; simp only [zero_add]
    · rw [hl, hm, ← EReal.coe_sub, Ideal.exp2_coe, ← EReal.coe_mul, ← EReal.coe_add, sum_range_add, mul_sum]
      simp only [rpow_shift]
  · rw [ha', hV, hμ']
    rcases h with ⟨rfl, hm, _, ha⟩ | ⟨μ, hm, _, ha⟩
    · rw [ha, mul_zero, zero_add]; simp only [zero_add]
    · rw [ha, hm, ← EReal.coe_sub, Ideal.exp2_coe, mul_sum_coe _ _ (rpow_two_pos _).le, sum_range_add]
      simp only [← mul_assoc, ← EReal.coe_mul, rpow_shift]

/-- The quotient does not depend on `μ`. -/
theorem Inv.quotient {L E : ℕ} {x : ℕ → ℝ} {v : Fin E → ℕ → EReal} {n : ℕ} {m l : Fin L → EReal} {a : Fin E → EReal}
    (h : Inv x v n m l a) (hn : 0 < n) (e : Fin E) (z : Fin L) :
    Ideal.div (a e) (l z)
      = ∑ j ∈ range n, ((Real.rpow 2 (x j) / ∑ i ∈ range n, Real.rpow 2 (x i) : ℝ) : EReal) * v e j := by
  rcases h with ⟨rfl, _⟩ | ⟨μ, _, hl, ha⟩
  · exact absurd hn (lt_irrefl 0)
  have hs : ∀ j, Real.rpow 2 (x j - μ) = Real.rpow 2 (x j) * Real.rpow 2 (-μ) := fun j => by
    change (2 : ℝ) ^ (x j - μ) = (2 : ℝ) ^ (x j) * (2 : ℝ) ^ (-μ)
    rw [← Real.rpow_add two_pos, sub_eq_add_neg]
  have hL : 0 < ∑ i ∈ range n, Real.rpow 2 (x i) :=
    sum_pos (fun i _ => rpow_two_pos _) (nonempty_range_iff.2 hn.ne')
  have hc := rpow_two_pos (-μ)
  rw [hl, ha]
  simp only [hs, ← sum_mul]
  rw [Ideal.div_coe (mul_pos hL hc).ne', mul_comm, mul_sum_coe _ _ (by positivity)]
  refine sum_congr rfl fun j _ => ?_
  rw [← mul_assoc, ← EReal.coe_mul]
  congr 2
  field_simp

end Cert.Row
end
-- ==== Proof.Fox.Point.lean ====
module

public import proofs.«01_k».proof.Proof.Fox.Out
public import proofs.«01_k».proof.Proof.Fox.Row
public import Idealize.ShloMosaic.Lib.Pointwise
public import Idealize.ShloMosaic.Lib.Tactic.WordOmega

@[expose] public section

set_option maxRecDepth 16384

noncomputable section

/-! The kernel's vectors read at one index. -/

namespace Cert.KernelIdeal.Fox

open Cert.KernelIdeal Cert.KernelIdeal.Gen Idealize.ShloMosaic Idealize.ShloMosaic.TcCoe

theorem mask_eq : Named.named (F := Ideal) κ "mask" (φ := .f32) 4048155338#32 = (⊥ : EReal) :=
  IdealRules.named_const.ideal_named_scalar _ _ _ _ rfl

theorem neg_eq : Named.named (F := Ideal) κ "neg_log2e" (φ := .f32) 3216550459#32 = ((-((Real.log 2)⁻¹) : ℝ) : EReal) :=
  IdealRules.named_const.ideal_named_scalar _ _ _ _ rfl

theorem qscale_eq : Named.named (F := Ideal) κ "q_scale" (φ := .f32) 1043900987#32 = (((1 / 8) * (Real.log 2)⁻¹ : ℝ) : EReal) :=
  IdealRules.named_const.ideal_named_scalar _ _ _ _ rfl

theorem ninf_eq : Ideal.ofBits FTy.f32 4286578688#32 = (⊥ : EReal) := by
  simp [Ideal.ofBits, Ideal.ieee]

/-- The head that owns lane `j`, as the kernel's words compute it. -/
theorem head_cmp : ∀ j : Fin 256, ∀ g < 4, IntOp.cmpi CmpIPredicate.eq
      (Scalar.select
        (IntOp.andi
          (IntOp.cmpi CmpIPredicate.ne
            (IntOp.subi (BitVec.setWidth 32 (IntOp.cmpi CmpIPredicate.sgt (BitVec.ofNat 32 j.val) 0#32))
              (BitVec.setWidth 32 (IntOp.cmpi CmpIPredicate.slt (BitVec.ofNat 32 j.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 j.val) 64#32) 0#32))
        (IntOp.subi (IntOp.divsi ArithUnit.vector (BitVec.ofNat 32 j.val) 64#32) 1#32)
        (IntOp.divsi ArithUnit.vector (BitVec.ofNat 32 j.val) 64#32))
      (BitVec.ofNat 32 g) = if j.val / 64 = g then 1#1 else 0#1 := by decide +kernel

theorem select_ite {α : Type} (p : Prop) [Decidable p] (x y : α) :
    Scalar.select (if p then 1#1 else 0#1) x y = if p then x else y := by
  split <;> rfl

/-- Lane `n % 128`. -/
def lane {n : ℕ} (j : Fin n) : Fin 128 := ⟨j.val % 128, Nat.mod_lt _ (by decide)⟩

/-- Feature `e` of column `n` of the key (or value) tiles. -/
def col (x : Vec Ideal S1x32x256x128 .bf16) (e : Fin 256) (n : ℕ) : EReal :=
  x (ix4 0 (Fin.ofNat 32 (n / 128)) e (Fin.ofNat 128 n))

/-- The forget sum of head `g` at column `n`. -/
def ccol (x : Vec Ideal S1x1x8x4096 .f32) (g : Fin 4) (n : ℕ) : EReal :=
  x (ix4 0 0 ⟨g.val, g.isLt.trans (by decide)⟩ (Fin.ofNat 4096 n))

theorem quarter_apply (i : grid0.Coords) (x : Vec Ideal S1x32x256x128 .bf16) (k : Fin (k0_t1_loop i).trips)
    (r : Fin 4) (e : Fin 256) (d : Fin 128) (n : ℕ) (h : n = 128 * (4 * k.val + r.val) + d.val) :
    quarter i x k r (ix4 0 0 e d) = col x e n := by
  have hk : k.val < 8 := k.isLt.trans_le (by rw [trips1]; exact (i 2).isLt.le)
  have o := k0_off1_eq i k r
  pointwise [quarter, col]
  refine congrArg x (congr (congr (congr (congrArg ix4 ?_) ?_) ?_) ?_) <;> apply Fin.ext <;> simp [o] <;> omega

theorem dquarter_apply (i : grid0.Coords) (x : Vec Ideal S1x32x256x128 .bf16)
    (r : Fin 4) (e : Fin 256) (d : Fin 128) (n : ℕ) (h : n = 128 * (4 * (i 2).val + r.val) + d.val) :
    dquarter i x r (ix4 0 0 e d) = col x e n := by
  have hk : (i 2).val < 8 := (i 2).isLt
  have o := k0_off5_eq i r
  pointwise [dquarter, col]
  refine congrArg x (congr (congr (congr (congrArg ix4 ?_) ?_) ?_) ?_) <;> apply Fin.ext <;> simp [o] <;> omega

theorem nctile_apply (i : grid0.Coords) (x : Vec Ideal S1x1x8x4096 .f32) (k : Fin (k0_t1_loop i).trips)
    (g : Fin 4) (j : Fin 512) : nctile x i k (ix4 0 0 g j) = ccol x g (512 * k.val + j.val) := by
  have hk : k.val < 8 := k.isLt.trans_le (by rw [trips1]; exact (i 2).isLt.le)
  have o := k0_off2_eq i k
  pointwise [nctile, ccol]
  refine congrArg x (congr (congr (congr (congrArg ix4 ?_) ?_) ?_) ?_) <;> apply Fin.ext <;> simp [o]
  omega

theorem dnc_apply (i : grid0.Coords) (x : Vec Ideal S1x1x8x4096 .f32)
    (g : Fin 4) (j : Fin 512) : dnc x i (ix4 0 0 g j) = ccol x g (512 * (i 2).val + j.val) := by
  have hk : (i 2).val < 8 := (i 2).isLt
  have o := k0_off6_eq i
  pointwise [dnc, ccol]
  refine congrArg x (congr (congr (congr (congrArg ix4 ?_) ?_) ?_) ?_) <;> apply Fin.ext <;> simp [o]
  omega

theorem ktile_apply (i : grid0.Coords) (x : Vec Ideal S1x32x256x128 .bf16) (k : Fin (k0_t1_loop i).trips)
    (e : Fin 256) (j : Fin 512) : ktile x i k (ix2 e j) = col x e (512 * k.val + j.val) := by
  have q := fun r d n h => quarter_apply i x k r e d n h
  pointwise [ktile, k0_pay2]
  split_ifs <;> refine q _ _ _ ?_ <;> simp <;> omega

theorem vtile_apply (i : grid0.Coords) (x : Vec Ideal S1x32x256x128 .bf16) (k : Fin (k0_t1_loop i).trips)
    (e : Fin 256) (j : Fin 512) : vtile x i k (ix2 e j) = col x e (512 * k.val + j.val) := by
  have q := fun r d n h => quarter_apply i x k r e d n h
  pointwise [vtile, k0_pay3, k0_pay4, k0_pay5]
  split_ifs <;> refine q _ _ _ ?_ <;> simp <;> omega

theorem dv_apply (i : grid0.Coords) (x : Vec Ideal S1x32x256x128 .bf16)
    (e : Fin 256) (j : Fin 512) : dv x i (ix2 e j) = col x e (512 * (i 2).val + j.val) := by
  have q := fun r d n h => dquarter_apply i x r e d n h
  pointwise [dv, k0_pay35]
  split_ifs <;> refine q _ _ _ ?_ <;> simp <;> omega

/-- Row `r`'s score in column `n`. -/
def score (x1 : Vec Ideal S1x32x256x128 .bf16) (x3 : Vec Ideal S1x1x8x4096 .f32) (Q : Vec Ideal S2048x256 .bf16)
    (r : Fin 2048) (n : ℕ) : EReal :=
  ∑ e, Q (ix2 r e) * col x1 e n + ((-((Real.log 2)⁻¹) : ℝ) : EReal) * ccol x3 ⟨r.val / 512, by omega⟩ n

variable (x1 x2 : Vec Ideal S1x32x256x128 .bf16) (x3 : Vec Ideal S1x1x8x4096 .f32) (Q : Vec Ideal S2048x256 .bf16)
  (i : grid0.Coords) (r : Fin 2048)

theorem pay6_apply (k : Fin (k0_t1_loop i).trips) (j : Fin 512) :
    k0_pay6 (ktile x1 i k) Q (nctile x3 i k) (ix2 r j) = score x1 x3 Q r (512 * k.val + j.val) := by
  pointwise [k0_pay6]
  rw [neg_eq, nctile_apply]
  simp only [ktile_apply]
  rfl

theorem dscore_apply (g : Fin 4) (t j : Fin 512) :
    dscore x1 Q i (ix3 g t j) = ∑ e, Q (ix2 ⟨g.val * 512 + t.val, by omega⟩ e) * col x1 e (512 * (i 2).val + j.val) := by
  have q := fun r e d n h => dquarter_apply i x1 r e d n h
  pointwise [dscore, k0_pay36, k0_pay34]
  refine Finset.sum_congr rfl fun e _ => congrArg _ ?_
  split_ifs <;> refine q _ _ _ _ ?_ <;> simp <;> omega

theorem pay37_apply (j : Fin 512) :
    k0_pay37 (row0 i) (Scalar.addi (row0 i) 0#32) (dscore x1 Q i) (dnc x3 i) (ix2 r j)
      = if j.val < r.val % 512 + 1 then score x1 x3 Q r (512 * (i 2).val + j.val) else ⊥ := by
  have hi : (i 2).val < 8 := (i 2).isLt
  pointwise [k0_pay37]
  have hw : IntOp.cmpi CmpIPredicate.sle (IntOp.addi (Scalar.addi (row0 i) 0#32) (BitVec.ofNat 32 j.val))
        (IntOp.addi (row0 i) (BitVec.ofNat 32 (r.val % 512))) = if j.val < r.val % 512 + 1 then 1#1 else 0#1 := by
    have hr := Nat.mod_lt r.val (show 0 < 512 by decide)
    have hm : ∀ a < 8, Scalar.muli (BitVec.ofNat 32 a) 512#32 = BitVec.ofNat 32 (512 * a)
        ∧ Scalar.addi (BitVec.ofNat 32 (512 * a)) 0#32 = BitVec.ofNat 32 (512 * a) := by decide
    unfold row0
    rw [(hm _ hi).1, (hm _ hi).2]
    generalize (i 2).val = a at hi
    generalize r.val % 512 = b at hr
    split <;> word_omega
  rw [hw, select_ite, mask_eq, neg_eq, dnc_apply, dscore_apply]
  unfold score
  have e : (⟨r.val / 512 * 512 + r.val % 512, by omega⟩ : Fin 2048) = r := Fin.ext (by simp; omega)
  rw [e]

theorem q4_apply (x0 : Vec Ideal S512x256 .f32) (e : Fin 256) :
    q4 x0 (ix2 r e) = if e.val / 64 = r.val / 512
      then x0 (ix2 ⟨r.val % 512, Nat.mod_lt _ (by decide)⟩ e) * (((1 / 8) * (Real.log 2)⁻¹ : ℝ) : EReal) else 0 := by
  pointwise [q4, k0_pay26, k0_pay22, k0_pay23, k0_pay24, k0_pay25]
  rw [head_cmp e 0 (by decide), head_cmp e 1 (by decide), head_cmp e 2 (by decide), head_cmp e 3 (by decide)]
  simp only [select_ite, qscale_eq]
  have hr := r.isLt
  have hx : ∀ (t : Fin 512), t.val = r.val % 512 → x0 (ix2 ⟨r.val % 512, Nat.mod_lt _ (by decide)⟩ e) = x0 (ix2 t e) :=
    fun t h => congrArg (fun t => x0 (ix2 t e)) (Fin.ext h.symm)
  split_ifs <;> first | omega | rfl | ((try rw [if_pos (show e.val / 64 = r.val / 512 by omega)]); congr 1; refine (hx _ ?_).symm; simp; omega)

theorem merge_apply (a : FVec Ideal S2048x256 .f32) (l : FVec Ideal S2048x128 .f32) (t : Fin 512) (e : Fin 256) :
    merge a l (ix2 t e)
      = Ideal.div (a (ix2 ⟨512 * (e.val / 64) + t.val, by omega⟩ e)) (l (ix2 ⟨512 * (e.val / 64) + t.val, by omega⟩ (lane e))) := by
  pointwise [merge, k0_pay1, k0_pay45, k0_pay46, k0_pay47]
  rw [head_cmp e 0 (by decide), head_cmp e 1 (by decide), head_cmp e 2 (by decide), head_cmp e 3 (by decide)]
  simp only [select_ite]
  have hx : ∀ n, n = 512 * (e.val / 64) + t.val → ∀ h : n < 2048, ∀ z : Fin 128, z.val = e.val % 128 →
      Ideal.div (a (ix2 ⟨n, h⟩ e)) (l (ix2 ⟨n, h⟩ z))
        = Ideal.div (a (ix2 ⟨512 * (e.val / 64) + t.val, by omega⟩ e)) (l (ix2 ⟨512 * (e.val / 64) + t.val, by omega⟩ (lane e))) := by
    rintro n rfl h z hz; rw [show z = lane e from Fin.ext hz]
  have he := e.isLt
  split_ifs <;> first | omega | ((try simp only [zero_add, add_zero]); (try rw [if_neg (show ¬ e.val / 64 = 3 by omega)]); (try simp only [add_zero]); refine hx _ ?_ _ _ ?_ <;> simp <;> omega)

end Cert.KernelIdeal.Fox
end
-- ==== Proof.Fox.Block.lean ====
module

public import proofs.«01_k».proof.Proof.Fox.Point

@[expose] public section

set_option maxRecDepth 16384

noncomputable section

/-! The output block of one grid step, as a weighted mean of the value rows. -/

namespace Cert.KernelIdeal.Fox

open Cert.KernelIdeal Cert.KernelIdeal.Gen Idealize.ShloMosaic Idealize.ShloMosaic.TcCoe Cert.Row

variable (x1 x2 : Vec Ideal S1x32x256x128 .bf16) (x3 : Vec Ideal S1x1x8x4096 .f32) (Q : Vec Ideal S2048x256 .bf16)
  (i : grid0.Coords) (r : Fin 2048) (x : ℕ → ℝ)

theorem lane_self (z : Fin 128) : lane z = z := Fin.ext (Nat.mod_eq_of_lt z.isLt)

theorem ladder4 (f : Fin 128 → EReal) (j : Fin 512) :
    (if h : j.val < 128 then f ⟨j.val, h⟩ else if h : j.val - 128 < 128 then f ⟨j.val - 128, h⟩
      else if h : j.val - 128 - 128 < 128 then f ⟨j.val - 128 - 128, h⟩ else f ⟨j.val - 128 - 128 - 128, by omega⟩) = f (lane j) := by
  split_ifs <;> refine congrArg f (Fin.ext ?_) <;> simp [lane] <;> omega

theorem ladder2 (f : Fin 128 → EReal) (j : Fin 256) :
    (if h : j.val < 128 then f ⟨j.val, h⟩ else f ⟨j.val - 128, by omega⟩) = f (lane j) := by
  split_ifs <;> refine congrArg f (Fin.ext ?_) <;> simp [lane] <;> omega

theorem states_inv (hx : ∀ n < 512 * (i 2).val, score x1 x3 Q r n = (x n : EReal)) : ∀ k ≤ (i 2).val,
    Inv x (col x2) (512 * k) (fun z => (states x1 x2 x3 Q i k).1 (ix2 r z)) (fun z => (states x1 x2 x3 Q i k).2.1 (ix2 r z))
      (fun e => (states x1 x2 x3 Q i k).2.2 (ix2 r e))
  | 0, _ => by
    refine .inl ⟨rfl, fun z => ?_, fun z => ?_, fun e => ?_⟩ <;> dsimp only [states]
    · pointwise [k0_pay27]; exact mask_eq
    · pointwise [k0_pay28]
    · pointwise [k0_pay29]
  | k + 1, hk => by
    have hk' : k < (k0_t1_loop i).trips := by rw [trips1]; omega
    have ih := states_inv hx k (by omega)
    have e := states_succ x1 x2 x3 Q i ⟨k, hk'⟩
    dsimp only at e
    rw [e, Nat.mul_succ]
    refine ih.step (T := 512) (by decide) le_rfl
      (s := fun j => score x1 x3 Q r (512 * k + j.val)) (w := fun e j => col x2 e (512 * k + j.val))
      (fun j => ?_) (fun _ _ _ => rfl) lane lane (fun z => ?_) (fun z => ?_) (fun e => ?_)
    · rw [if_pos j.isLt, hx _ (by omega)]
    · dsimp only [fullStep]
      pointwise [k0_pay31, k0_pay7]
      simp only [pay6_apply, ninf_eq]
    · dsimp only [fullStep]
      pointwise [k0_pay31, k0_pay10, k0_pay9, k0_pay8]
      simp only [pay6_apply]
      exact congrArg _ (Finset.sum_congr rfl fun j _ => congrArg (fun y => Ideal.exp2 (score x1 x3 Q r (512 * k + j.val) - y))
        (ladder4 (fun z => k0_pay7 (ktile x1 i ⟨k, hk'⟩) Q (nctile x3 i ⟨k, hk'⟩) (states x1 x2 x3 Q i k).1 (ix2 r z)) j))
    · dsimp only [fullStep]
      pointwise [k0_pay31, k0_pay30, k0_pay11, k0_pay9, k0_pay8]
      simp only [pay6_apply, vtile_apply]
      exact congrArg₂ (· + ·) (congrArg (· * _) (ladder2 (fun z => Ideal.exp2 ((states x1 x2 x3 Q i k).1 (ix2 r z)
          - k0_pay7 (ktile x1 i ⟨k, hk'⟩) Q (nctile x3 i ⟨k, hk'⟩) (states x1 x2 x3 Q i k).1 (ix2 r z))) e))
        (Finset.sum_congr rfl fun j _ => congrArg (fun y => Ideal.exp2 (score x1 x3 Q r (512 * k + j.val) - y) * _)
        (ladder4 (fun z => k0_pay7 (ktile x1 i ⟨k, hk'⟩) Q (nctile x3 i ⟨k, hk'⟩) (states x1 x2 x3 Q i k).1 (ix2 r z)) j))

/-- The diagonal tile adds the columns up to the row's own. -/
theorem last_inv (s : St Ideal) (hx : ∀ n ≤ 512 * (i 2).val + r.val % 512, score x1 x3 Q r n = (x n : EReal))
    (h : Inv x (col x2) (512 * (i 2).val) (fun z => s.1 (ix2 r z)) (fun z => s.2.1 (ix2 r z)) (fun e => s.2.2 (ix2 r e))) :
    Inv x (col x2) (512 * (i 2).val + (r.val % 512 + 1))
      (fun z => k0_pay38 (row0 i) (Scalar.addi (row0 i) 0#32) (dscore x1 Q i) (dnc x3 i) s.1 (ix2 r z))
      (fun z => lastL x1 x3 Q i (Scalar.addi (row0 i) 0#32) s (ix2 r z))
      (fun e => lastA x1 x2 x3 Q i (Scalar.addi (row0 i) 0#32) s (ix2 r e)) := by
  refine h.step (T := 512) (Nat.succ_pos _) (Nat.mod_lt _ (by decide))
    (s := fun j => if j.val < r.val % 512 + 1 then score x1 x3 Q r (512 * (i 2).val + j.val) else ⊥)
    (w := fun e j => col x2 e (512 * (i 2).val + j.val))
    (fun j => ?_) (fun _ _ _ => rfl) lane lane (fun z => ?_) (fun z => ?_) (fun e => ?_)
  · split_ifs
    · exact hx _ (by omega)
    · rfl
  · pointwise [k0_pay38]
    simp only [pay37_apply, ninf_eq]
  · dsimp only [lastL]
    pointwise [k0_pay41, k0_pay40, k0_pay39]
    simp only [pay37_apply]
    exact congrArg _ (Finset.sum_congr rfl fun j _ => congrArg (fun y => Ideal.exp2 (_ - y))
      (ladder4 (fun z => k0_pay38 (row0 i) (Scalar.addi (row0 i) 0#32) (dscore x1 Q i) (dnc x3 i) s.1 (ix2 r z)) j))
  · dsimp only [lastA]
    pointwise [k0_pay43, k0_pay42, k0_pay40, k0_pay39]
    simp only [pay37_apply, dv_apply]
    exact congrArg₂ (· + ·) (congrArg (· * _) (ladder2 (fun z => Ideal.exp2 (s.1 (ix2 r z)
        - k0_pay38 (row0 i) (Scalar.addi (row0 i) 0#32) (dscore x1 Q i) (dnc x3 i) s.1 (ix2 r z))) e))
      (Finset.sum_congr rfl fun j _ => congrArg (fun y => Ideal.exp2 ((if j.val < r.val % 512 + 1 then score x1 x3 Q r (512 * (i 2).val + j.val) else ⊥) - y) * _)
      (ladder4 (fun z => k0_pay38 (row0 i) (Scalar.addi (row0 i) 0#32) (dscore x1 Q i) (dnc x3 i) s.1 (ix2 r z)) j))

/-- A sum over the lanes of one head. -/
theorem sum_lanes (g : Fin 4) (f : Fin 256 → EReal) :
    ∑ e : Fin 256, (if e.val / 64 = g.val then f e else 0) = ∑ d : Fin 64, f ⟨64 * g.val + d.val, by omega⟩ := by
  rw [← Equiv.sum_comp (finProdFinEquiv (m := 4) (n := 64)), Fintype.sum_prod_type, Finset.sum_eq_single g]
  · refine Finset.sum_congr rfl fun d _ => ?_
    rw [if_pos (by simp [finProdFinEquiv]; omega)]
    exact congrArg f (Fin.ext (by simp [finProdFinEquiv]; omega))
  · intro b _ hb
    refine Finset.sum_eq_zero fun d _ => if_neg ?_
    have : b.val ≠ g.val := fun h => hb (Fin.ext h)
    simp [finProdFinEquiv]; omega
  · exact fun h => absurd (Finset.mem_univ _) h

/-- The score of a head's row: the scaled product over the head's features, and the forget sum. -/
theorem score_q4 (x0 : Vec Ideal S512x256 .f32) (g : Fin 4) (t : Fin 512) (n : ℕ) :
    score x1 x3 (q4 x0) ⟨512 * g.val + t.val, by omega⟩ n
      = ∑ d : Fin 64, x0 (ix2 t ⟨64 * g.val + d.val, by omega⟩) * (((1 / 8) * (Real.log 2)⁻¹ : ℝ) : EReal)
          * col x1 ⟨64 * g.val + d.val, by omega⟩ n
        + ((-((Real.log 2)⁻¹) : ℝ) : EReal) * ccol x3 g n := by
  have hg : (512 * g.val + t.val) / 512 = g.val := by omega
  have ht : (512 * g.val + t.val) % 512 = t.val := by omega
  unfold score
  rw [← sum_lanes g (fun e => x0 (ix2 t e) * (((1 / 8) * (Real.log 2)⁻¹ : ℝ) : EReal) * col x1 e n)]
  congr 1
  · refine Finset.sum_congr rfl fun e _ => ?_
    rw [q4_apply]
    dsimp only
    simp only [hg, ht, Fin.eta, ite_mul, zero_mul]
  · simp only [hg, Fin.eta]

/-- The block's element `(t, e)`: the weighted mean of feature `e` of the value rows up to the row's own. -/
theorem blockOut_apply (x0 : Vec Ideal S512x256 .f32) (t : Fin 512) (e : Fin 256)
    (hx : ∀ n ≤ 512 * (i 2).val + t.val, ∑ d : Fin 64, x0 (ix2 t ⟨64 * (e.val / 64) + d.val, by omega⟩) * (((1 / 8) * (Real.log 2)⁻¹ : ℝ) : EReal)
          * col x1 ⟨64 * (e.val / 64) + d.val, by omega⟩ n
        + ((-((Real.log 2)⁻¹) : ℝ) : EReal) * ccol x3 ⟨e.val / 64, by omega⟩ n = (x n : EReal)) :
    blockOut i x0 x1 x2 x3 (ix2 t e)
      = ∑ j ∈ Finset.range (512 * (i 2).val + t.val + 1),
          ((Real.rpow 2 (x j) / ∑ n ∈ Finset.range (512 * (i 2).val + t.val + 1), Real.rpow 2 (x n) : ℝ) : EReal) * col x2 e j := by
  have hr : (512 * (e.val / 64) + t.val) % 512 = t.val := by omega
  have hs : ∀ n ≤ 512 * (i 2).val + (512 * (e.val / 64) + t.val) % 512,
      score x1 x3 (q4 x0) ⟨512 * (e.val / 64) + t.val, by omega⟩ n = (x n : EReal) := fun n hn =>
    (score_q4 x1 x3 x0 ⟨e.val / 64, by omega⟩ t n).trans (hx n (by omega))
  unfold blockOut
  dsimp only
  rw [merge_apply, trips1]
  have h := last_inv x1 x2 x3 (q4 x0) i ⟨512 * (e.val / 64) + t.val, by omega⟩ x _ hs
    (states_inv x1 x2 x3 (q4 x0) i ⟨512 * (e.val / 64) + t.val, by omega⟩ x (fun n hn => hs n (by omega)) _ le_rfl)
  have q := h.quotient (by omega) e (lane e)
  dsimp only at q
  rw [q]
  simp only [hr]
  rfl

end Cert.KernelIdeal.Fox
end
-- ==== Proof.Fox.Ref.lean ====
module

public import proofs.«01_k».proof.Proof.Gen.ReferenceIdeal.Run
public import proofs.«01_k».proof.Proof.Fox.Row
public import Idealize.ShloMosaic.Lib.Pointwise
public import Idealize.ShloMosaic.Lib.Tactic.WordOmega

@[expose] public section

set_option maxRecDepth 16384

noncomputable section

/-! The reference's result read at one index. -/

namespace Cert.ReferenceIdeal.Fox

open Cert.ReferenceIdeal Cert.ReferenceIdeal.Gen Idealize.ShloMosaic Idealize.ShloMosaic.TcCoe

/-- The running sums of the log forget gates. -/
def cum (f : FVec Ideal S4x4096x12 .f32) : FVec Ideal S4x4096x12 .f32 :=
  Host.reduceWindowAdd ![1, 4096, 1] ![1, 1, 1] ![0, 4095, 0] ![0, 0, 0] f (broadcastInDim S_ ![] bcast_S_S_ (constant S_ .f32 0x00000000#32)) reduceWindows_S4x4096x12_S4x4096x12_w1s1p0_0_w4096s1p4095_0_w1s1p0_0 h_S_

/-- The logits, masked above the diagonal. -/
def logits (q : FVec Ideal S4x4096x12x64 .f32) (k : FVec Ideal S4x4096x4x64 .f32) (f : FVec Ideal S4x4096x12 .f32) :
    FVec Ideal S4x4x3x4096x4096 .f32 :=
  let ch := transpose S4x4x3x4096 [0, 2, 3, 1] (shapeCast S4x4096x4x3 (cum f) shapeCasts_S4x4096x12_S4x4096x4x3) transposes_S4x4096x4x3_S4x4x3x4096_0_2_3_1
  select (broadcastInDim S4x4x3x4096x4096 ![3, 4] bcast_S4096x4096_S4x4x3x4096x4096_3_4 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))
    (addf (mulf (transpose S4x4x3x4096x4096 [0, 1, 4, 3, 2] (Host.dotGeneral dot_S4x4096x4x64_S4x4096x4x3x64_S4x4x4096x4096x3_3_4_1_13_02_02 none k (shapeCast S4x4096x4x3x64 q shapeCasts_S4x4096x12x64_S4x4096x4x3x64)) transposes_S4x4x4096x4096x3_S4x4x3x4096x4096_0_1_4_3_2) (broadcastInDim S4x4x3x4096x4096 ![] bcast_S_S4x4x3x4096x4096 (constant S_ .f32 0x3E000000#32)))
      (subf (broadcastInDim S4x4x3x4096x4096 ![0, 1, 2, 3, 4] bcast_S4x4x3x4096x1_S4x4x3x4096x4096_0_1_2_3_4 (broadcastInDim S4x4x3x4096x1 ![0, 1, 2, 3] bcast_S4x4x3x4096_S4x4x3x4096x1_0_1_2_3 ch))
        (broadcastInDim S4x4x3x4096x4096 ![0, 1, 2, 3, 4] bcast_S4x4x3x1x4096_S4x4x3x4096x4096_0_1_2_3_4 (broadcastInDim S4x4x3x1x4096 ![0, 1, 2, 4] bcast_S4x4x3x4096_S4x4x3x1x4096_0_1_2_4 ch))))
    (broadcastInDim S4x4x3x4096x4096 ![] bcast_S_S4x4x3x4096x4096 (constant S_ .f32 0xFF800000#32))

def top (s : FVec Ideal S4x4x3x4096x4096 .f32) : FVec Ideal S4x4x3x4096 .f32 :=
  maximumf (broadcastInDim S4x4x3x4096 ![] bcast_S_S4x4x3x4096 (constant S_ .f32 0xFF800000#32)) (Host.reduce FloatOps.maximumf s (constant S_ .f32 0xFF800000#32) reducesTo_S4x4x3x4096x4096_S4x4x3x4096_d4 h_S_)

def expo (s : FVec Ideal S4x4x3x4096x4096 .f32) : FVec Ideal S4x4x3x4096x4096 .f32 :=
  Host.exp (subf s (broadcastInDim S4x4x3x4096x4096 ![0, 1, 2, 3, 4] bcast_S4x4x3x4096x1_S4x4x3x4096x4096_0_1_2_3_4 (broadcastInDim S4x4x3x4096x1 ![0, 1, 2, 3] bcast_S4x4x3x4096_S4x4x3x4096x1_0_1_2_3 (top s))))

def mean (e : FVec Ideal S4x4x3x4096x4096 .f32) (v : FVec Ideal S4x4096x4x64 .f32) : FVec Ideal S16384x768 .f32 :=
  shapeCast S16384x768 (transpose S4x4096x3x4x64 [0, 4, 3, 1, 2] (Host.dotGeneral dot_S4x4096x4x64_S4x4x3x4096x4096_S4x4x64x3x4096_1_4_3_23_02_01 none v
    (Host.divf e (broadcastInDim S4x4x3x4096x4096 ![0, 1, 2, 3, 4] bcast_S4x4x3x4096x1_S4x4x3x4096x4096_0_1_2_3_4 (broadcastInDim S4x4x3x4096x1 ![0, 1, 2, 3] bcast_S4x4x3x4096_S4x4x3x4096x1_0_1_2_3 (Host.reduceAdd e (constant S_ .f32 0x00000000#32) reducesTo_S4x4x3x4096x4096_S4x4x3x4096_d4 h_S_))))) transposes_S4x4x64x3x4096_S4x4096x3x4x64_0_4_3_1_2)
    shapeCasts_S4x4096x3x4x64_S16384x768

theorem res_eq (m : (ℓ : Loc nD τ sig) → Buf (Elt Ideal) ℓ) (c : Dev nD) :
    Value.res_out0 m c = mean (expo (logits (m (c.tc.loc main_arg0)) (m (c.tc.loc main_arg1)) (m (c.tc.loc main_arg3)))) (m (c.tc.loc main_arg2)) := rfl

theorem fold5 {n0 n1 n2 n3 n4 : ℕ} (h : (⟨5, ![n0, n1, n2, n3, n4]⟩ : Shape).ReducesTo [4] (⟨4, ![n0, n1, n2, n3]⟩ : Shape))
    (x : FVec Ideal ⟨5, ![n0, n1, n2, n3, n4]⟩ .f32) (v : FVec Ideal ⟨0, ![]⟩ .f32) (hu : 0 < (⟨0, ![]⟩ : Shape).numel)
    (a : Fin n0) (b : Fin n1) (c : Fin n2) (d : Fin n3) :
    Host.reduce FloatOps.maximumf x v h hu (ix4 a b c d) = Finset.univ.fold max (v (Shape.Idx.first hu) : EReal) (fun e => x (ix5 a b c d e)) := by
  pointwise

theorem max_at {s : Shape} (x y : FVec Ideal s .f32) (j : s.Idx) : maximumf x y j = max (x j : EReal) (y j) := rfl

theorem splat_at {s t : Shape} (d : Fin s.rank → Fin t.rank) (h : s.BroadcastsInDim t d) (w : BitVec 32) (j : t.Idx) :
    broadcastInDim t d h (constant (F := Ideal) s .f32 w) j = Ideal.ofBits .f32 w := rfl

theorem const_at {s : Shape} (w : BitVec 32) (j : s.Idx) : constant (F := Ideal) s .f32 w j = Ideal.ofBits .f32 w := rfl

theorem top_apply (x : FVec Ideal S4x4x3x4096x4096 .f32)
    (b g : Fin 4) (j : Fin 3) (t : Fin 4096) : top x (ix4 b g j t) = max (Ideal.ofBits FTy.f32 4286578688#32)
      (Finset.univ.fold max (Ideal.ofBits FTy.f32 4286578688#32) (fun s => x (ix5 b g j t s))) := by
  rw [top, max_at, splat_at, fold5, const_at]

theorem ninf : Ideal.ofBits FTy.f32 4286578688#32 = (⊥ : EReal) := by
  simp [Ideal.ofBits, Ideal.ieee]

theorem eighth : Ideal.ofBits FTy.f32 1040187392#32 = ((1 / 8 : ℝ) : EReal) := by
  simp [Ideal.ofBits, Ideal.ieee]
  rw [← EReal.coe_mul]
  norm_num

theorem logits_apply (q : FVec Ideal S4x4096x12x64 .f32) (k : FVec Ideal S4x4096x4x64 .f32) (f : FVec Ideal S4x4096x12 .f32)
    (b g : Fin 4) (j : Fin 3) (t s : Fin 4096) : logits q k f (ix5 b g j t s)
      = if s.val < t.val + 1 then (∑ d, k (ix4 b s g d) * q (ix4 b t ⟨g.val * 3 + j.val, by omega⟩ d)) * ((1 / 8 : ℝ) : EReal)
        + (cum f (ix3 b t ⟨g.val * 3 + j.val, by omega⟩) - cum f (ix3 b s ⟨g.val * 3 + j.val, by omega⟩)) else ⊥ := by
  pointwise [logits]
  have hw : IntOp.cmpi CmpIPredicate.sle (BitVec.ofNat 32 s.val) (BitVec.ofNat 32 t.val) = if s.val < t.val + 1 then 1#1 else 0#1 := by
    have := s.isLt
    have := t.isLt
    split <;> word_omega
  rw [hw, ninf, eighth]
  split <;> rfl

theorem expo_apply (x : FVec Ideal S4x4x3x4096x4096 .f32)
    (b g : Fin 4) (j : Fin 3) (t s : Fin 4096) : expo x (ix5 b g j t s) = Ideal.exp (x (ix5 b g j t s) - top x (ix4 b g j t)) := by
  pointwise [expo]

theorem mean_apply (x : FVec Ideal S4x4x3x4096x4096 .f32) (v : FVec Ideal S4x4096x4x64 .f32)
    (R : Fin 16384) (C : Fin 768) : mean x v (ix2 R C) = ∑ s, v (ix4 ⟨R.val / 4096, by omega⟩ s ⟨C.val / 64 % 4, by omega⟩ ⟨C.val % 64, by omega⟩)
      * Ideal.div (x (ix5 ⟨R.val / 4096, by omega⟩ ⟨C.val / 64 % 4, by omega⟩ ⟨C.val / 256, by omega⟩ ⟨R.val % 4096, by omega⟩ s))
        (∑ n, x (ix5 ⟨R.val / 4096, by omega⟩ ⟨C.val / 64 % 4, by omega⟩ ⟨C.val / 256, by omega⟩ ⟨R.val % 4096, by omega⟩ n)) := by
  pointwise [mean]

/-- A softmax row of which the first `t` columns count, as a weighted mean. -/
theorem softmax_row {T t : ℕ} (h0 : 0 < t) (ht : t ≤ T) (y : ℕ → ℝ) (v : ℕ → EReal) {S V : Fin T → EReal}
    (hS : ∀ n, S n = if n.val < t then (y n.val : EReal) else ⊥) (hV : ∀ n, V n = v n.val) :
    ∑ n, V n * Ideal.div (Ideal.exp (S n - max ⊥ (Finset.univ.fold max ⊥ S))) (∑ k, Ideal.exp (S k - max ⊥ (Finset.univ.fold max ⊥ S)))
      = ∑ n ∈ Finset.range t, ((Real.exp (y n) / ∑ k ∈ Finset.range t, Real.exp (y k) : ℝ) : EReal) * v n := by
  obtain ⟨M, hM⟩ := Cert.Row.fold_real h0 ht y S hS
  rw [hM, bot_sup_eq]
  have he : ∀ n : Fin T, Ideal.exp (S n - (M : EReal)) = if n.val < t then ((Real.exp (y n.val - M) : ℝ) : EReal) else 0 := fun n => by
    rw [hS]; split
    · rw [← EReal.coe_sub, Ideal.exp_coe]
    · rw [EReal.bot_sub, Ideal.exp_bot]
  have hL : 0 < ∑ k ∈ Finset.range t, Real.exp (y k) := Finset.sum_pos (fun _ _ => Real.exp_pos _) (Finset.nonempty_range_iff.2 h0.ne')
  have hM' := Real.exp_pos (-M)
  have hs : ∀ n, Real.exp (y n - M) = Real.exp (y n) * Real.exp (-M) := fun n => by rw [← Real.exp_add, sub_eq_add_neg]
  rw [Cert.Row.sum_head ht (fun n => ((Real.exp (y n - M) : ℝ) : EReal)) _ he, ← Cert.Row.coe_sum]
  refine Cert.Row.sum_head ht (fun n => ((Real.exp (y n) / ∑ k ∈ Finset.range t, Real.exp (y k) : ℝ) : EReal) * v n) _ fun n => ?_
  simp only [he, hs, ← Finset.sum_mul, hV]
  rw [Ideal.div_coe (mul_pos hL hM').ne']
  split
  · rw [← EReal.coe_mul, mul_comm]
    congr 2
    field_simp
  · simp

theorem fold_add_real {α : Type*} (f : α → EReal) (hf : ∀ a, ∃ r : ℝ, f a = r) : ∀ (l : List α) (s : ℝ),
    ∃ r : ℝ, l.foldl (fun r a => r + f a) (s : EReal) = r
  | [], s => ⟨s, rfl⟩
  | a :: l, s => by
    obtain ⟨u, hu⟩ := hf a
    rw [List.foldl_cons, hu, ← EReal.coe_add]
    exact fold_add_real f hf l _

/-- Windowed sums of finite elements are finite. -/
theorem window_real {s t u : Shape} (w st lo hi : Fin s.rank → ℕ) (x : FVec Ideal s .f32) (init : FVec Ideal u .f32)
    (h : s.ReduceWindows w st lo hi t) (hu : 0 < u.numel) (hx : ∀ i, ∃ r : ℝ, x i = (r : EReal))
    (h0 : ∃ r : ℝ, init (Shape.Idx.first hu) = (r : EReal)) (j : t.Idx) :
    ∃ r : ℝ, Host.reduceWindowAdd w st lo hi x init h hu j = (r : EReal) := by
  obtain ⟨r0, h0⟩ := h0
  show ∃ r : ℝ, Host.reduceWindow (· + ·) w st lo hi x (fun _ : (⟨0, ![]⟩ : Shape).Idx => init (Shape.Idx.first hu)) h (by decide) j = (r : EReal)
  unfold Host.reduceWindow
  dsimp only
  rw [h0]
  refine fold_add_real _ (fun n => ?_) _ r0
  split
  · exact hx _
  · exact ⟨r0, rfl⟩

theorem cum_real (f : FVec Ideal S4x4096x12 .f32) (hf : ∀ i, ∃ r : ℝ, f i = (r : EReal)) (j : S4x4096x12.Idx) :
    ∃ r : ℝ, cum f j = (r : EReal) :=
  window_real _ _ _ _ f _ _ _ hf ⟨0, Ideal.ofBits_zero_f32⟩ j

theorem ratio (t : ℕ) (x y : ℕ → ℝ) (c : ℝ) (h : ∀ n, y n = Real.log 2 * x n + c) (j : ℕ) :
    Real.rpow 2 (x j) / ∑ n ∈ Finset.range t, Real.rpow 2 (x n) = Real.exp (y j) / ∑ n ∈ Finset.range t, Real.exp (y n) := by
  have e : ∀ n, Real.exp (y n) = Real.rpow 2 (x n) * Real.exp c := fun n => by
    rw [h, Real.exp_add]; congr 1
    exact (Real.rpow_def_of_pos two_pos (x n)).symm
  simp only [e, ← Finset.sum_mul]
  rw [mul_div_mul_right _ _ (Real.exp_pos c).ne']

/-- The reference's element `(R, C)` as a weighted mean. -/
theorem ref_apply (q : FVec Ideal S4x4096x12x64 .f32) (k v : FVec Ideal S4x4096x4x64 .f32) (f : FVec Ideal S4x4096x12 .f32)
    (R : Fin 16384) (C : Fin 768) (y : ℕ → ℝ) (w : ℕ → EReal)
    (hy : ∀ n : Fin 4096, (∑ d, k (ix4 ⟨R.val / 4096, by omega⟩ n ⟨C.val / 64 % 4, by omega⟩ d)
          * q (ix4 ⟨R.val / 4096, by omega⟩ ⟨R.val % 4096, by omega⟩ ⟨C.val / 64 % 4 * 3 + C.val / 256, by omega⟩ d)) * ((1 / 8 : ℝ) : EReal)
        + (cum f (ix3 ⟨R.val / 4096, by omega⟩ ⟨R.val % 4096, by omega⟩ ⟨C.val / 64 % 4 * 3 + C.val / 256, by omega⟩)
          - cum f (ix3 ⟨R.val / 4096, by omega⟩ n ⟨C.val / 64 % 4 * 3 + C.val / 256, by omega⟩)) = (y n.val : EReal))
    (hw : ∀ n : Fin 4096, v (ix4 ⟨R.val / 4096, by omega⟩ n ⟨C.val / 64 % 4, by omega⟩ ⟨C.val % 64, by omega⟩) = w n.val) :
    mean (expo (logits q k f)) v (ix2 R C)
      = ∑ n ∈ Finset.range (R.val % 4096 + 1), ((Real.exp (y n) / ∑ k ∈ Finset.range (R.val % 4096 + 1), Real.exp (y k) : ℝ) : EReal) * w n := by
  rw [mean_apply, ← softmax_row (T := 4096) (Nat.succ_pos _) (Nat.mod_lt _ (by decide)) y w
    (S := fun n => logits q k f (ix5 ⟨R.val / 4096, by omega⟩ ⟨C.val / 64 % 4, by omega⟩ ⟨C.val / 256, by omega⟩ ⟨R.val % 4096, by omega⟩ n)) (fun n => ?_) hw]
  · simp only [expo_apply, top_apply, ninf]
  · rw [logits_apply]
    dsimp only
    rw [hy]

end Cert.ReferenceIdeal.Fox
end
-- ==== Proof.Fox.Array.lean ====
module

public import proofs.«01_k».proof.Proof.Fox.Block
public import proofs.«01_k».proof.Proof.Fox.Ref
public import proofs.«01_k».proof.Proof.Gen.KernelIdeal.Value
public import Idealize.ShloMosaic.Lib.Pipeline.ValueKit
public import Idealize.ShloMosaic.Lib.StableHlo.ReadAt

@[expose] public section

set_option maxRecDepth 16384

noncomputable section

/-! The kernel's result array is the reference's. -/

namespace Cert.KernelIdeal.Fox

open Cert.KernelIdeal Cert.KernelIdeal.Gen Idealize.ShloMosaic Idealize.ShloMosaic.TcCoe

theorem idx0 : ∀ t : Fin cfg0.N, win0_0.index t = ![8 * (grid0.coords t 0).val + (grid0.coords t 2).val, (grid0.coords t 1).val] := by
  decide +kernel
theorem idx1 : ∀ t : Fin cfg0.N, win0_1.index t = ![(grid0.coords t 0).val, 0, 0, 0] := by decide +kernel
theorem idx2 : ∀ t : Fin cfg0.N, win0_2.index t = ![(grid0.coords t 0).val, 0, 0, 0] := by decide +kernel
theorem idx3 : ∀ t : Fin cfg0.N, win0_3.index t = ![(grid0.coords t 0).val, (grid0.coords t 1).val, 0, 0] := by decide +kernel
theorem idx4 : ∀ t : Fin cfg0.N, win0_4.index t = ![8 * (grid0.coords t 0).val + (grid0.coords t 2).val, (grid0.coords t 1).val] := by
  decide +kernel

variable (m : (ℓ : Loc nD τ sig) → Buf (Elt Ideal) ℓ) (c : Dev nD) (t : Fin cfg0.N)

/-- Grid point `t`'s batch. -/
def bat : Fin 4 := ⟨(grid0.coords t 0).val, (grid0.coords t 0).isLt⟩

/-- The arguments, as arrays of their shapes. -/
abbrev argQ : FVec Ideal S4x4096x12x64 .f32 := m (c.tc.loc main_arg0)
abbrev argK : FVec Ideal S4x4096x4x64 .f32 := m (c.tc.loc main_arg1)
abbrev argV : FVec Ideal S4x4096x4x64 .f32 := m (c.tc.loc main_arg2)
abbrev argF : FVec Ideal S4x4096x12 .f32 := m (c.tc.loc main_arg3)

theorem blk0 (a : Fin 512) (e : Fin 256) : iblk m c 0 t (ix2 a e)
    = argQ m c (ix4 (bat t) ⟨512 * (grid0.coords t 2).val + a.val, by have : (grid0.coords t 2).val < 8 := (grid0.coords t 2).isLt; omega⟩
        ⟨e.val / 64 * 3 + (grid0.coords t 1).val, by have : (grid0.coords t 1).val < 3 := (grid0.coords t 1).isLt; omega⟩ ⟨e.val % 64, by omega⟩) := by
  have h0 : (grid0.coords t 0).val < 4 := (grid0.coords t 0).isLt
  have h1 : (grid0.coords t 1).val < 3 := (grid0.coords t 1).isLt
  have h2 : (grid0.coords t 2).val < 8 := (grid0.coords t 2).isLt
  blk_simp [iblk]
  unfold V
  after_reads_at
  refine congrArg (argQ m c) (congr (congr (congr (congrArg ix4 ?_) ?_) ?_) ?_) <;> apply Fin.ext <;> blk_simp [bat, idx0 t] <;> dsimp only <;> omega

theorem blk1 (e : Fin 256) (n : Fin 4096) : col (iblk m c 1 t) e n.val
    = argK m c (ix4 (bat t) n ⟨e.val / 64, by omega⟩ ⟨e.val % 64, by omega⟩) := by
  unfold col
  blk_simp [iblk]
  unfold V
  after_reads_at
  refine congrArg (argK m c) (congr (congr (congr (congrArg ix4 ?_) ?_) ?_) ?_) <;> apply Fin.ext <;> blk_simp [bat, idx1 t]
  · simp
  · have := n.isLt; simp; omega

theorem blk2 (e : Fin 256) (n : Fin 4096) : col (iblk m c 2 t) e n.val
    = argV m c (ix4 (bat t) n ⟨e.val / 64, by omega⟩ ⟨e.val % 64, by omega⟩) := by
  unfold col
  blk_simp [iblk]
  unfold V
  after_reads_at
  refine congrArg (argV m c) (congr (congr (congr (congrArg ix4 ?_) ?_) ?_) ?_) <;> apply Fin.ext <;> blk_simp [bat, idx2 t]
  · simp
  · have := n.isLt; simp; omega

theorem blk3 (g : Fin 4) (n : Fin 4096) : ccol (iblk m c 3 t) g n.val
    = Cert.ReferenceIdeal.Fox.cum (argF m c) (ix3 (bat t) n
        ⟨g.val * 3 + (grid0.coords t 1).val, by have : (grid0.coords t 1).val < 3 := (grid0.coords t 1).isLt; omega⟩) := by
  unfold ccol
  blk_simp [iblk]
  unfold V
  after_reads_at
  have he : (((View.whole main_v6).slice (win0_3.rect t)).emb (ix4 0 0 ⟨g.val, g.isLt.trans (by decide)⟩ (Fin.ofNat 4096 n.val)) 2).val = g.val := by
    blk_simp [idx3 t]
  rw [dif_pos (he.trans_lt g.isLt)]
  refine congrArg (Cert.ReferenceIdeal.Fox.cum (argF m c)) (congr (congr (congrArg ix3 ?_) ?_) ?_) <;> apply Fin.ext
  · blk_simp [bat, idx3 t]; simp
  · blk_simp [idx3 t]; simp
  · dsimp only; rw [he]; blk_simp [idx3 t]; simp

open Cert.ReferenceIdeal.Fox (cum mean expo logits ref_apply cum_real ratio)

theorem tLt : (grid0.coords t 0).val < 4 ∧ (grid0.coords t 1).val < 3 ∧ (grid0.coords t 2).val < 8 :=
  ⟨(grid0.coords t 0).isLt, (grid0.coords t 1).isLt, (grid0.coords t 2).isLt⟩

/-- The kernel's score of query `(b, T, h)` and key `n`, in units of `log 2`. -/
theorem kernel_score (q : S4x4096x12x64.Idx → ℝ) (hq : ∀ i, argQ m c i = (q i : EReal)) (k : S4x4096x4x64.Idx → ℝ)
    (hk : ∀ i, argK m c i = (k i : EReal)) (u : S4x4096x12.Idx → ℝ) (hu : ∀ i, cum (argF m c) i = (u i : EReal))
    (a : Fin 512) (e : Fin 256) (T : Fin 4096) (h : Fin 12) (g : Fin 4) (hT : T.val = 512 * (grid0.coords t 2).val + a.val)
    (hh : h.val = e.val / 64 * 3 + (grid0.coords t 1).val) (hg : g.val = e.val / 64) (n : Fin 4096) :
    ∑ d : Fin 64, (show Vec Ideal S512x256 .f32 from iblk m c 0 t) (ix2 a ⟨64 * (e.val / 64) + d.val, by omega⟩) * (((1 / 8) * (Real.log 2)⁻¹ : ℝ) : EReal)
          * col (iblk m c 1 t) ⟨64 * (e.val / 64) + d.val, by omega⟩ n.val
        + ((-((Real.log 2)⁻¹) : ℝ) : EReal) * ccol (iblk m c 3 t) ⟨e.val / 64, by omega⟩ n.val
      = (((Real.log 2)⁻¹ * ((∑ d : Fin 64, k (ix4 (bat t) n g d) * q (ix4 (bat t) T h d)) * (1 / 8) - u (ix3 (bat t) n h)) : ℝ) : EReal) := by
  have eQ : ∀ d : Fin 64, iblk m c 0 t (ix2 a ⟨64 * (e.val / 64) + d.val, by omega⟩) = ((q (ix4 (bat t) T h d) : ℝ) : EReal) := fun d => by
    rw [blk0, hq]
    refine congrArg (fun i => ((q i : ℝ) : EReal)) (congr (congr (congr rfl (Fin.ext ?_)) (Fin.ext ?_)) (Fin.ext ?_)) <;> dsimp only <;> omega
  have eK : ∀ d : Fin 64, col (iblk m c 1 t) ⟨64 * (e.val / 64) + d.val, by omega⟩ n.val = ((k (ix4 (bat t) n g d) : ℝ) : EReal) := fun d => by
    rw [blk1, hk]
    refine congrArg (fun i => ((k i : ℝ) : EReal)) (congr (congr rfl (Fin.ext ?_)) (Fin.ext ?_)) <;> dsimp only <;> omega
  have eC : ccol (iblk m c 3 t) ⟨e.val / 64, by omega⟩ n.val = ((u (ix3 (bat t) n h) : ℝ) : EReal) := by
    rw [blk3, hu]
    refine congrArg (fun i => ((u i : ℝ) : EReal)) (congr rfl (Fin.ext ?_)) <;> dsimp only <;> omega
  simp only [eQ, eK, eC, ← EReal.coe_mul, ← Cert.Row.coe_sum, ← EReal.coe_add]
  refine congrArg _ ?_
  rw [mul_sub, Finset.sum_mul, Finset.mul_sum, neg_mul, ← sub_eq_add_neg]
  exact congrArg (· - _) (Finset.sum_congr rfl fun d _ => by ring)

/-- The reference's logit of query `(b, T, h)` and key `n`. -/
theorem reference_logit (Q : FVec Ideal S4x4096x12x64 .f32) (K : FVec Ideal S4x4096x4x64 .f32) (U : FVec Ideal S4x4096x12 .f32)
    (q : S4x4096x12x64.Idx → ℝ) (hq : ∀ i, Q i = (q i : EReal)) (k : S4x4096x4x64.Idx → ℝ)
    (hk : ∀ i, K i = (k i : EReal)) (u : S4x4096x12.Idx → ℝ) (hu : ∀ i, U i = (u i : EReal))
    (b b' : Fin 4) (T T' : Fin 4096) (h h' : Fin 12) (g g' : Fin 4) (eb : b' = b) (eT : T' = T) (eh : h' = h) (eg : g' = g) (n : Fin 4096) :
    (∑ d : Fin 64, K (ix4 b' n g' d) * Q (ix4 b' T' h' d)) * ((1 / 8 : ℝ) : EReal) + (U (ix3 b' T' h') - U (ix3 b' n h'))
      = (((∑ d : Fin 64, k (ix4 b n g d) * q (ix4 b T h d)) * (1 / 8) + (u (ix3 b T h) - u (ix3 b n h)) : ℝ) : EReal) := by
  subst eb eT eh eg
  simp only [hq, hk, hu, ← EReal.coe_mul, ← Cert.Row.coe_sum, ← EReal.coe_add, ← EReal.coe_sub]

theorem array_eq (hq : ∀ i, ∃ r : ℝ, argQ m c i = (r : EReal)) (hk : ∀ i, ∃ r : ℝ, argK m c i = (r : EReal))
    (hf : ∀ i, ∃ r : ℝ, argF m c i = (r : EReal)) :
    (dats m 0 c).arrAt 4 cfg0.N = mean (expo (logits (argQ m c) (argK m c) (argF m c))) (argV m c) := by
  choose q hq using hq
  choose k hk using hk
  choose u hu using fun i => cum_real (argF m c) hf i
  refine (dats m 0 c).arrAt_eq_of_covers 4 _ (by decide +kernel) fun t hf y => ?_
  blk_simp
  rw [after0_4]
  obtain ⟨a, e, rfl⟩ : ∃ a e, y = ix2 a e := ⟨y 0, y 1, eq_ix2 y⟩
  obtain ⟨h0, h1, h2⟩ := tLt t
  have ha := a.isLt
  have he := e.isLt
  have hemb : ((cfg0.win 4).blk t).view.emb (ix2 a e)
      = ix2 (⟨4096 * (grid0.coords t 0).val + 512 * (grid0.coords t 2).val + a.val, by omega⟩ : Fin 16384)
        (⟨256 * (grid0.coords t 1).val + e.val, by omega⟩ : Fin 768) := by
    blk_ext [idx4 t]
  refine Eq.trans ?_ (congrArg (mean (expo (logits (argQ m c) (argK m c) (argF m c))) (argV m c)) hemb).symm
  obtain ⟨T, hT⟩ : ∃ T : Fin 4096, T.val = 512 * (grid0.coords t 2).val + a.val := ⟨⟨512 * (grid0.coords t 2).val + a.val, by omega⟩, rfl⟩
  obtain ⟨h, hh⟩ : ∃ h : Fin 12, h.val = e.val / 64 * 3 + (grid0.coords t 1).val := ⟨⟨e.val / 64 * 3 + (grid0.coords t 1).val, by omega⟩, rfl⟩
  obtain ⟨g, hg⟩ : ∃ g : Fin 4, g.val = e.val / 64 := ⟨⟨e.val / 64, by omega⟩, rfl⟩
  have hb : (bat t).val = (grid0.coords t 0).val := rfl
  obtain ⟨S, hS⟩ : ∃ S : ℕ → ℝ, ∀ n : Fin 4096, S n.val = ∑ d : Fin 64, k (ix4 (bat t) n g d) * q (ix4 (bat t) T h d) :=
    ⟨fun n => ∑ d : Fin 64, k (ix4 (bat t) (Fin.ofNat 4096 n) g d) * q (ix4 (bat t) T h d), fun n => by
      dsimp only; rw [show Fin.ofNat 4096 n.val = n from Fin.ext (by simp)]⟩
  obtain ⟨C, hC⟩ : ∃ C : ℕ → ℝ, ∀ n : Fin 4096, C n.val = u (ix3 (bat t) n h) :=
    ⟨fun n => u (ix3 (bat t) (Fin.ofNat 4096 n) h), fun n => by dsimp only; rw [show Fin.ofNat 4096 n.val = n from Fin.ext (by simp)]⟩
  have hr : (4096 * (grid0.coords t 0).val + 512 * (grid0.coords t 2).val + a.val) % 4096 = 512 * (grid0.coords t 2).val + a.val := by omega
  have key := ref_apply (argQ m c) (argK m c) (argV m c) (argF m c)
    (⟨4096 * (grid0.coords t 0).val + 512 * (grid0.coords t 2).val + a.val, by omega⟩ : Fin 16384)
    (⟨256 * (grid0.coords t 1).val + e.val, by omega⟩ : Fin 768) (fun n => S n * (1 / 8) + (C T.val - C n))
    (col (iblk m c 2 t) e) (fun n => by
      rw [hS, hC, hC]
      refine reference_logit (argQ m c) (argK m c) (cum (argF m c)) q hq k hk u hu (bat t) _ T _ h _ g _ (Fin.ext ?_) (Fin.ext ?_) (Fin.ext ?_) (Fin.ext ?_) n
      all_goals dsimp only; omega) (fun n => by
      rw [blk2]
      refine congrArg (argV m c) (congr (congr (congr (congrArg ix4 (Fin.ext ?_)) rfl) (Fin.ext ?_)) (Fin.ext ?_)) <;> dsimp only <;> omega)
  dsimp only at key
  rw [hr] at key
  refine Eq.trans ?_ key.symm
  have hx := blockOut_apply (iblk m c 1 t) (iblk m c 2 t) (iblk m c 3 t) (grid0.coords t) (fun n => (Real.log 2)⁻¹ * (S n * (1 / 8) - C n))
    (iblk m c 0 t) a e (fun n hn => by
      have := kernel_score m c t q hq k hk u hu a e T h g hT hh hg ⟨n, by omega⟩
      rw [← hS, ← hC] at this
      exact this)
  have hr := fun n => ratio (512 * (grid0.coords t 2).val + a.val + 1) (fun n => (Real.log 2)⁻¹ * (S n * (1 / 8) - C n))
    (fun n => S n * (1 / 8) + (C T.val - C n)) (C T.val) (fun n => by
        rw [mul_inv_cancel_left₀ (Real.log_pos one_lt_two).ne']; ring) n
  unfold outsAt0
  rw [out_eq, hx]
  simp only [hr]

end Cert.KernelIdeal.Fox
end
-- ==== Proof.Fox.Finite.lean ====
module

public import proofs.«01_k».proof.Pre_finite
public import proofs.«01_k».proof.Proof.Gen.KernelIdeal.Value
public import Idealize.ShloMosaic.Lib.ReduceAll
public import Idealize.ShloMosaic.Lib.Affine
public import Idealize.ShloMosaic.Lib.Pointwise

@[expose] public section

noncomputable section

namespace Cert.Pre_finite

open Idealize.ShloMosaic

theorem facts : Facts where
  bcast_S_S4x4096x12x64 := by decide
  reducesTo_S4x4096x12x64_S_d0_1_2_3 := by decide
  h_S_ := by decide
  bcast_S_S4x4096x4x64 := by decide
  reducesTo_S4x4096x4x64_S_d0_1_2_3 := by decide
  bcast_S_S4x4096x12 := by decide
  reducesTo_S4x4096x12_S_d0_1_2 := by decide

/-- A number whose absolute value compares below infinity is real. -/
theorem real_of_abs_lt (x : EReal) (h : Ideal.cmp .olt (max x (-x)) (Ideal.ofBits FTy.f32 0x7F800000#32) = 1#1) : ∃ r : ℝ, x = (r : EReal) := by
  have ht : Ideal.ofBits FTy.f32 0x7F800000#32 = (⊤ : EReal) := by simp [Ideal.ofBits, Ideal.ieee]
  rw [ht] at h
  induction x with
  | bot => simp [Ideal.cmp] at h
  | top => simp [Ideal.cmp] at h
  | coe r => exact ⟨r, rfl⟩

/-- An array all of whose absolute values compare below infinity is real throughout. -/
theorem real_of_all {s : Shape} {axes : List (Fin s.rank)} (x : FVec Ideal s .f32) (b : S_.BroadcastsInDim s (![] : Fin 0 → Fin s.rank))
    (h : s.ReducesTo axes S_) (h0 : 0 < S_.numel) (j : S_.Idx)
    (e : Host.reduce IntOp.andi (cmpf .olt (Host.absf x) (broadcastInDim s ![] b (constant S_ .f32 0x7F800000#32))) (constantI S_ 1 1#1) h h0 j = 1#1)
    (i : s.Idx) : ∃ r : ℝ, x i = (r : EReal) := by
  have : Subsingleton S_.Idx := ⟨fun a b => funext fun k => k.elim0⟩
  exact real_of_abs_lt _ (Host.reduce_andi_all _ _ h h0 j e i)

variable [Facts]

/-- What the precondition says: queries, keys and log gates are real numbers. -/
theorem real (q : FVec Ideal S4x4096x12x64 .f32) (k v : FVec Ideal S4x4096x4x64 .f32) (f : FVec Ideal S4x4096x12 .f32)
    (h : fn (F := Ideal) q k v f = fun _ => 1#1) :
    (∀ i, ∃ r : ℝ, q i = (r : EReal)) ∧ (∀ i, ∃ r : ℝ, k i = (r : EReal)) ∧ ∀ i, ∃ r : ℝ, f i = (r : EReal) := by
  have hj := congrFun h (Shape.Idx.first Facts.h_S_)
  dsimp only [fn] at hj
  obtain ⟨hqk, hf⟩ := IntOp.andi_eq_one.1 hj
  obtain ⟨hq, hk⟩ := IntOp.andi_eq_one.1 hqk
  exact ⟨real_of_all q _ _ _ _ hq, real_of_all k _ _ _ _ hk, real_of_all f _ _ _ _ hf⟩

end Cert.Pre_finite
end
-- ==== Proof.Fox.Claims.lean ====
module

public import proofs.«01_k».proof.Defs
public import proofs.«01_k».proof.Proof.Fox.Array
public import proofs.«01_k».proof.Proof.Fox.Finite
public import proofs.«01_k».proof.Proof.Gen.Kernel.Frame
public import proofs.«01_k».proof.Proof.Gen.KernelIdeal.Frame
public import Idealize.ShloMosaic.Lib.Quiescent
public import Idealize.ShloMosaic.Adequacy
public import Idealize.ShloMosaic.Init

@[expose] public section

noncomputable section

/-! The claims about the forgetting attention. -/

namespace Cert.FoxClaims

open Idealize.ShloMosaic Idealize.SL.Sem

theorem frame_p : quiescent_Kernel (hKernel := Cert.Kernel.Gen.facts) := fun m ρ _ => Cert.Kernel.Gen.frame m ρ

theorem frame_pi : quiescent_KernelIdeal (hKernelIdeal := Cert.KernelIdeal.Gen.facts) := fun m ρ _ => Cert.KernelIdeal.Gen.frame m ρ

theorem frame_pi_pre : quiescent_KernelIdeal_pre_finite (hKernelIdeal := Cert.KernelIdeal.Gen.facts) (hPre_finite := Cert.Pre_finite.facts) :=
  fun m ρ _ => Cert.KernelIdeal.Gen.frame m ρ

theorem frame_ri : quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_ri_pre : quiescent_ReferenceIdeal_pre_finite (hReferenceIdeal := Cert.ReferenceIdeal.Gen.facts) (hPre_finite := Cert.Pre_finite.facts) :=
  fun m ρ _ => frame_ri m ρ trivial

theorem preserves : preserves_Kernel_KernelIdeal :=
  ⟨IdealRules.named_const.statement Cert.KernelIdeal.κ "q_scale" .f32 0x3E38AA3B#32 _ rfl,
    IdealRules.named_const.statement Cert.KernelIdeal.κ "mask" .f32 0xF149F2CA#32 _ rfl,
    IdealRules.named_const.statement Cert.KernelIdeal.κ "neg_log2e" .f32 0xBFB8AA3B#32 _ rfl⟩

theorem algebraic : algebraic_KernelIdeal_ReferenceIdeal_pre_finite (hKernelIdeal := Cert.KernelIdeal.Gen.facts)
    (hReferenceIdeal := Cert.ReferenceIdeal.Gen.facts) (hPre_finite := Cert.Pre_finite.facts) := by
  intro m ρ m' ρ' hpre hagree
  refine ⟨_, Cert.KernelIdeal.Value.run_blocks m ρ, ?_⟩
  refine (θ_run Cert.ReferenceIdeal.defs _ _).mono (fun _ h c => ⟨(h c).1.trans ?_, (h c).2⟩) (Cert.ReferenceIdeal.Value.run (F := Ideal) m' ρ')
  obtain ⟨hq, hk, hf⟩ := @Cert.Pre_finite.real Cert.Pre_finite.facts _ _ _ _ (hpre c)
  obtain ⟨e0, e1, e2, e3⟩ := hagree c
  refine (Cert.ReferenceIdeal.Fox.res_eq m' c).trans ?_
  rw [e0, e1, e2, e3]
  exact (Cert.KernelIdeal.Fox.array_eq m c hq hk hf).symm

end Cert.FoxClaims
end
-- ==== Proof.Norm.Scale.lean ====
module

public import Idealize.ShloMosaic.Lib.Pointwise

@[expose] public section

set_option maxRecDepth 16384

noncomputable section

/-! The root mean square normalisation of a row of 1024 features. -/

namespace Cert.Norm

open Idealize.ShloMosaic

/-- The root mean square normalisation's factor of a row, before the gain. -/
def scale (x : Fin 1024 → EReal) : EReal :=
  Ideal.rsqrt (Ideal.div (∑ k, x k * x k) (Ideal.ofBits FTy.f32 0x44800000#32) + Ideal.ofBits FTy.f32 0x358637BD#32)

end Cert.Norm
end
-- ==== Proof.Memkv.Block.lean ====
module

public import proofs.«01_k».proof.Proof.Gen.MemkvIdeal.Value
public import proofs.«01_k».proof.Proof.Norm.Scale
public import Idealize.ShloMosaic.Lib.Pointwise
public import Idealize.ShloMosaic.Lib.Pipeline.ValueKit
public import Idealize.ShloMosaic.Lib.StableHlo.ReadAt

@[expose] public section

set_option maxRecDepth 16384

noncomputable section

/-! The memory keys and values: a block of the call's results read at one index. -/

namespace Cert.MemkvIdeal.Mem

open Cert.MemkvIdeal Cert.MemkvIdeal.Gen Idealize.ShloMosaic Idealize.ShloMosaic.TcCoe

variable (x0 : Vec Ideal S1x256x1024 .f32) (x1 : Vec Ideal S1x1x1024 .f32) (x2 : Vec Ideal S1x1024x512 .bf16)

open Cert.Norm (scale)

theorem prod_apply (r : Fin 256) (j : Fin 512) : k0_pay3 x0 x1 x2 (ix2 r j)
    = ∑ k, x0 (ix3 0 r k) * scale (fun k => x0 (ix3 0 r k)) * x1 (ix3 0 0 k) * x2 (ix3 0 k j) := by
  pointwise [k0_pay3, scale]

theorem out3_apply (e d : Fin 256) : out0_3 x0 x1 x2 (ix4 0 0 e d) = k0_pay3 x0 x1 x2 (ix2 d ⟨e.val, by omega⟩) := by
  unfold out0_3
  rw [View.canon_cons_unit_lit, View.ld_unit_lit, View.ld_unit_lit, View.ld_unit_lit]
  · pointwise [k0_pay6, k0_pay4]
  all_goals decide

theorem out4_apply (e d : Fin 256) : out0_4 x0 x1 x2 (ix4 0 0 e d) = k0_pay3 x0 x1 x2 (ix2 d ⟨256 + e.val, by omega⟩) := by
  unfold out0_4
  rw [View.canon_cons_unit_lit, View.ld_unit_lit, View.ld_unit_lit, View.ld_unit_lit]
  · pointwise [k0_pay7, k0_pay5]
  all_goals decide

theorem out5_apply (e d : Fin 256) : out0_5 x0 x1 x2 (ix4 0 0 e d) = k0_pay3 x0 x1 x2 (ix2 d ⟨e.val, by omega⟩) := by
  unfold out0_5
  rw [View.canon_cons_unit_lit, View.ld_unit_lit, View.ld_unit_lit, View.ld_unit_lit]
  · pointwise [k0_pay1, k0_pay8, k0_pay4]
  all_goals decide

theorem out6_apply (e d : Fin 256) : out0_6 x0 x1 x2 (ix4 0 0 e d) = k0_pay3 x0 x1 x2 (ix2 d ⟨256 + e.val, by omega⟩) := by
  unfold out0_6
  rw [View.canon_cons_unit_lit, View.ld_unit_lit, View.ld_unit_lit, View.ld_unit_lit]
  · pointwise [k0_pay2, k0_pay5]
  all_goals decide

end Cert.MemkvIdeal.Mem
end
-- ==== Proof.Memkv.Ref.lean ====
module

public import proofs.«01_k».proof.Proof.Gen.MemkvRefIdeal.Run
public import proofs.«01_k».proof.Proof.Norm.Scale
public import Idealize.ShloMosaic.Lib.Pointwise

@[expose] public section

set_option maxRecDepth 16384

noncomputable section

/-! The reference's memory keys and values read at one index. -/

namespace Cert.MemkvRefIdeal.Mem

open Cert.MemkvRefIdeal Cert.MemkvRefIdeal.Gen Idealize.ShloMosaic Idealize.ShloMosaic.TcCoe

open Cert.Norm (scale)

/-- Keys and values, side by side, features before tokens. -/
def kv (x : FVec Ideal S4x256x1024 .f32) (g : FVec Ideal S4x1024 .f32) (w : FVec Ideal S4x1024x512 .f32) : FVec Ideal S4x4x512x256 .f32 :=
  transpose S4x4x512x256 [0, 2, 1, 3] (Host.dotGeneral dot_S4x1024x512_S4x4x256x1024_S4x512x4x256_1_3_2_12_0_0 none w (mulf (broadcastInDim S4x4x256x1024 ![0, 1, 2, 3] bcast_S1x4x256x1024_S4x4x256x1024_0_1_2_3 (broadcastInDim S1x4x256x1024 ![1, 2, 3] bcast_S4x256x1024_S1x4x256x1024_1_2_3 (mulf x (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf x x) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))))) (broadcastInDim S4x4x256x1024 ![0, 1, 2, 3] bcast_S4x1x1x1024_S4x4x256x1024_0_1_2_3 (broadcastInDim S4x1x1x1024 ![0, 3] bcast_S4x1024_S4x1x1x1024_0_3 g)))) transposes_S4x512x4x256_S4x4x512x256_0_2_1_3

/-- The keys: the first 256 features. -/
def keys (x : FVec Ideal S4x256x1024 .f32) (g : FVec Ideal S4x1024 .f32) (w : FVec Ideal S4x1024x512 .f32) : FVec Ideal S4x4x256x256 .f32 :=
  extractStridedSlice S4x4x256x256 ![0, 0, 0, 0] (kv x g w) slices_S4x4x512x256_S4x4x256x256_0_0_0_0

/-- The values: the other 256 features. -/
def vals (x : FVec Ideal S4x256x1024 .f32) (g : FVec Ideal S4x1024 .f32) (w : FVec Ideal S4x1024x512 .f32) : FVec Ideal S4x4x256x256 .f32 :=
  extractStridedSlice S4x4x256x256 ![0, 0, 256, 0] (kv x g w) slices_S4x4x512x256_S4x4x256x256_0_0_256_0

variable (x : FVec Ideal S4x256x1024 .f32) (g : FVec Ideal S4x1024 .f32) (w : FVec Ideal S4x1024x512 .f32)

theorem kv_apply (l b : Fin 4) (e : Fin 512) (d : Fin 256) : kv x g w (ix4 l b e d)
    = ∑ k, w (ix3 l k e) * (x (ix3 b d k) * scale (fun k => x (ix3 b d k)) * g (ix2 l k)) := by
  pointwise [kv, scale]

theorem keys_apply (l b : Fin 4) (e d : Fin 256) : keys x g w (ix4 l b e d) = kv x g w (ix4 l b ⟨e.val, by omega⟩ d) := by
  pointwise [keys]

theorem vals_apply (l b : Fin 4) (e d : Fin 256) : vals x g w (ix4 l b e d) = kv x g w (ix4 l b ⟨256 + e.val, by omega⟩ d) := by
  pointwise [vals]

end Cert.MemkvRefIdeal.Mem
end
-- ==== Proof.Memkv.Array.lean ====
module

public import proofs.«01_k».proof.Proof.Memkv.Block
public import proofs.«01_k».proof.Proof.Memkv.Ref

@[expose] public section

set_option maxRecDepth 16384

noncomputable section

/-! The call's memory keys and values are the reference's. -/

namespace Cert.MemkvIdeal.Mem

open Cert.MemkvIdeal Cert.MemkvIdeal.Gen Idealize.ShloMosaic Idealize.ShloMosaic.TcCoe
open Cert.MemkvRefIdeal.Mem (kv keys vals kv_apply keys_apply vals_apply)

theorem idx0 : ∀ t : Fin cfg0.N, win0_0.index t = ![(grid0.coords t 1).val, 0, 0] := by decide +kernel
theorem idx1 : ∀ t : Fin cfg0.N, win0_1.index t = ![(grid0.coords t 0).val, 0, 0] := by decide +kernel
theorem idx2 : ∀ t : Fin cfg0.N, win0_2.index t = ![(grid0.coords t 0).val, 0, 0] := by decide +kernel
theorem idx3 : ∀ t : Fin cfg0.N, win0_3.index t = ![(grid0.coords t 0).val, (grid0.coords t 1).val, 0, 0] := by decide +kernel
theorem idx4 : ∀ t : Fin cfg0.N, win0_4.index t = ![(grid0.coords t 0).val, (grid0.coords t 1).val, 0, 0] := by decide +kernel
theorem idx5 : ∀ t : Fin cfg0.N, win0_5.index t = ![(grid0.coords t 0).val, (grid0.coords t 1).val, 0, 0] := by decide +kernel
theorem idx6 : ∀ t : Fin cfg0.N, win0_6.index t = ![(grid0.coords t 0).val, (grid0.coords t 1).val, 0, 0] := by decide +kernel

variable (m : (ℓ : Loc nD τ sig) → Buf (Elt Ideal) ℓ) (c : Dev nD) (t : Fin cfg0.N)

/-- Grid point `t`'s layer and batch. -/
def lay : Fin 4 := ⟨(grid0.coords t 0).val, (grid0.coords t 0).isLt⟩
def bat : Fin 4 := ⟨(grid0.coords t 1).val, (grid0.coords t 1).isLt⟩

/-- The arguments, as arrays of their shapes. -/
abbrev argX : FVec Ideal S4x256x1024 .f32 := m (c.tc.loc main_arg0)
abbrev argG : FVec Ideal S4x1024 .f32 := m (c.tc.loc main_arg1)
abbrev argW : FVec Ideal S4x1024x512 .f32 := m (c.tc.loc main_arg2)

theorem blk0 (r : Fin 256) (k : Fin 1024) : (show Vec Ideal S1x256x1024 .f32 from iblk m c 0 t) (ix3 0 r k) = argX m c (ix3 (bat t) r k) := by
  blk_simp [iblk]
  unfold V
  after_reads_at
  refine congrArg (argX m c) ?_
  blk_ext [bat, idx0 t]

theorem blk1 (k : Fin 1024) : (show Vec Ideal S1x1x1024 .f32 from iblk m c 1 t) (ix3 0 0 k) = argG m c (ix2 (lay t) k) := by
  blk_simp [iblk]
  unfold V
  after_reads_at
  refine congrArg (argG m c) (congr (congrArg ix2 ?_) ?_) <;> apply Fin.ext <;> blk_simp [lay, idx1 t] <;> simp

theorem blk2 (k : Fin 1024) (j : Fin 512) : (show Vec Ideal S1x1024x512 .bf16 from iblk m c 2 t) (ix3 0 k j) = argW m c (ix3 (lay t) k j) := by
  blk_simp [iblk]
  unfold V
  after_reads_at
  refine congrArg (argW m c) ?_
  blk_ext [lay, idx2 t]

/-- The block's product is the reference's. -/
theorem prod_eq (e : Fin 512) (d : Fin 256) :
    k0_pay3 (iblk m c 0 t) (iblk m c 1 t) (iblk m c 2 t) (ix2 d e) = kv (argX m c) (argG m c) (argW m c) (ix4 (lay t) (bat t) e d) := by
  have h0 := blk0 m c t
  have h1 := blk1 m c t
  have h2 := blk2 m c t
  rw [prod_apply, kv_apply]
  refine Finset.sum_congr rfl fun k _ => ?_
  refine (congr (congrArg _ (congr (congrArg _ (congr (congrArg _ (h0 d k)) (congrArg _ (funext fun k => h0 d k)))) (h1 k))) (h2 k e)).trans ?_
  exact mul_comm _ _

theorem array3 : (dats m 0 c).arrAt 3 cfg0.N = keys (argX m c) (argG m c) (argW m c) := by
  refine (dats m 0 c).arrAt_eq_of_covers 3 _ (by decide +kernel) fun t hf y => ?_
  blk_simp
  rw [after0_3]
  obtain ⟨a, b, e, d, rfl⟩ : ∃ a b e d, y = ix4 a b e d := ⟨y 0, y 1, y 2, y 3, eq_ix4 y⟩
  obtain rfl : a = 0 := Subsingleton.elim _ _
  obtain rfl : b = 0 := Subsingleton.elim _ _
  have hemb : ((cfg0.win 3).blk t).view.emb (ix4 0 0 e d) = ix4 (lay t) (bat t) e d := by blk_ext [idx3 t, lay, bat]
  refine Eq.trans ?_ (congrArg (keys (argX m c) (argG m c) (argW m c)) hemb).symm
  exact (out3_apply _ _ _ e d).trans ((prod_eq m c t _ d).trans (keys_apply _ _ _ _ _ e d).symm)

theorem array4 : (dats m 0 c).arrAt 4 cfg0.N = vals (argX m c) (argG m c) (argW m c) := by
  refine (dats m 0 c).arrAt_eq_of_covers 4 _ (by decide +kernel) fun t hf y => ?_
  blk_simp
  rw [after0_4]
  obtain ⟨a, b, e, d, rfl⟩ : ∃ a b e d, y = ix4 a b e d := ⟨y 0, y 1, y 2, y 3, eq_ix4 y⟩
  obtain rfl : a = 0 := Subsingleton.elim _ _
  obtain rfl : b = 0 := Subsingleton.elim _ _
  have hemb : ((cfg0.win 4).blk t).view.emb (ix4 0 0 e d) = ix4 (lay t) (bat t) e d := by blk_ext [idx4 t, lay, bat]
  refine Eq.trans ?_ (congrArg (vals (argX m c) (argG m c) (argW m c)) hemb).symm
  exact (out4_apply _ _ _ e d).trans ((prod_eq m c t _ d).trans (vals_apply _ _ _ _ _ e d).symm)

theorem array5 : (dats m 0 c).arrAt 5 cfg0.N = keys (argX m c) (argG m c) (argW m c) := by
  refine (dats m 0 c).arrAt_eq_of_covers 5 _ (by decide +kernel) fun t hf y => ?_
  blk_simp
  rw [after0_5]
  obtain ⟨a, b, e, d, rfl⟩ : ∃ a b e d, y = ix4 a b e d := ⟨y 0, y 1, y 2, y 3, eq_ix4 y⟩
  obtain rfl : a = 0 := Subsingleton.elim _ _
  obtain rfl : b = 0 := Subsingleton.elim _ _
  have hemb : ((cfg0.win 5).blk t).view.emb (ix4 0 0 e d) = ix4 (lay t) (bat t) e d := by blk_ext [idx5 t, lay, bat]
  refine Eq.trans ?_ (congrArg (keys (argX m c) (argG m c) (argW m c)) hemb).symm
  exact (out5_apply _ _ _ e d).trans ((prod_eq m c t _ d).trans (keys_apply _ _ _ _ _ e d).symm)

theorem array6 : (dats m 0 c).arrAt 6 cfg0.N = vals (argX m c) (argG m c) (argW m c) := by
  refine (dats m 0 c).arrAt_eq_of_covers 6 _ (by decide +kernel) fun t hf y => ?_
  blk_simp
  rw [after0_6]
  obtain ⟨a, b, e, d, rfl⟩ : ∃ a b e d, y = ix4 a b e d := ⟨y 0, y 1, y 2, y 3, eq_ix4 y⟩
  obtain rfl : a = 0 := Subsingleton.elim _ _
  obtain rfl : b = 0 := Subsingleton.elim _ _
  have hemb : ((cfg0.win 6).blk t).view.emb (ix4 0 0 e d) = ix4 (lay t) (bat t) e d := by blk_ext [idx6 t, lay, bat]
  refine Eq.trans ?_ (congrArg (vals (argX m c) (argG m c) (argW m c)) hemb).symm
  exact (out6_apply _ _ _ e d).trans ((prod_eq m c t _ d).trans (vals_apply _ _ _ _ _ e d).symm)

end Cert.MemkvIdeal.Mem
end
-- ==== Proof.Memkv.Claims.lean ====
module

public import proofs.«01_k».proof.Defs
public import proofs.«01_k».proof.Proof.Memkv.Array
public import proofs.«01_k».proof.Proof.Gen.Memkv.Frame
public import proofs.«01_k».proof.Proof.Gen.MemkvIdeal.Frame
public import Idealize.ShloMosaic.Lib.Quiescent
public import Idealize.ShloMosaic.Adequacy
public import Idealize.ShloMosaic.Init

@[expose] public section

noncomputable section

/-! The claims about the memory keys and values. -/

namespace Cert.MemkvClaims

open Idealize.ShloMosaic Idealize.SL.Sem

theorem frame_p : quiescent_Memkv (hMemkv := Cert.Memkv.Gen.facts) := fun m ρ _ => Cert.Memkv.Gen.frame m ρ

theorem frame_pi : quiescent_MemkvIdeal (hMemkvIdeal := Cert.MemkvIdeal.Gen.facts) := fun m ρ _ => Cert.MemkvIdeal.Gen.frame m ρ

theorem frame_ri : quiescent_MemkvRefIdeal (hMemkvRefIdeal := Cert.MemkvRefIdeal.Gen.facts) := fun m ρ _ =>
  (θ_run Cert.MemkvRefIdeal.defs _ _).mono
    (fun r h => ⟨fun c => (h c).2.2.2.2, Idealize.ShloMosaic.sem_eq_zero_of_no_sems (by decide) r.2⟩)
    (Cert.MemkvRefIdeal.Value.run (F := Ideal) m ρ)

theorem preserves : preserves_Memkv_MemkvIdeal := trivial

theorem algebraic : algebraic_MemkvIdeal_MemkvRefIdeal (hMemkvIdeal := Cert.MemkvIdeal.Gen.facts)
    (hMemkvRefIdeal := Cert.MemkvRefIdeal.Gen.facts) := by
  intro m ρ m' ρ' _ hagree
  refine ⟨_, _, _, _, Cert.MemkvIdeal.Value.run_blocks m ρ, ?_⟩
  refine (θ_run Cert.MemkvRefIdeal.defs _ _).mono (fun _ h c => ⟨(h c).1.trans ?_, (h c).2.1.trans ?_, (h c).2.2.1.trans ?_, (h c).2.2.2.1.trans ?_, (h c).2.2.2.2⟩)
    (Cert.MemkvRefIdeal.Value.run (F := Ideal) m' ρ')
  all_goals
    obtain ⟨e0, e1, e2⟩ := hagree c
    rw [e0, e1, e2]
  · exact (Cert.MemkvIdeal.Mem.array3 m c).symm
  · exact (Cert.MemkvIdeal.Mem.array4 m c).symm
  · exact (Cert.MemkvIdeal.Mem.array5 m c).symm
  · exact (Cert.MemkvIdeal.Mem.array6 m c).symm

end Cert.MemkvClaims
end
-- ==== Proof.Out.Block.lean ====
module

public import proofs.«01_k».proof.Proof.Gen.OutIdeal.Value
public import proofs.«01_k».proof.Proof.Norm.Scale
public import Idealize.ShloMosaic.Lib.Pointwise
public import Idealize.ShloMosaic.Lib.Pipeline.ValueKit
public import Idealize.ShloMosaic.Lib.StableHlo.ReadAt

@[expose] public section

set_option maxRecDepth 16384

noncomputable section

/-! The output projection: a block of the result read at one index. -/

namespace Cert.OutIdeal.Mix

open Cert.OutIdeal Cert.OutIdeal.Gen Idealize.ShloMosaic Idealize.ShloMosaic.TcCoe

open Cert.Norm (scale)

/-- The gated outputs of one token times one column of the weights: the attention's 768 features, then the memory's 256. -/
def mix (a sa : Fin 768 → EReal) (b sb : Fin 256 → EReal) (w : Fin 1024 → EReal) : EReal :=
  ∑ k, a k * sa k * w (Fin.castAdd 256 k) + ∑ k, b k * sb k * w (Fin.natAdd 768 k)

variable (x0 x1 : Vec Ideal S512x768 .f32) (x2 x3 : Vec Ideal S512x256 .f32) (x4 : Vec Ideal S512x1024 .f32)
  (x5 : Vec Ideal S1024x1024 .bf16) (x6 : Vec Ideal S1x1024 .f32)

theorem lo_apply (k : Fin 768) (j : Fin 1024) : View.ld x5 r0_2 (ix2 k j) = x5 (ix2 (Fin.castAdd 256 k) j) := by
  refine congrArg x5 ?_
  blk_ext
  · show 0 + 1 * k.val = k.val; omega
  · show 0 + 1 * j.val = j.val; omega

theorem hi_apply (k : Fin 256) (j : Fin 1024) : View.ld x5 r0_3 (ix2 k j) = x5 (ix2 (Fin.natAdd 768 k) j) := by
  refine congrArg x5 ?_
  blk_ext
  · show 768 + 1 * k.val = 768 + k.val; omega
  · show 0 + 1 * j.val = j.val; omega

theorem pay_apply (y5 : Vec Ideal S768x1024 .bf16) (z5 : Vec Ideal S256x1024 .bf16) (w : Fin 1024 → Fin 1024 → EReal)
    (h5 : ∀ k j, y5 (ix2 k j) = w (Fin.castAdd 256 k) j) (h6 : ∀ k j, z5 (ix2 k j) = w (Fin.natAdd 768 k) j)
    (r : Fin 512) (j : Fin 1024) : k0_pay1 x0 x1 x2 x3 y5 z5 x6 x4 (ix2 r j)
      = x4 (ix2 r j) + (mix (fun k => x0 (ix2 r k)) (fun k => x1 (ix2 r k)) (fun k => x2 (ix2 r k)) (fun k => x3 (ix2 r k)) (fun k => w k j)
        * scale (fun j => mix (fun k => x0 (ix2 r k)) (fun k => x1 (ix2 r k)) (fun k => x2 (ix2 r k)) (fun k => x3 (ix2 r k)) (fun k => w k j))) * x6 (ix2 0 j) := by
  simp only [mix, ← h5, ← h6]
  pointwise [k0_pay1, scale]

theorem out_apply (r : Fin 512) (j : Fin 1024) : out0_7 x0 x1 x2 x3 x4 x5 x6 (ix2 r j)
      = x4 (ix2 r j) + (mix (fun k => x0 (ix2 r k)) (fun k => x1 (ix2 r k)) (fun k => x2 (ix2 r k)) (fun k => x3 (ix2 r k)) (fun k => x5 (ix2 k j))
        * scale (fun j => mix (fun k => x0 (ix2 r k)) (fun k => x1 (ix2 r k)) (fun k => x2 (ix2 r k)) (fun k => x3 (ix2 r k)) (fun k => x5 (ix2 k j)))) * x6 (ix2 0 j) := by
  unfold out0_7
  rw [View.canon_cons_unit_lit, View.ld_unit_lit, View.ld_unit_lit, View.ld_unit_lit, View.ld_unit_lit, View.ld_unit_lit, View.ld_unit_lit]
  · exact pay_apply x0 x1 x2 x3 x4 x6 _ _ (fun k j => x5 (ix2 k j)) (lo_apply x5) (hi_apply x5) r j
  all_goals decide

end Cert.OutIdeal.Mix
end
-- ==== Proof.Out.Weights.lean ====
module

public import proofs.«01_k».proof.Proof.Out.Block

@[expose] public section

set_option maxRecDepth 16384

noncomputable section

/-! The output projection's weights as the host prepares them: the attention's rows permuted. -/

namespace Cert.OutIdeal.Mix

open Cert.OutIdeal Cert.OutIdeal.Gen Idealize.ShloMosaic Idealize.ShloMosaic.TcCoe

variable (m : (ℓ : Loc nD τ sig) → Buf (Elt Ideal) ℓ) (c : Dev nD)

abbrev argW : FVec Ideal S1024x1024 .f32 := m (c.tc.loc main_arg5)

/-- Rows of a matrix gathered by one index each. -/
theorem gather_rows (x : FVec Ideal S768x1024 .f32) (idx : IVec S768x1 32) (k : Fin 768) (j : Fin 1024) :
    Host.gather gather_S768x1024_S768x1_S768x1024_1_0_n_n_0_1_11024 x idx (ix2 k j)
      = x (ix2 ⟨min (idx (ix2 k 0)).toInt.toNat 767, by omega⟩ j) := by
  unfold Host.gather
  congr 1
  funext a
  refine Fin.ext ?_
  show gather_S768x1024_S768x1_S768x1024_1_0_n_n_0_1_11024.start (ix2 k j) idx a + gather_S768x1024_S768x1_S768x1024_1_0_n_n_0_1_11024.batchCoord (ix2 k j) a
    + gather_S768x1024_S768x1_S768x1024_1_0_n_n_0_1_11024.offCoord (ix2 k j) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S768x1024_S768x1_S768x1024_1_0_n_n_0_1_11024.startIndexMap from List.mem_singleton.mpr rfl)]
    have hsi : gather_S768x1024_S768x1_S768x1024_1_0_n_n_0_1_11024.siIdx (ix2 k j) ⟨List.idxOf (0 : Fin 2) [0], by decide⟩ = ix2 k 0 := by
      funext b
      match b with
      | ⟨0, _⟩ => rfl
      | ⟨1, _⟩ => rfl
    exact congrArg (fun i => min (idx i).toInt.toNat 767) hsi
  · unfold GatherDims.start
    rw [dif_neg (by decide)]
    unfold GatherDims.offCoord
    rw [dif_pos (by decide)]
    show 0 + 0 + j.val = j.val
    omega

/-- The row of the weights that position `k` of the attention's features takes. -/
def perm (k : Fin 768) : Fin 768 := ⟨(k.val / 64 % 4 * 3 + k.val / 256) * 64 + k.val % 64, by omega⟩

theorem lit_perm : ∀ k : Fin 768, lit0 k = BitVec.ofNat 32 (perm k).val := by decide +kernel

/-- The weights as the host prepares them: the attention's rows gathered, the memory's after them. -/
def prepared (w : FVec Ideal S1024x1024 .f32) : FVec Ideal S1024x1024 .bf16 :=
  truncf .bf16 (concatenate S1024x1024 0
    [⟨S768x1024, Host.gather gather_S768x1024_S768x1_S768x1024_1_0_n_n_0_1_11024 (extractStridedSlice S768x1024 ![0, 0] w slices_S1024x1024_S768x1024_0_0)
      (broadcastInDim S768x1 ![0] bcast_S768_S768x1_0 (select (constantI S768 1 0#1)
        (addi (fun i => lit0 (S768.rowMajor i)) (broadcastInDim S768 ![] bcast_S_S768 (constantI S_ 32 768#32))) (fun i => lit0 (S768.rowMajor i))))⟩,
     ⟨S256x1024, extractStridedSlice S256x1024 ![768, 0] w slices_S1024x1024_S256x1024_768_0⟩]
    concatenates_S768x1024_S256x1024_S1024x1024_d0) bitsLt_bf16_f32

theorem v8_eq : V m c main_v8 = prepared (argW m c) := by
  unfold V
  after_results
  rfl

variable (w : FVec Ideal S1024x1024 .f32)

theorem prepared_lo (k : Fin 768) (j : Fin 1024) : prepared w (ix2 (Fin.castAdd 256 k) j) = w (ix2 (Fin.castAdd 256 (perm k)) j) := by
  pointwise [prepared]
  rw [dif_pos (by simp), gather_rows]
  have h := lit_perm k
  pointwise
  refine congrArg w (congr (congrArg ix2 (Fin.ext ?_)) rfl)
  have e : (S768.rowMajor (ix1 k)) = k := Fin.ext (Shape.rowMajor_val_one _)
  have hp := (perm k).isLt
  show min (lit0 (S768.rowMajor (ix1 k))).toInt.toNat 767 = (perm k).val
  have hn : (BitVec.ofNat 32 (perm k).val).toNat = (perm k).val := by rw [BitVec.toNat_ofNat]; omega
  rw [e, h, BitVec.toInt_eq_toNat_of_lt (by omega), hn]
  omega

theorem prepared_hi (k : Fin 256) (j : Fin 1024) : prepared w (ix2 (Fin.natAdd 768 k) j) = w (ix2 (Fin.natAdd 768 k) j) := by
  pointwise [prepared]
  rw [dif_neg (by simp)]
  exact congrArg w (congr (congrArg ix2 (Fin.ext (by simp))) rfl)

end Cert.OutIdeal.Mix
end
-- ==== Proof.Out.Ref.lean ====
module

public import proofs.«01_k».proof.Proof.Gen.OutRefIdeal.Run
public import proofs.«01_k».proof.Proof.Out.Block
public import Idealize.ShloMosaic.Lib.Pointwise

@[expose] public section

set_option maxRecDepth 16384

noncomputable section

/-! The reference's gated output projection read at one index. -/

namespace Cert.OutRefIdeal.Mix

open Cert.OutRefIdeal Cert.OutRefIdeal.Gen Idealize.ShloMosaic Idealize.ShloMosaic.TcCoe

open Cert.Norm (scale)
open Cert.OutIdeal.Mix (mix)

/-- The heads of the attention's features reordered: key/value head first. -/
def heads (a : FVec Ideal S16384x768 .f32) : FVec Ideal S16384x768 .f32 :=
  shapeCast S16384x768 (transpose S16384x4x3x64 [0, 2, 1, 3] (shapeCast S16384x3x4x64 a shapeCasts_S16384x768_S16384x3x4x64) transposes_S16384x3x4x64_S16384x4x3x64_0_2_1_3) shapeCasts_S16384x4x3x64_S16384x768

/-- The gated outputs, side by side. -/
def gated (a sa : FVec Ideal S16384x768 .f32) (b sb : FVec Ideal S16384x256 .f32) : FVec Ideal S16384x1024 .f32 :=
  concatenate S16384x1024 1 [⟨S16384x768, mulf (heads a) (heads sa)⟩, ⟨S16384x256, mulf b sb⟩] concatenates_S16384x768_S16384x256_S16384x1024_d1

/-- Their product with the weights. -/
def proj (u : FVec Ideal S16384x1024 .f32) (w : FVec Ideal S1024x1024 .f32) : FVec Ideal S16384x1024 .f32 :=
  Host.dotGeneral dot_S16384x1024_S1024x1024_S16384x1024_1_0_0_1_n_n none u w

/-- Its normalisation added to the layer's activations. -/
def normed (x y : FVec Ideal S16384x1024 .f32) (g : FVec Ideal S1024 .f32) : FVec Ideal S16384x1024 .f32 :=
  addf x (mulf (mulf y (broadcastInDim S16384x1024 ![0, 1] bcast_S16384x1_S16384x1024_0_1 (Host.rsqrt (addf (Host.divf (broadcastInDim S16384x1 ![0] bcast_S16384_S16384x1_0 (Host.reduceAdd (mulf y y) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g)))

/-- Position `k` of the reordered features, before. -/
def src (k : Fin 768) : Fin 768 := ⟨(k.val / 64 % 3 * 4 + k.val / 192) * 64 + k.val % 64, by omega⟩

theorem heads_apply (a : FVec Ideal S16384x768 .f32) (r : Fin 16384) (k : Fin 768) : heads a (ix2 r k) = a (ix2 r (src k)) := by
  pointwise [heads]
  refine congrArg a (congr (congrArg ix2 (Fin.ext ?_)) (Fin.ext ?_)) <;> simp [src] <;> omega

variable (a sa : FVec Ideal S16384x768 .f32) (b sb : FVec Ideal S16384x256 .f32) (w : FVec Ideal S1024x1024 .f32) (r : Fin 16384) (j : Fin 1024)

theorem gated_lo (k : Fin 768) : gated a sa b sb (ix2 r (Fin.castAdd 256 k)) = a (ix2 r (src k)) * sa (ix2 r (src k)) := by
  simp only [← heads_apply]
  pointwise [gated]
  rw [dif_pos (by simp)]
  rfl

theorem gated_hi (k : Fin 256) : gated a sa b sb (ix2 r (Fin.natAdd 768 k)) = b (ix2 r k) * sb (ix2 r k) := by
  pointwise [gated]
  rw [dif_neg (by simp)]
  simp

theorem proj_apply : proj (gated a sa b sb) w (ix2 r j) = mix (fun k => a (ix2 r (src k))) (fun k => sa (ix2 r (src k)))
    (fun k => b (ix2 r k)) (fun k => sb (ix2 r k)) (fun k => w (ix2 k j)) := by
  have h : proj (gated a sa b sb) w (ix2 r j) = ∑ k : Fin (768 + 256), gated a sa b sb (ix2 r k) * w (ix2 k j) := by
    pointwise [proj]
  rw [h, Fin.sum_univ_add]
  simp only [gated_lo, gated_hi, mix]

theorem normed_apply (x y : FVec Ideal S16384x1024 .f32) (g : FVec Ideal S1024 .f32) :
    normed x y g (ix2 r j) = x (ix2 r j) + y (ix2 r j) * scale (fun j => y (ix2 r j)) * g (ix1 j) := by
  pointwise [normed, scale]

end Cert.OutRefIdeal.Mix
end
-- ==== Proof.Out.Array.lean ====
module

public import proofs.«01_k».proof.Proof.Out.Weights
public import proofs.«01_k».proof.Proof.Out.Ref

@[expose] public section

set_option maxRecDepth 16384

noncomputable section

/-! The output projection's result is the reference's. -/

namespace Cert.OutIdeal.Mix

open Cert.OutIdeal Cert.OutIdeal.Gen Idealize.ShloMosaic Idealize.ShloMosaic.TcCoe
open Cert.OutRefIdeal.Mix (gated proj normed src proj_apply normed_apply)
open Cert.Norm (scale)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![t.val, 0] := by decide +kernel

variable (m : (ℓ : Loc nD τ sig) → Buf (Elt Ideal) ℓ) (c : Dev nD) (t : Fin cfg0.N)

/-- The arguments, as arrays of their shapes. -/
abbrev argA : FVec Ideal S16384x768 .f32 := m (c.tc.loc main_arg0)
abbrev argSA : FVec Ideal S16384x768 .f32 := m (c.tc.loc main_arg1)
abbrev argB : FVec Ideal S16384x256 .f32 := m (c.tc.loc main_arg2)
abbrev argSB : FVec Ideal S16384x256 .f32 := m (c.tc.loc main_arg3)
abbrev argX : FVec Ideal S16384x1024 .f32 := m (c.tc.loc main_arg4)
abbrev argG : FVec Ideal S1024 .f32 := m (c.tc.loc main_arg6)

/-- The token of row `r` of grid point `t`'s block. -/
def row (r : Fin 512) : Fin 16384 := ⟨512 * t.val + r.val, by have : t.val < 32 := t.isLt; omega⟩

theorem blk0 (r : Fin 512) (k : Fin 768) : (show Vec Ideal S512x768 .f32 from iblk m c 0 t) (ix2 r k) = argA m c (ix2 (row t r) k) := by
  blk_simp [iblk]
  unfold V
  after_reads_at
  refine congrArg (argA m c) ?_
  blk_ext [row, idx0 t]

theorem blk1 (r : Fin 512) (k : Fin 768) : (show Vec Ideal S512x768 .f32 from iblk m c 1 t) (ix2 r k) = argSA m c (ix2 (row t r) k) := by
  blk_simp [iblk]
  unfold V
  after_reads_at
  refine congrArg (argSA m c) ?_
  blk_ext [row, idx1 t]

theorem blk2 (r : Fin 512) (k : Fin 256) : (show Vec Ideal S512x256 .f32 from iblk m c 2 t) (ix2 r k) = argB m c (ix2 (row t r) k) := by
  blk_simp [iblk]
  unfold V
  after_reads_at
  refine congrArg (argB m c) ?_
  blk_ext [row, idx2 t]

theorem blk3 (r : Fin 512) (k : Fin 256) : (show Vec Ideal S512x256 .f32 from iblk m c 3 t) (ix2 r k) = argSB m c (ix2 (row t r) k) := by
  blk_simp [iblk]
  unfold V
  after_reads_at
  refine congrArg (argSB m c) ?_
  blk_ext [row, idx3 t]

theorem blk4 (r : Fin 512) (k : Fin 1024) : (show Vec Ideal S512x1024 .f32 from iblk m c 4 t) (ix2 r k) = argX m c (ix2 (row t r) k) := by
  blk_simp [iblk]
  unfold V
  after_reads_at
  refine congrArg (argX m c) ?_
  blk_ext [row, idx4 t]

theorem blk5 (k j : Fin 1024) : (show Vec Ideal S1024x1024 .bf16 from iblk m c 5 t) (ix2 k j)
    = prepared (argW m c) (ix2 k j) := by
  blk_simp [iblk]
  refine (congrFun (v8_eq m c) _).trans (congrArg (prepared (argW m c)) ?_)
  blk_ext [idx5 t]

theorem blk6 (j : Fin 1024) : (show Vec Ideal S1x1024 .f32 from iblk m c 6 t) (ix2 0 j) = argG m c (ix1 j) := by
  blk_simp [iblk]
  unfold V
  after_reads_at
  refine congrArg (argG m c) (congrArg ix1 ?_)
  apply Fin.ext
  blk_simp [idx6 t]

/-- Where the reference takes a feature of the attention from, and where the kernel's weights take it to. -/
def order : Fin 768 ≃ Fin 768 where
  toFun := src
  invFun := perm
  left_inv := show ∀ k, perm (src k) = k by decide +kernel
  right_inv := show ∀ k, src (perm k) = k by decide +kernel

/-- The features of a token permuted with the rows of the weights: the same sum. -/
theorem mix_perm (a sa : Fin 768 → EReal) (b sb : Fin 256 → EReal) (w v : Fin 1024 → EReal)
    (lo : ∀ k, v (Fin.castAdd 256 k) = w (Fin.castAdd 256 (perm k))) (hi : ∀ k : Fin 256, v (Fin.natAdd 768 k) = w (Fin.natAdd 768 k)) :
    mix a sa b sb v = mix (fun k => a (src k)) (fun k => sa (src k)) b sb w := by
  unfold mix
  simp only [lo, hi]
  refine congrArg (· + _) ?_
  rw [← order.sum_comp]
  refine Finset.sum_congr rfl fun k _ => ?_
  have : perm (order k) = k := order.left_inv k
  rw [this]
  rfl

theorem array7 : (dats m 0 c).arrAt 7 cfg0.N = normed (argX m c) (proj (gated (argA m c) (argSA m c) (argB m c) (argSB m c)) (argW m c)) (argG m c) := by
  refine (dats m 0 c).arrAt_eq_of_covers 7 _ (by decide +kernel) fun t hf y => ?_
  blk_simp
  rw [after0_7]
  obtain ⟨r, j, rfl⟩ : ∃ r j, y = ix2 r j := ⟨y 0, y 1, eq_ix2 y⟩
  have hemb : ((cfg0.win 7).blk t).view.emb (ix2 r j) = ix2 (row t r) j := by blk_ext [idx7 t, row]
  refine Eq.trans ?_ (congrArg (normed (argX m c) (proj (gated (argA m c) (argSA m c) (argB m c) (argSB m c)) (argW m c)) (argG m c)) hemb).symm
  have h0 := blk0 m c t r
  have h1 := blk1 m c t r
  have h2 := blk2 m c t r
  have h3 := blk3 m c t r
  have h4 := blk4 m c t r
  have h5 := blk5 m c t
  have h6 := blk6 m c t
  refine (out_apply _ _ _ _ _ _ _ r j).trans ?_
  rw [normed_apply]
  simp only [proj_apply]
  have hm := fun j => mix_perm (fun k => argA m c (ix2 (row t r) k)) (fun k => argSA m c (ix2 (row t r) k)) (fun k => argB m c (ix2 (row t r) k)) (fun k => argSB m c (ix2 (row t r) k))
    (fun k => argW m c (ix2 k j)) (fun k => prepared (argW m c) (ix2 k j)) (fun k => prepared_lo (argW m c) k j) (fun k => prepared_hi (argW m c) k j)
  have hM := fun j => (congr (congr (congr (congr (congrArg mix (funext h0)) (funext h1)) (funext h2)) (funext h3)) (funext fun k => h5 k j)).trans (hm j)
  exact congr (congrArg HAdd.hAdd (h4 j)) (congr (congrArg HMul.hMul (congr (congrArg HMul.hMul (hM j)) (congrArg scale (funext hM)))) (h6 j))

end Cert.OutIdeal.Mix
end
-- ==== Proof.Out.Claims.lean ====
module

public import proofs.«01_k».proof.Defs
public import proofs.«01_k».proof.Proof.Out.Array
public import proofs.«01_k».proof.Proof.Gen.Out.Frame
public import proofs.«01_k».proof.Proof.Gen.OutIdeal.Frame
public import Idealize.ShloMosaic.Lib.Quiescent
public import Idealize.ShloMosaic.Adequacy
public import Idealize.ShloMosaic.Init

@[expose] public section

noncomputable section

/-! The claims about the output projection. -/

namespace Cert.OutClaims

open Idealize.ShloMosaic Idealize.SL.Sem

theorem frame_p : quiescent_Out (hOut := Cert.Out.Gen.facts) := fun m ρ _ => Cert.Out.Gen.frame m ρ

theorem frame_pi : quiescent_OutIdeal (hOutIdeal := Cert.OutIdeal.Gen.facts) := fun m ρ _ => Cert.OutIdeal.Gen.frame m ρ

theorem frame_ri : quiescent_OutRefIdeal (hOutRefIdeal := Cert.OutRefIdeal.Gen.facts) := fun m ρ _ =>
  (θ_run Cert.OutRefIdeal.defs _ _).mono
    (fun r h => ⟨fun c => (h c).2, Idealize.ShloMosaic.sem_eq_zero_of_no_sems (by decide) r.2⟩)
    (Cert.OutRefIdeal.Value.run (F := Ideal) m ρ)

theorem preserves : preserves_Out_OutIdeal := trivial

theorem algebraic : algebraic_OutIdeal_OutRefIdeal (hOutIdeal := Cert.OutIdeal.Gen.facts)
    (hOutRefIdeal := Cert.OutRefIdeal.Gen.facts) := by
  intro m ρ m' ρ' _ hagree
  refine ⟨_, Cert.OutIdeal.Value.run_blocks m ρ, ?_⟩
  refine (θ_run Cert.OutRefIdeal.defs _ _).mono (fun _ h c => ⟨(h c).1.trans ?_, (h c).2⟩) (Cert.OutRefIdeal.Value.run (F := Ideal) m' ρ')
  obtain ⟨e0, e1, e2, e3, e4, e5, e6⟩ := hagree c
  rw [e0, e1, e2, e3, e4, e5, e6]
  exact (Cert.OutIdeal.Mix.array7 m c).symm

end Cert.OutClaims
end
-- ==== Proof.Norm.Gates.lean ====
module

public import proofs.«01_k».proof.Proof.Norm.Scale
public import Idealize.ShloMosaic.Lib.IdealHost

@[expose] public section

noncomputable section

/-! A normalised row's product with a column of weights, and the two gate functions: each as the kernels compute it and as
the reference does. -/

namespace Cert.Norm

open Idealize.ShloMosaic

/-- The scale of the memory's queries, one eighth. -/
abbrev eighth : EReal := Ideal.ofBits FTy.f32 0x3E000000#32

theorem eighth_eq : eighth = ((1 / 8 : ℝ) : EReal) := by
  simp [eighth, Ideal.ofBits, Ideal.ieee]
  norm_cast
  norm_num

/-- The scale of the forgetting attention's queries, one eighth over the natural logarithm of two, as a float. -/
abbrev qscale : EReal := Ideal.ofBits FTy.f32 0x3E38AA3B#32

theorem qscale_eq : qscale = ((12102203 / 67108864 : ℝ) : EReal) := by
  simp [qscale, Ideal.ofBits, Ideal.ieee]
  norm_cast

/-- A row normalised, times the gain, against one column of the weights. -/
def proj (x g w : Fin 1024 → EReal) : EReal := ∑ k, x k * scale x * g k * w k

theorem proj_zero (x g : Fin 1024 → EReal) : proj x g (fun _ => 0) = 0 := by
  simp [proj]

theorem sum_mul_of_real {n : Nat} (f : Fin n → EReal) {s : EReal} (h0 : 0 ≤ s) (ht : s ≠ ⊤) : (∑ k, f k) * s = ∑ k, f k * s := by
  induction n with
  | zero => simp
  | succ n ih => rw [Fin.sum_univ_succ, Fin.sum_univ_succ, EReal.right_distrib_of_nonneg_of_ne_top h0 ht, ih]

/-- Scaling the weights scales the product. -/
theorem proj_mul (x g w : Fin 1024 → EReal) {c : EReal} {q : ℝ} (h : c = (q : EReal)) (hq : 0 ≤ q) : proj x g (fun k => w k * c) = proj x g w * c := by
  unfold proj
  rw [sum_mul_of_real _ (by rw [h]; exact_mod_cast hq) (by rw [h]; exact EReal.coe_ne_top _)]
  exact Finset.sum_congr rfl fun k _ => (mul_assoc _ _ _).symm

theorem proj_scale (x g w : Fin 1024 → EReal) : proj x g (fun k => w k * eighth) = proj x g w * eighth := proj_mul x g w eighth_eq (by norm_num)

theorem proj_qscale (x g w : Fin 1024 → EReal) : proj x g (fun k => w k * qscale) = proj x g w * qscale := proj_mul x g w qscale_eq (by norm_num)

theorem one_add_exp_pos (z : EReal) : 1 + Ideal.exp z ≠ 0 := by
  induction z with
  | bot => show (1 : EReal) + 0 ≠ 0; simp
  | top => show (1 : EReal) + ⊤ ≠ 0; rw [EReal.add_top_of_ne_bot (by decide)]; decide
  | coe r =>
    have h : (0 : ℝ) < 1 + Real.exp r := by positivity
    show (1 : EReal) + (Real.exp r : EReal) ≠ 0
    exact_mod_cast h.ne'

/-- The gate `z / (1 + exp (-z))`. -/
def silu (z : EReal) : EReal := Ideal.div z (1 + Ideal.exp (0 - z))

theorem silu_eq (z : EReal) : z * Ideal.div 1 (1 + Ideal.exp (-z)) = silu z := by
  rw [Ideal.mul_one_div (one_add_exp_pos _), silu, zero_sub]

/-- The log of the logistic function of `z`. -/
def logsig (z : EReal) : EReal := min z 0 - Ideal.log (1 + Ideal.exp (0 - max z (-z)))

theorem log_ne_bot (z : EReal) : Ideal.log (1 + Ideal.exp z) ≠ ⊥ := by
  induction z with
  | bot =>
    show Ideal.log (1 + 0) ≠ ⊥
    rw [add_zero]
    show (if (1 : ℝ) ≤ 0 then ⊥ else (Real.log 1 : EReal)) ≠ ⊥
    rw [if_neg (by norm_num)]
    exact EReal.coe_ne_bot _
  | top =>
    show Ideal.log (1 + ⊤) ≠ ⊥
    rw [EReal.add_top_of_ne_bot (by decide)]
    show (⊤ : EReal) ≠ ⊥
    decide
  | coe r =>
    have h : (0 : ℝ) < 1 + Real.exp r := by positivity
    show Ideal.log ((1 : ℝ) + (Real.exp r : EReal)) ≠ ⊥
    rw [← EReal.coe_add]
    show (if 1 + Real.exp r ≤ 0 then ⊥ else (Real.log (1 + Real.exp r) : EReal)) ≠ ⊥
    rw [if_neg (not_le.mpr h)]
    exact EReal.coe_ne_bot _

theorem logsig_eq (z : EReal) : -(max (-z) 0 + Ideal.log (1 + Ideal.exp (-(max (-z) (- -z))))) = logsig z := by
  have hm : max (-z) 0 ≠ ⊥ := (lt_of_lt_of_le (by simp) (le_max_right (-z) 0)).ne'
  rw [EReal.neg_add (.inl hm) (.inr (log_ne_bot _)), neg_neg, max_comm (-z) z, logsig, zero_sub]
  congr 1
  rcases le_total z 0 with h | h
  · rw [max_eq_left (EReal.neg_nonneg.mpr h), neg_neg, min_eq_left h]
  · rw [max_eq_right (by simpa using EReal.neg_le_neg_iff.mpr h), neg_zero, min_eq_right h]

end Cert.Norm
end
-- ==== Proof.InS.Weights.lean ====
module

public import proofs.«01_k».proof.Proof.Gen.InSIdeal.Value
public import proofs.«01_k».proof.Proof.Norm.Gates
public import Idealize.ShloMosaic.Lib.Pointwise
public import Idealize.ShloMosaic.Lib.Pipeline.ValueKit
public import Idealize.ShloMosaic.Lib.StableHlo.ReadAt

@[expose] public section

set_option maxRecDepth 16384

noncomputable section

/-! The projections' weights as the host prepares them: queries and their gates with the heads reordered, the attention's and the memory's
queries scaled, the forget gates padded. -/

namespace Cert.InSIdeal.Proj

open Cert.InSIdeal Cert.InSIdeal.Gen Idealize.ShloMosaic Idealize.ShloMosaic.TcCoe
open Cert.Norm (eighth qscale)

/-- Columns of a matrix gathered by one index each. -/
theorem gather_cols (x : FVec Ideal S1024x768 .f32) (idx : IVec S768x1 32) (k : Fin 1024) (j : Fin 768) :
    Host.gather gather_S1024x768_S768x1_S1024x768_0_1_n_n_1_1_10241 x idx (ix2 k j)
      = x (ix2 k ⟨min (idx (ix2 j 0)).toInt.toNat 767, by omega⟩) := by
  unfold Host.gather
  congr 1
  funext a
  refine Fin.ext ?_
  show gather_S1024x768_S768x1_S1024x768_0_1_n_n_1_1_10241.start (ix2 k j) idx a + gather_S1024x768_S768x1_S1024x768_0_1_n_n_1_1_10241.batchCoord (ix2 k j) a
    + gather_S1024x768_S768x1_S1024x768_0_1_n_n_1_1_10241.offCoord (ix2 k j) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (by decide)]
    unfold GatherDims.offCoord
    rw [dif_pos (by decide)]
    show 0 + 0 + k.val = k.val
    omega
  · rw [GatherDims.offCoord_eq_zero _ _ _ (fun h => ((GatherDims.mem_sKept _ _).mp h).1 (List.mem_singleton.mpr rfl))]
    unfold GatherDims.start
    rw [dif_pos (show (1 : Fin 2) ∈ gather_S1024x768_S768x1_S1024x768_0_1_n_n_1_1_10241.startIndexMap from List.mem_singleton.mpr rfl)]
    have hsi : gather_S1024x768_S768x1_S1024x768_0_1_n_n_1_1_10241.siIdx (ix2 k j) ⟨List.idxOf (1 : Fin 2) [1], by decide⟩ = ix2 j 0 := by
      funext b
      match b with
      | ⟨0, _⟩ => rfl
      | ⟨1, _⟩ => rfl
    exact congrArg (fun i => min (idx i).toInt.toNat 767) hsi

/-- The head feature that position `k` of the reordered heads takes. -/
def perm (k : Fin 768) : Fin 768 := ⟨(k.val / 64 % 4 * 3 + k.val / 256) * 64 + k.val % 64, by omega⟩

theorem lit_perm : ∀ k : Fin 768, lit0 k = BitVec.ofNat 32 (perm k).val := by decide +kernel

/-- The heads' features of a matrix of columns, reordered. -/
def reordered (x : FVec Ideal S1024x768 .f32) : FVec Ideal S1024x768 .f32 :=
  Host.gather gather_S1024x768_S768x1_S1024x768_0_1_n_n_1_1_10241 x
    (broadcastInDim S768x1 ![0] bcast_S768_S768x1_0 (select (constantI S768 1 0#1)
      (addi (fun i => lit0 (S768.rowMajor i)) (broadcastInDim S768 ![] bcast_S_S768 (constantI S_ 32 768#32))) (fun i => lit0 (S768.rowMajor i))))

theorem reordered_apply (x : FVec Ideal S1024x768 .f32) (k : Fin 1024) (j : Fin 768) : reordered x (ix2 k j) = x (ix2 k (perm j)) := by
  rw [reordered, gather_cols]
  refine congrArg x (congr rfl (Fin.ext ?_))
  pointwise
  have h := lit_perm j
  have e : (S768.rowMajor (ix1 j)) = j := Fin.ext (Shape.rowMajor_val_one _)
  have hp := (perm j).isLt
  show min (lit0 (S768.rowMajor (ix1 j))).toInt.toNat 767 = (perm j).val
  have hn : (BitVec.ofNat 32 (perm j).val).toNat = (perm j).val := by rw [BitVec.toNat_ofNat]; omega
  rw [e, h, BitVec.toInt_eq_toNat_of_lt (by omega), hn]
  omega

/-- The weights as the host prepares them. -/
def prepared (w : FVec Ideal S1024x2572 .f32) : FVec Ideal S1024x2688 .bf16 :=
  truncf .bf16 (concatenate S1024x2688 1
    [⟨S1024x768, mulf (reordered (extractStridedSlice S1024x768 ![0, 0] w slices_S1024x2572_S1024x768_0_0)) (broadcastInDim S1024x768 ![] bcast_S_S1024x768 (constant S_ .f32 0x3E38AA3B#32))⟩,
     ⟨S1024x256, extractStridedSlice S1024x256 ![0, 768] w slices_S1024x2572_S1024x256_0_768⟩,
     ⟨S1024x256, extractStridedSlice S1024x256 ![0, 1024] w slices_S1024x2572_S1024x256_0_1024⟩,
     ⟨S1024x768, reordered (extractStridedSlice S1024x768 ![0, 1280] w slices_S1024x2572_S1024x768_0_1280)⟩,
     ⟨S1024x256, mulf (extractStridedSlice S1024x256 ![0, 2048] w slices_S1024x2572_S1024x256_0_2048) (broadcastInDim S1024x256 ![] bcast_S_S1024x256 (constant S_ .f32 0x3E000000#32))⟩,
     ⟨S1024x256, extractStridedSlice S1024x256 ![0, 2304] w slices_S1024x2572_S1024x256_0_2304⟩,
     ⟨S1024x128, pad S1024x128 ![0, 0] ![0, 116] ![0, 0] (extractStridedSlice S1024x12 ![0, 2560] w slices_S1024x2572_S1024x12_0_2560) (sitofp .f32 (constantI S_ 32 0#32)) pads_S1024x12_S1024x128_000_01160 h_S_⟩]
    concatenates_S1024x768_S1024x256_S1024x256_S1024x768_S1024x256_S1024x256_S1024x128_S1024x2688_d1) bitsLt_bf16_f32

variable (w : FVec Ideal S1024x2572 .f32) (k : Fin 1024)

theorem prepared_q (j : Fin 768) : prepared w (ix2 k ⟨j.val, by omega⟩) = w (ix2 k ⟨(perm j).val, by omega⟩) * qscale := by
  have h := reordered_apply (extractStridedSlice S1024x768 ![0, 0] w slices_S1024x2572_S1024x768_0_0) k j
  pointwise [prepared]
  exact congrArg (· * qscale) (h.trans (by pointwise))

theorem prepared_k (j : Fin 256) : prepared w (ix2 k ⟨768 + j.val, by omega⟩) = w (ix2 k ⟨768 + j.val, by omega⟩) := by
  pointwise [prepared]

theorem prepared_v (j : Fin 256) : prepared w (ix2 k ⟨1024 + j.val, by omega⟩) = w (ix2 k ⟨1024 + j.val, by omega⟩) := by
  pointwise [prepared]
  rw [dif_neg (by omega), dif_neg (by omega), dif_pos (by omega)]
  refine congrArg w (congrArg (ix2 k) (Fin.ext ?_))
  dsimp only
  omega

theorem prepared_z (j : Fin 768) : prepared w (ix2 k ⟨1280 + j.val, by omega⟩) = w (ix2 k ⟨1280 + (perm j).val, by omega⟩) := by
  have h := reordered_apply (extractStridedSlice S1024x768 ![0, 1280] w slices_S1024x2572_S1024x768_0_1280) k j
  pointwise [prepared]
  rw [dif_neg (by omega), dif_neg (by omega), dif_neg (by omega), dif_pos (by omega)]
  exact (congrArg _ (congr rfl (Fin.ext (by show _ - _ = _; omega)))).trans (h.trans (by pointwise))

theorem prepared_qm (j : Fin 256) : prepared w (ix2 k ⟨2048 + j.val, by omega⟩) = w (ix2 k ⟨2048 + j.val, by omega⟩) * eighth := by
  pointwise [prepared]
  rw [dif_neg (by omega), dif_neg (by omega), dif_neg (by omega), dif_neg (by omega), dif_pos (by omega)]
  refine congr (congrArg _ (congrArg w (congrArg (ix2 k) (Fin.ext ?_)))) rfl
  dsimp only
  omega

theorem prepared_zm (j : Fin 256) : prepared w (ix2 k ⟨2304 + j.val, by omega⟩) = w (ix2 k ⟨2304 + j.val, by omega⟩) := by
  pointwise [prepared]
  rw [dif_neg (by omega), dif_neg (by omega), dif_neg (by omega), dif_neg (by omega), dif_neg (by omega), dif_pos (by omega)]
  refine congrArg w (congrArg (ix2 k) (Fin.ext ?_))
  dsimp only
  omega

theorem zero_word : (FloatOps.sitofp FTy.f32 (0#32 : BitVec 32) : Ideal .f32) = 0 := by
  show (((0#32 : BitVec 32).toInt : ℝ) : EReal) = 0
  simp

theorem prepared_f (j : Fin 12) : prepared w (ix2 k ⟨2560 + j.val, by omega⟩) = w (ix2 k ⟨2560 + j.val, by omega⟩) := by
  pointwise [prepared]
  rw [dif_neg (by omega), dif_neg (by omega), dif_neg (by omega), dif_neg (by omega), dif_neg (by omega), dif_neg (by omega), dif_pos (by omega)]
  refine congrArg w (congrArg (ix2 k) (Fin.ext ?_))
  dsimp only
  omega

theorem prepared_pad (j : Fin 116) : prepared w (ix2 k ⟨2572 + j.val, by omega⟩) = 0 := by
  pointwise [prepared]
  rw [dif_neg (by omega), dif_neg (by omega), dif_neg (by omega), dif_neg (by omega), dif_neg (by omega), dif_neg (by omega), dif_neg (by omega)]
  exact zero_word

variable (m : (ℓ : Loc nD τ sig) → Buf (Elt Ideal) ℓ) (c : Dev nD)

abbrev argW : FVec Ideal S1024x2572 .f32 := m (c.tc.loc main_arg2)

theorem v23_eq : V m c main_v23 = prepared (argW m c) := by
  unfold V
  simp only [hostOps0, hostOps0_1, hostOps0_2, hostOps0_3, hostOps0_4, List.flatten_cons, List.flatten_nil, List.cons_append, List.nil_append, List.append_nil,
    StableHlo.TRef.unary, StableHlo.TRef.binary, StableHlo.TRef.toBuf, StableHlo.TRef.ofBuf, cast_eq]
  after_results
  rfl

abbrev argB : FVec Ideal S12 .f32 := m (c.tc.loc main_arg3)

/-- The forget gates' bias, padded with zeros. -/
def bias (b : FVec Ideal S12 .f32) : FVec Ideal S1x128 .f32 :=
  shapeCast _ (pad S128 ![0] ![116] ![0] b (sitofp .f32 (constantI S_ 32 0#32)) pads_S12_S128_01160 h_S_) shapeCasts_S128_S1x128

theorem bias_lo (b : FVec Ideal S12 .f32) (i : Fin 12) : bias b (ix2 0 ⟨i.val, by omega⟩) = b (ix1 i) := by
  pointwise [bias]

theorem bias_hi (b : FVec Ideal S12 .f32) (i : Fin 116) : bias b (ix2 0 ⟨12 + i.val, by omega⟩) = 0 := by
  pointwise [bias]
  exact zero_word

theorem v25_eq : V m c main_v25 = bias (argB m c) := by
  unfold V
  simp only [hostOps0, hostOps0_1, hostOps0_2, hostOps0_3, hostOps0_4, List.flatten_cons, List.flatten_nil, List.cons_append, List.nil_append, List.append_nil,
    StableHlo.TRef.unary, StableHlo.TRef.binary, StableHlo.TRef.toBuf, StableHlo.TRef.ofBuf, cast_eq]
  after_results
  rfl

end Cert.InSIdeal.Proj
end
-- ==== Proof.In.Weights.lean ====
module

public import proofs.«01_k».proof.Proof.Gen.InIdeal.Value
public import proofs.«01_k».proof.Proof.InS.Weights

@[expose] public section

set_option maxRecDepth 16384

noncomputable section

/-! The prompt's projections: the weights as the host prepares them, those of the forget gates by query head in its group
and key/value head. -/

namespace Cert.InIdeal.Proj

open Cert.InIdeal Cert.InIdeal.Gen Idealize.ShloMosaic Idealize.ShloMosaic.TcCoe
open Cert.InSIdeal.Proj (prepared zero_word)

/-- The forget gates' weights, a row for each of three query heads in their groups and eight key/value heads, of which four are padding. -/
def gateW (w : FVec Ideal S1024x2572 .f32) : FVec Ideal S24x1024 .bf16 :=
  truncf .bf16 (transpose S24x1024 [1, 0] (shapeCast _ (pad S1024x3x8 ![0, 0, 0] ![0, 0, 4] ![0, 0, 0]
    (transpose S1024x3x4 [0, 2, 1] (shapeCast _ (extractStridedSlice S1024x12 ![0, 2560] w slices_S1024x2572_S1024x12_0_2560) shapeCasts_S1024x12_S1024x4x3) transposes_S1024x4x3_S1024x3x4_0_2_1)
    (sitofp .f32 (constantI S_ 32 0#32)) pads_S1024x3x4_S1024x3x8_000_000_040 h_S_) shapeCasts_S1024x3x8_S1024x24) transposes_S1024x24_S24x1024_1_0) bitsLt_bf16_f32

theorem gateW_lo (w : FVec Ideal S1024x2572 .f32) (a : Fin 3) (h : Fin 4) (k : Fin 1024) :
    gateW w (ix2 ⟨8 * a.val + h.val, by omega⟩ k) = w (ix2 k ⟨2560 + (3 * h.val + a.val), by omega⟩) := by
  pointwise [gateW]
  rw [dif_pos (by omega)]
  exact congrArg w (congrArg (ix2 k) (Fin.ext (by dsimp only; omega)))

theorem gateW_hi (w : FVec Ideal S1024x2572 .f32) (a : Fin 3) (h : Fin 4) (k : Fin 1024) : gateW w (ix2 ⟨8 * a.val + (4 + h.val), by omega⟩ k) = 0 := by
  pointwise [gateW]
  rw [dif_neg (by omega)]
  exact zero_word

/-- The forget gates' bias in the same rows. -/
def gateB (b : FVec Ideal S12 .f32) : FVec Ideal S24x1 .f32 :=
  shapeCast _ (shapeCast _ (pad S3x8 ![0, 0] ![0, 4] ![0, 0] (transpose S3x4 [1, 0] (shapeCast _ b shapeCasts_S12_S4x3) transposes_S4x3_S3x4_1_0)
    (sitofp .f32 (constantI S_ 32 0#32)) pads_S3x4_S3x8_000_040 h_S_) shapeCasts_S3x8_S24) shapeCasts_S24_S24x1

theorem gateB_lo (b : FVec Ideal S12 .f32) (a : Fin 3) (h : Fin 4) : gateB b (ix2 ⟨8 * a.val + h.val, by omega⟩ 0) = b (ix1 ⟨3 * h.val + a.val, by omega⟩) := by
  pointwise [gateB]
  rw [dif_pos (by omega)]
  exact congrArg b (congrArg ix1 (Fin.ext (by dsimp only; omega)))

theorem gateB_hi (b : FVec Ideal S12 .f32) (a : Fin 3) (h : Fin 4) : gateB b (ix2 ⟨8 * a.val + (4 + h.val), by omega⟩ 0) = 0 := by
  pointwise [gateB]
  rw [dif_neg (by omega)]
  exact zero_word

variable (m : (ℓ : Loc nD τ sig) → Buf (Elt Ideal) ℓ) (c : Dev nD)

abbrev argW : FVec Ideal S1024x2572 .f32 := m (c.tc.loc main_arg2)
abbrev argB : FVec Ideal S12 .f32 := m (c.tc.loc main_arg3)

theorem v23_eq : V m c main_v23 = prepared (argW m c) := by
  unfold V
  simp only [hostOps0, hostOps0_1, hostOps0_2, hostOps0_3, hostOps0_4, hostOps0_5, hostOps0_6, hostOps0_7, hostOps0_8, List.flatten_cons, List.flatten_nil, List.cons_append, List.nil_append, List.append_nil,
    StableHlo.TRef.unary, StableHlo.TRef.binary, StableHlo.TRef.ternary, StableHlo.TRef.toBuf, StableHlo.TRef.ofBuf, cast_eq]
  after_results
  rfl

theorem v30_eq : V m c main_v30 = gateW (argW m c) := by
  unfold V
  simp only [hostOps0, hostOps0_1, hostOps0_2, hostOps0_3, hostOps0_4, hostOps0_5, hostOps0_6, hostOps0_7, hostOps0_8, List.flatten_cons, List.flatten_nil, List.cons_append, List.nil_append, List.append_nil,
    StableHlo.TRef.unary, StableHlo.TRef.binary, StableHlo.TRef.ternary, StableHlo.TRef.toBuf, StableHlo.TRef.ofBuf, cast_eq]
  after_results
  rfl

theorem v35_eq : V m c main_v35 = gateB (argB m c) := by
  unfold V
  simp only [hostOps0, hostOps0_1, hostOps0_2, hostOps0_3, hostOps0_4, hostOps0_5, hostOps0_6, hostOps0_7, hostOps0_8, List.flatten_cons, List.flatten_nil, List.cons_append, List.nil_append, List.append_nil,
    StableHlo.TRef.unary, StableHlo.TRef.binary, StableHlo.TRef.ternary, StableHlo.TRef.toBuf, StableHlo.TRef.ofBuf, cast_eq]
  after_results
  rfl

end Cert.InIdeal.Proj
end
-- ==== Proof.In.Block.lean ====
module

public import proofs.«01_k».proof.Proof.In.Weights

@[expose] public section

set_option maxRecDepth 16384

noncomputable section

/-! The prompt's projections: a block of the call's results read at one index. -/

namespace Cert.InIdeal.Proj

open Cert.InIdeal Cert.InIdeal.Gen Idealize.ShloMosaic Idealize.ShloMosaic.TcCoe
open Cert.Norm (scale proj silu logsig)

section
variable (x0 : Vec Ideal S512x1024 .f32) (x1 : Vec Ideal S1x1024 .f32) (x2 : Vec Ideal S1024x2688 .bf16) (x3 : Vec Ideal S24x1024 .bf16) (x4 : Vec Ideal S24x1 .f32) (r : Fin 512)

/-- The block's product with the weights' column `j`. -/
abbrev row (j : Fin 2688) : EReal := proj (fun k => x0 (ix2 r k)) (fun k => x1 (ix2 0 k)) (fun k => x2 (ix2 k j))

/-- The block's product with the forget gates' weights' row `a`. -/
abbrev gateRow (a : Fin 24) : EReal := proj (fun k => x0 (ix2 r k)) (fun k => x1 (ix2 0 k)) (fun k => x3 (ix2 a k))

theorem h_apply (k : Fin 1024) : k0_pay5 x0 x1 (ix2 r k) = x0 (ix2 r k) * scale (fun k => x0 (ix2 r k)) * x1 (ix2 0 k) := by
  pointwise [k0_pay5, scale]

theorem pay6_apply (j : Fin 768) : k0_pay6 x0 x1 (View.ld x2 (Rect.unit ![0, 0] ![1024, 768] inb_S1024x2688_S1024x768_0_0)) (ix2 r j) = row x0 x1 x2 r ⟨j.val, by omega⟩ := by
  pointwise [k0_pay6]
  simp only [h_apply]
  rfl

/-- The keys of the block, features before tokens, and its values. -/
abbrev keysT : FVec Ideal S256x512 .f32 := k0_pay7 x0 x1 (View.ld x2 (Rect.unit ![0, 768] ![1024, 256] inb_S1024x2688_S1024x256_0_768))
abbrev valsT : FVec Ideal S256x512 .f32 := k0_pay8 x0 x1 (View.ld x2 (Rect.unit ![0, 1024] ![1024, 256] inb_S1024x2688_S1024x256_0_1024))

theorem keysT_apply (e : Fin 256) : keysT x0 x1 x2 (ix2 e r) = row x0 x1 x2 r ⟨768 + e.val, by omega⟩ := by
  pointwise [keysT, k0_pay7]
  simp only [h_apply]
  rfl

theorem valsT_apply (e : Fin 256) : valsT x0 x1 x2 (ix2 e r) = row x0 x1 x2 r ⟨1024 + e.val, by omega⟩ := by
  pointwise [valsT, k0_pay8]
  simp only [h_apply]
  rfl

theorem pay22_apply (j : Fin 768) : k0_pay22 (k0_pay5 x0 x1) (View.ld x2 (Rect.unit ![0, 1280] ![1024, 768] inb_S1024x2688_S1024x768_0_1280)) (ix2 r j) = silu (row x0 x1 x2 r ⟨1280 + j.val, by omega⟩) := by
  pointwise [k0_pay22]
  simp only [h_apply]
  rfl

theorem pay23_apply (j : Fin 256) : k0_pay23 (k0_pay5 x0 x1) (View.ld x2 (Rect.unit ![0, 2048] ![1024, 256] inb_S1024x2688_S1024x256_0_2048)) (ix2 r j) = row x0 x1 x2 r ⟨2048 + j.val, by omega⟩ := by
  pointwise [k0_pay23]
  simp only [h_apply]
  rfl

theorem pay24_apply (j : Fin 256) : k0_pay24 (k0_pay5 x0 x1) (View.ld x2 (Rect.unit ![0, 2304] ![1024, 256] inb_S1024x2688_S1024x256_0_2304)) (ix2 r j) = silu (row x0 x1 x2 r ⟨2304 + j.val, by omega⟩) := by
  pointwise [k0_pay24]
  simp only [h_apply]
  rfl

theorem pay2_apply (a : Fin 3) (h : Fin 8) : k0_pay2 (k0_pay25 (k0_pay5 x0 x1) x3 x4) (ix4 0 a h r) = logsig (gateRow x0 x1 x3 r ⟨8 * a.val + h.val, by omega⟩ + x4 (ix2 ⟨8 * a.val + h.val, by omega⟩ 0)) := by
  have e : ∑ k, x3 (ix2 ⟨8 * a.val + h.val, by omega⟩ k) * (x0 (ix2 r k) * scale (fun k => x0 (ix2 r k)) * x1 (ix2 0 k)) = gateRow x0 x1 x3 r ⟨8 * a.val + h.val, by omega⟩ :=
    Finset.sum_congr rfl fun k _ => mul_comm _ _
  rw [← e]
  have ea : (⟨a.val * 8 + h.val, by omega⟩ : Fin 24) = ⟨8 * a.val + h.val, by omega⟩ := Fin.ext (by dsimp only; omega)
  pointwise [k0_pay2, k0_pay25]
  simp only [h_apply, ea]
  rfl
end

variable (m : (ℓ : Loc nD τ sig) → Buf (Elt Ideal) ℓ) (c : Dev nD) (t : Fin cfg0.N)

theorem outs6 (r : Fin 512) (j : Fin 768) : (outsAt0 m c t.val t.isLt).1 (ix2 r j) = row (iblk m c 0 t) (iblk m c 1 t) (iblk m c 2 t) r ⟨j.val, by omega⟩ := by
  by_cases h8 : t.val % 8 = 0
  · rw [outsAt0_A m c t h8]
    dsimp only
    frame_out
    exact pay6_apply _ _ _ r j
  · rw [outsAt0_B m c t h8]
    dsimp only
    frame_out
    exact pay6_apply _ _ _ r j

theorem outs7 (r : Fin 512) (e : Fin 256) : (outsAt0 m c t.val t.isLt).2.1 (ix3 0 e r) = row (iblk m c 0 t) (iblk m c 1 t) (iblk m c 2 t) r ⟨768 + e.val, by omega⟩ := by
  by_cases h8 : t.val % 8 = 0
  · rw [outsAt0_A m c t h8]
    dsimp only
    frame_out
    refine Eq.trans ?_ (keysT_apply _ _ _ r e)
    pointwise [k0_pay9]
  · rw [outsAt0_B m c t h8]
    dsimp only
    frame_out
    refine Eq.trans ?_ (keysT_apply _ _ _ r e)
    pointwise [k0_pay9]

theorem outs8 (r : Fin 512) (e : Fin 256) : (outsAt0 m c t.val t.isLt).2.2.1 (ix3 0 e r) = row (iblk m c 0 t) (iblk m c 1 t) (iblk m c 2 t) r ⟨1024 + e.val, by omega⟩ := by
  by_cases h8 : t.val % 8 = 0
  · rw [outsAt0_A m c t h8]
    dsimp only
    frame_out
    refine Eq.trans ?_ (valsT_apply _ _ _ r e)
    pointwise [k0_pay10]
  · rw [outsAt0_B m c t h8]
    dsimp only
    frame_out
    refine Eq.trans ?_ (valsT_apply _ _ _ r e)
    pointwise [k0_pay10]

theorem outs9 (r : Fin 512) (j : Fin 768) : (outsAt0 m c t.val t.isLt).2.2.2.1 (ix2 r j) = silu (row (iblk m c 0 t) (iblk m c 1 t) (iblk m c 2 t) r ⟨1280 + j.val, by omega⟩) := by
  by_cases h8 : t.val % 8 = 0
  · rw [outsAt0_A m c t h8]
    dsimp only
    frame_out
    exact pay22_apply _ _ _ r j
  · rw [outsAt0_B m c t h8]
    dsimp only
    frame_out
    exact pay22_apply _ _ _ r j

theorem outs10 (r : Fin 512) (j : Fin 256) : (outsAt0 m c t.val t.isLt).2.2.2.2.1 (ix2 r j) = row (iblk m c 0 t) (iblk m c 1 t) (iblk m c 2 t) r ⟨2048 + j.val, by omega⟩ := by
  by_cases h8 : t.val % 8 = 0
  · rw [outsAt0_A m c t h8]
    dsimp only
    frame_out
    exact pay23_apply _ _ _ r j
  · rw [outsAt0_B m c t h8]
    dsimp only
    frame_out
    exact pay23_apply _ _ _ r j

theorem outs11 (r : Fin 512) (j : Fin 256) : (outsAt0 m c t.val t.isLt).2.2.2.2.2.1 (ix2 r j) = silu (row (iblk m c 0 t) (iblk m c 1 t) (iblk m c 2 t) r ⟨2304 + j.val, by omega⟩) := by
  by_cases h8 : t.val % 8 = 0
  · rw [outsAt0_A m c t h8]
    dsimp only
    frame_out
    exact pay24_apply _ _ _ r j
  · rw [outsAt0_B m c t h8]
    dsimp only
    frame_out
    exact pay24_apply _ _ _ r j

theorem outs12 (i : Fin 4) (e : Fin 256) (s : Fin 128) : (outsAt0 m c t.val t.isLt).2.2.2.2.2.2.1 (ix4 0 i e s) = keysT (iblk m c 0 t) (iblk m c 1 t) (iblk m c 2 t) (ix2 e ⟨128 * i.val + s.val, by omega⟩) := by
  by_cases h8 : t.val % 8 = 0
  · rw [outsAt0_A m c t h8]
    dsimp only
    frame_out
    canon_tiles x h
    all_goals
      obtain ⟨a, b, e', s', rfl⟩ : ∃ (a b : Fin 1) (e' : Fin 256) (s' : Fin 128), x = ix4 a b e' s' := ⟨x 0, x 1, x 2, x 3, eq_ix4 x⟩
      obtain rfl : e = e' := Fin.ext h2
      obtain rfl : s = s' := Fin.ext h3
      change i.val = _ at h1
      pointwise [k0_pay20, k0_pay19, k0_pay17, k0_pay15, k0_pay13, k0_pay11]
      exact congrArg (keysT (iblk m c 0 t) (iblk m c 1 t) (iblk m c 2 t)) (congrArg (ix2 e) (Fin.ext (by dsimp only; omega)))
  · rw [outsAt0_B m c t h8]
    dsimp only
    frame_out
    canon_tiles x h
    all_goals
      obtain ⟨a, b, e', s', rfl⟩ : ∃ (a b : Fin 1) (e' : Fin 256) (s' : Fin 128), x = ix4 a b e' s' := ⟨x 0, x 1, x 2, x 3, eq_ix4 x⟩
      obtain rfl : e = e' := Fin.ext h2
      obtain rfl : s = s' := Fin.ext h3
      change i.val = _ at h1
      pointwise [k0_pay20, k0_pay19, k0_pay17, k0_pay15, k0_pay13, k0_pay11]
      exact congrArg (keysT (iblk m c 0 t) (iblk m c 1 t) (iblk m c 2 t)) (congrArg (ix2 e) (Fin.ext (by dsimp only; omega)))

theorem outs13 (i : Fin 4) (e : Fin 256) (s : Fin 128) : (outsAt0 m c t.val t.isLt).2.2.2.2.2.2.2.1 (ix4 0 i e s) = valsT (iblk m c 0 t) (iblk m c 1 t) (iblk m c 2 t) (ix2 e ⟨128 * i.val + s.val, by omega⟩) := by
  by_cases h8 : t.val % 8 = 0
  · rw [outsAt0_A m c t h8]
    dsimp only
    frame_out
    canon_tiles x h
    all_goals
      obtain ⟨a, b, e', s', rfl⟩ : ∃ (a b : Fin 1) (e' : Fin 256) (s' : Fin 128), x = ix4 a b e' s' := ⟨x 0, x 1, x 2, x 3, eq_ix4 x⟩
      obtain rfl : e = e' := Fin.ext h2
      obtain rfl : s = s' := Fin.ext h3
      change i.val = _ at h1
      pointwise [k0_pay21, k0_pay18, k0_pay16, k0_pay14, k0_pay12]
      exact congrArg (valsT (iblk m c 0 t) (iblk m c 1 t) (iblk m c 2 t)) (congrArg (ix2 e) (Fin.ext (by dsimp only; omega)))
  · rw [outsAt0_B m c t h8]
    dsimp only
    frame_out
    canon_tiles x h
    all_goals
      obtain ⟨a, b, e', s', rfl⟩ : ∃ (a b : Fin 1) (e' : Fin 256) (s' : Fin 128), x = ix4 a b e' s' := ⟨x 0, x 1, x 2, x 3, eq_ix4 x⟩
      obtain rfl : e = e' := Fin.ext h2
      obtain rfl : s = s' := Fin.ext h3
      change i.val = _ at h1
      pointwise [k0_pay21, k0_pay18, k0_pay16, k0_pay14, k0_pay12]
      exact congrArg (valsT (iblk m c 0 t) (iblk m c 1 t) (iblk m c 2 t)) (congrArg (ix2 e) (Fin.ext (by dsimp only; omega)))

theorem outs14 (r : Fin 512) (a : Fin 3) (h : Fin 8) : (outsAt0 m c t.val t.isLt).2.2.2.2.2.2.2.2.1 (ix4 0 a h r) = logsig (gateRow (iblk m c 0 t) (iblk m c 1 t) (iblk m c 3 t) r ⟨8 * a.val + h.val, by omega⟩ + (show Vec Ideal S24x1 .f32 from iblk m c 4 t) (ix2 ⟨8 * a.val + h.val, by omega⟩ 0)) := by
  by_cases h8 : t.val % 8 = 0
  · rw [outsAt0_A m c t h8]
    dsimp only
    frame_out
    exact pay2_apply _ _ _ _ r a h
  · rw [outsAt0_B m c t h8]
    dsimp only
    frame_out
    exact pay2_apply _ _ _ _ r a h

end Cert.InIdeal.Proj
end
-- ==== Proof.In.Ref.lean ====
module

public import proofs.«01_k».proof.Proof.Gen.InRefIdeal.Run
public import proofs.«01_k».proof.Proof.In.Weights

@[expose] public section

set_option maxRecDepth 16384

noncomputable section

/-! The prompt's reference read at one index. -/

namespace Cert.InRefIdeal.Proj

open Cert.InRefIdeal Cert.InRefIdeal.Gen Idealize.ShloMosaic Idealize.ShloMosaic.TcCoe
open Cert.Norm (scale proj silu logsig silu_eq logsig_eq eighth qscale)
open Cert.InSIdeal.Proj (perm)

/-- The normed tokens' product with the weights. -/
def prod (x : FVec Ideal S16384x1024 .f32) (g : FVec Ideal S1024 .f32) (w : FVec Ideal S1024x2572 .f32) : FVec Ideal S16384x2572 .f32 :=
  Host.dotGeneral dot_S16384x1024_S1024x2572_S16384x2572_1_0_0_1_n_n none (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))) w

/-- Twelve heads' features with the index in the group first. -/
def heads (t : FVec Ideal S16384x768 .f32) : FVec Ideal S16384x768 .f32 :=
  shapeCast _ (transpose S16384x3x4x64 [0, 2, 1, 3] (shapeCast S16384x4x3x64 t shapeCasts_S16384x768_S16384x4x3x64) transposes_S16384x4x3x64_S16384x3x4x64_0_2_1_3) shapeCasts_S16384x3x4x64_S16384x768

/-- A value times its logistic function. -/
def gate {s : Shape} (hs : S_.BroadcastsInDim s (![] : Fin 0 → Fin s.rank)) (t : FVec Ideal s .f32) : FVec Ideal s .f32 :=
  mulf t (Host.divf (broadcastInDim s ![] hs (constant S_ .f32 0x3F800000#32)) (addf (broadcastInDim s ![] hs (constant S_ .f32 0x3F800000#32)) (Host.exp (Host.negf t))))

variable (x : FVec Ideal S16384x1024 .f32) (g : FVec Ideal S1024 .f32) (w : FVec Ideal S1024x2572 .f32) (b : FVec Ideal S12 .f32)

abbrev entry (r : Fin 16384) (j : Fin 2572) : EReal := proj (fun k => x (ix2 r k)) (fun k => g (ix1 k)) (fun k => w (ix2 k j))

theorem prod_apply (r : Fin 16384) (j : Fin 2572) : prod x g w (ix2 r j) = entry x g w r j := by
  pointwise [prod, proj, scale]

theorem heads_apply (t : FVec Ideal S16384x768 .f32) (r : Fin 16384) (j : Fin 768) : heads t (ix2 r j) = t (ix2 r (perm j)) := by
  pointwise [heads]
  refine congrArg t (congr (congrArg ix2 (Fin.ext ?_)) (Fin.ext ?_)) <;> simp [perm]
  omega

theorem gate_apply (t : FVec Ideal S16384x768 .f32) (r : Fin 16384) (j : Fin 768) : gate bcast_S_S16384x768 t (ix2 r j) = silu (t (ix2 r j)) := by
  rw [← silu_eq]
  pointwise [gate]

def queries : FVec Ideal S16384x768 .bf16 := truncf .bf16 (heads (mulf (extractStridedSlice S16384x768 ![0, 0] (prod x g w) slices_S16384x2572_S16384x768_0_0) (broadcastInDim S16384x768 ![] bcast_S_S16384x768 (constant S_ .f32 0x3E38AA3B#32)))) bitsLt_bf16_f32

def keys : FVec Ideal S16384x256 .f32 := extractStridedSlice S16384x256 ![0, 768] (prod x g w) slices_S16384x2572_S16384x256_0_768

def vals : FVec Ideal S16384x256 .f32 := extractStridedSlice S16384x256 ![0, 1024] (prod x g w) slices_S16384x2572_S16384x256_0_1024

/-- Of each sequence, features before tokens. -/
def featureMajor (t : FVec Ideal S16384x256 .f32) : FVec Ideal S4x256x4096 .f32 :=
  transpose S4x256x4096 [0, 2, 1] (shapeCast _ t shapeCasts_S16384x256_S4x4096x256) transposes_S4x4096x256_S4x256x4096_0_2_1

/-- Of each sequence in tiles of 128 tokens, features before tokens. -/
def tiled (t : FVec Ideal S16384x256 .f32) : FVec Ideal S4x32x256x128 .bf16 :=
  truncf .bf16 (transpose S4x32x256x128 [0, 1, 3, 2] (shapeCast _ t shapeCasts_S16384x256_S4x32x128x256) transposes_S4x32x128x256_S4x32x256x128_0_1_3_2) bitsLt_bf16_f32

def gates : FVec Ideal S16384x768 .f32 := heads (gate bcast_S_S16384x768 (extractStridedSlice S16384x768 ![0, 1280] (prod x g w) slices_S16384x2572_S16384x768_0_1280))

def memQueries : FVec Ideal S16384x256 .bf16 :=
  truncf .bf16 (mulf (extractStridedSlice S16384x256 ![0, 2048] (prod x g w) slices_S16384x2572_S16384x256_0_2048) (broadcastInDim S16384x256 ![] bcast_S_S16384x256 (constant S_ .f32 0x3E000000#32))) bitsLt_bf16_f32

def memGates : FVec Ideal S16384x256 .f32 := gate bcast_S_S16384x256 (extractStridedSlice S16384x256 ![0, 2304] (prod x g w) slices_S16384x2572_S16384x256_0_2304)

/-- The forget gates' logits of each sequence, by query head in its group and key/value head, these padded with zeros. -/
def logits : FVec Ideal S4x3x8x4096 .f32 :=
  pad S4x3x8x4096 ![0, 0, 0, 0] ![0, 0, 4, 0] ![0, 0, 0, 0] (transpose S4x3x4x4096 [0, 3, 2, 1] (shapeCast _ (addf (extractStridedSlice S16384x12 ![0, 2560] (prod x g w) slices_S16384x2572_S16384x12_0_2560)
    (broadcastInDim S16384x12 ![0, 1] bcast_S1x12_S16384x12_0_1 (broadcastInDim S1x12 ![1] bcast_S12_S1x12_1 b))) shapeCasts_S16384x12_S4x4096x4x3) transposes_S4x4096x4x3_S4x3x4x4096_0_3_2_1)
    (sitofp .f32 (constantI S_ 32 0#32)) pads_S4x3x4x4096_S4x3x8x4096_000_000_040_000 h_S_

/-- Zero at every index. -/
abbrev zeros : FVec Ideal S4x3x8x4096 .f32 := broadcastInDim S4x3x8x4096 ![] bcast_S_S4x3x8x4096 (constant S_ .f32 0x00000000#32)

def logGates (z : FVec Ideal S4x3x8x4096 .f32) : FVec Ideal S4x3x8x4096 .f32 :=
  Host.negf (select (cmpf .une (subf (Host.negf z) zeros) (subf (Host.negf z) zeros)) (addf (Host.negf z) zeros)
    (addf (maximumf (Host.negf z) zeros) (Host.log1p (Host.exp (Host.negf (Host.absf (subf (Host.negf z) zeros)))))))

/-- The token `s` of sequence `b`. -/
abbrev tok (b : Fin 4) (s : Fin 4096) : Fin 16384 := ⟨4096 * b.val + s.val, by omega⟩

theorem queries_apply (r : Fin 16384) (j : Fin 768) : queries x g w (ix2 r j) = entry x g w r ⟨(perm j).val, by omega⟩ * qscale := by
  rw [← prod_apply]
  refine Eq.trans ?_ ((heads_apply (mulf (extractStridedSlice S16384x768 ![0, 0] (prod x g w) slices_S16384x2572_S16384x768_0_0) (broadcastInDim S16384x768 ![] bcast_S_S16384x768 (constant S_ .f32 0x3E38AA3B#32))) r j).trans ?_)
  · pointwise [queries]
  · pointwise

theorem keys_apply (r : Fin 16384) (j : Fin 256) : keys x g w (ix2 r j) = entry x g w r ⟨768 + j.val, by omega⟩ := by
  rw [← prod_apply]
  pointwise [keys]

theorem vals_apply (r : Fin 16384) (j : Fin 256) : vals x g w (ix2 r j) = entry x g w r ⟨1024 + j.val, by omega⟩ := by
  rw [← prod_apply]
  pointwise [vals]

theorem featureMajor_apply (t : FVec Ideal S16384x256 .f32) (b : Fin 4) (e : Fin 256) (s : Fin 4096) : featureMajor t (ix3 b e s) = t (ix2 (tok b s) e) := by
  pointwise [featureMajor]
  exact congrArg (fun i => t (ix2 i e)) (Fin.ext (by dsimp only [tok]; omega))

theorem tiled_apply (t : FVec Ideal S16384x256 .f32) (b : Fin 4) (i : Fin 32) (e : Fin 256) (s : Fin 128) : tiled t (ix4 b i e s) = t (ix2 (tok b ⟨128 * i.val + s.val, by omega⟩) e) := by
  pointwise [tiled]
  exact congrArg (fun i => t (ix2 i e)) (Fin.ext (by dsimp only [tok]; omega))

theorem gates_apply (r : Fin 16384) (j : Fin 768) : gates x g w (ix2 r j) = silu (entry x g w r ⟨1280 + (perm j).val, by omega⟩) := by
  rw [gates, heads_apply, gate_apply, ← prod_apply]
  refine congrArg silu ?_
  pointwise

theorem memQueries_apply (r : Fin 16384) (j : Fin 256) : memQueries x g w (ix2 r j) = entry x g w r ⟨2048 + j.val, by omega⟩ * eighth := by
  rw [← prod_apply]
  pointwise [memQueries]

theorem memGates_apply (r : Fin 16384) (j : Fin 256) : memGates x g w (ix2 r j) = silu (entry x g w r ⟨2304 + j.val, by omega⟩) := by
  rw [← prod_apply, ← silu_eq]
  pointwise [memGates, gate]

theorem logits_lo (q : Fin 4) (a : Fin 3) (h : Fin 4) (s : Fin 4096) :
    logits x g w b (ix4 q a ⟨h.val, by omega⟩ s) = entry x g w (tok q s) ⟨2560 + (3 * h.val + a.val), by omega⟩ + b (ix1 ⟨3 * h.val + a.val, by omega⟩) := by
  rw [← prod_apply]
  pointwise [logits]
  simp only [tok, Nat.mul_comm]

theorem logits_hi (q : Fin 4) (a : Fin 3) (h : Fin 4) (s : Fin 4096) : logits x g w b (ix4 q a ⟨4 + h.val, by omega⟩ s) = 0 := by
  pointwise [logits]
  exact Cert.InSIdeal.Proj.zero_word

theorem logGates_apply (z : FVec Ideal S4x3x8x4096 .f32) (q : Fin 4) (a : Fin 3) (h : Fin 8) (s : Fin 4096) : logGates z (ix4 q a h s) = logsig (z (ix4 q a h s)) := by
  rw [← logsig_eq]
  pointwise [logGates]
  rw [if_neg (not_not.mpr rfl)]
  rfl

end Cert.InRefIdeal.Proj
end
-- ==== Proof.In.Array.lean ====
module

public import proofs.«01_k».proof.Proof.In.Block
public import proofs.«01_k».proof.Proof.In.Ref

@[expose] public section

set_option maxRecDepth 16384

noncomputable section

/-! The prompt's projections are the reference's. -/

namespace Cert.InIdeal.Proj

open Cert.InIdeal Cert.InIdeal.Gen Idealize.ShloMosaic Idealize.ShloMosaic.TcCoe
open Cert.Norm (proj proj_zero proj_scale proj_qscale silu logsig)
open Cert.InSIdeal.Proj (prepared prepared_q prepared_k prepared_v prepared_z prepared_qm prepared_zm)
open Cert.InRefIdeal.Proj

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx6 : ∀ t : Fin cfg0.N, win0_6.index t = ![t.val, 0] := by decide +kernel
theorem idx7 : ∀ t : Fin cfg0.N, win0_7.index t = ![t.val / 8, 0, t.val % 8] := by decide +kernel
theorem idx8 : ∀ t : Fin cfg0.N, win0_8.index t = ![t.val / 8, 0, t.val % 8] := by decide +kernel
theorem idx9 : ∀ t : Fin cfg0.N, win0_9.index t = ![t.val, 0] := by decide +kernel
theorem idx10 : ∀ t : Fin cfg0.N, win0_10.index t = ![t.val, 0] := by decide +kernel
theorem idx11 : ∀ t : Fin cfg0.N, win0_11.index t = ![t.val, 0] := by decide +kernel
theorem idx12 : ∀ t : Fin cfg0.N, win0_12.index t = ![t.val / 8, t.val % 8, 0, 0] := by decide +kernel
theorem idx13 : ∀ t : Fin cfg0.N, win0_13.index t = ![t.val / 8, t.val % 8, 0, 0] := by decide +kernel
theorem idx14 : ∀ t : Fin cfg0.N, win0_14.index t = ![t.val / 8, 0, 0, t.val % 8] := by decide +kernel

variable (m : (ℓ : Loc nD τ sig) → Buf (Elt Ideal) ℓ) (c : Dev nD) (t : Fin cfg0.N)

/-- The arguments, as arrays of their shapes. -/
abbrev argX : FVec Ideal S16384x1024 .f32 := m (c.tc.loc main_arg0)
abbrev argG : FVec Ideal S1024 .f32 := m (c.tc.loc main_arg1)

/-- The sequence and the position in it of row `r` of grid point `t`'s block. -/
def bat : Fin 4 := ⟨t.val / 8, by have : t.val < 32 := t.isLt; omega⟩
def pos (r : Fin 512) : Fin 4096 := ⟨512 * (t.val % 8) + r.val, by omega⟩

/-- The token of that row. -/
abbrev at_ (r : Fin 512) : Fin 16384 := tok (bat t) (pos t r)

theorem blk0 (r : Fin 512) (k : Fin 1024) : (show Vec Ideal S512x1024 .f32 from iblk m c 0 t) (ix2 r k) = argX m c (ix2 (at_ t r) k) := by
  blk_simp [iblk]
  unfold V
  after_reads_at
  refine congrArg (argX m c) ?_
  blk_ext [at_, tok, bat, pos, idx0 t]

theorem blk1 (k : Fin 1024) : (show Vec Ideal S1x1024 .f32 from iblk m c 1 t) (ix2 0 k) = argG m c (ix1 k) := by
  blk_simp [iblk]
  unfold V
  after_reads_at
  refine congrArg (argG m c) ?_
  blk_ext [idx1 t]

theorem blk2 (k : Fin 1024) (j : Fin 2688) : (show Vec Ideal S1024x2688 .bf16 from iblk m c 2 t) (ix2 k j) = prepared (argW m c) (ix2 k j) := by
  blk_simp [iblk]
  refine (congrFun (v23_eq m c) _).trans (congrArg (prepared (argW m c)) ?_)
  blk_ext [idx2 t]

theorem blk3 (a : Fin 24) (k : Fin 1024) : (show Vec Ideal S24x1024 .bf16 from iblk m c 3 t) (ix2 a k) = gateW (argW m c) (ix2 a k) := by
  blk_simp [iblk]
  refine (congrFun (v30_eq m c) _).trans (congrArg (gateW (argW m c)) ?_)
  blk_ext [idx3 t]

theorem blk4 (a : Fin 24) : (show Vec Ideal S24x1 .f32 from iblk m c 4 t) (ix2 a 0) = gateB (argB m c) (ix2 a 0) := by
  blk_simp [iblk]
  refine (congrFun (v35_eq m c) _).trans (congrArg (gateB (argB m c)) ?_)
  blk_ext [idx4 t]

/-- The block's row is the arguments' row against the column of the prepared weights. -/
theorem row_eq (r : Fin 512) (j : Fin 2688) (v : Fin 1024 → EReal) (hv : ∀ k, prepared (argW m c) (ix2 k j) = v k) :
    row (iblk m c 0 t) (iblk m c 1 t) (iblk m c 2 t) r j = proj (fun k => argX m c (ix2 (at_ t r) k)) (fun k => argG m c (ix1 k)) v :=
  congr (congr (congrArg proj (funext fun k => blk0 m c t r k)) (funext fun k => blk1 m c t k)) (funext fun k => (blk2 m c t k j).trans (hv k))

/-- A logit of the block is the reference's. -/
theorem logit_eq (r : Fin 512) (a : Fin 3) (h : Fin 8) :
    gateRow (iblk m c 0 t) (iblk m c 1 t) (iblk m c 3 t) r ⟨8 * a.val + h.val, by omega⟩ + (show Vec Ideal S24x1 .f32 from iblk m c 4 t) (ix2 ⟨8 * a.val + h.val, by omega⟩ 0)
      = logits (argX m c) (argG m c) (argW m c) (argB m c) (ix4 (bat t) a h (pos t r)) := by
  have hrow : ∀ (j : Fin 24) (v : Fin 1024 → EReal), (∀ k, gateW (argW m c) (ix2 j k) = v k) →
      gateRow (iblk m c 0 t) (iblk m c 1 t) (iblk m c 3 t) r j = proj (fun k => argX m c (ix2 (at_ t r) k)) (fun k => argG m c (ix1 k)) v := fun j v hv =>
    congr (congr (congrArg proj (funext fun k => blk0 m c t r k)) (funext fun k => blk1 m c t k)) (funext fun k => (blk3 m c t j k).trans (hv k))
  rw [blk4]
  rcases Nat.lt_or_ge h.val 4 with hh | hh
  · obtain ⟨i, rfl⟩ : ∃ i : Fin 4, h = ⟨i.val, Nat.lt_of_lt_of_le i.isLt (by decide)⟩ := ⟨⟨h.val, hh⟩, rfl⟩
    exact (congrArg₂ (· + ·) (hrow _ _ fun k => gateW_lo _ a i k) (gateB_lo _ a i)).trans (logits_lo _ _ _ _ (bat t) a i (pos t r)).symm
  · obtain ⟨i, rfl⟩ : ∃ i : Fin 4, h = ⟨4 + i.val, Nat.add_lt_add_left i.isLt 4⟩ := ⟨⟨h.val - 4, by omega⟩, Fin.ext (by dsimp only; omega)⟩
    exact (congrArg₂ (· + ·) ((hrow _ _ fun k => gateW_hi _ a i k).trans (proj_zero _ _)) (gateB_hi _ a i)).trans ((add_zero _).trans (logits_hi _ _ _ _ (bat t) a i (pos t r)).symm)

theorem array6 : (dats m 0 c).arrAt 6 cfg0.N = queries (argX m c) (argG m c) (argW m c) := by
  refine (dats m 0 c).arrAt_eq_of_covers 6 _ (by decide +kernel) fun t hf y => ?_
  blk_simp
  rw [after0_6]
  obtain ⟨r, j, rfl⟩ : ∃ (r : Fin 512) (j : Fin 768), y = ix2 r j := ⟨y 0, y 1, eq_ix2 y⟩
  have hemb : ((cfg0.win 6).blk t).view.emb (ix2 r j) = ix2 (at_ t r) j := by blk_ext [idx6 t, at_, tok, bat, pos]
  refine Eq.trans ?_ (congrArg (queries (argX m c) (argG m c) (argW m c)) hemb).symm
  exact (outs6 m c t r j).trans ((row_eq m c t r _ _ fun k => prepared_q _ k j).trans ((proj_qscale _ _ _).trans (queries_apply _ _ _ _ j).symm))

theorem array7 : (dats m 0 c).arrAt 7 cfg0.N = featureMajor (keys (argX m c) (argG m c) (argW m c)) := by
  refine (dats m 0 c).arrAt_eq_of_covers 7 _ (by decide +kernel) fun t hf y => ?_
  blk_simp
  rw [after0_7]
  obtain ⟨a, e, r, rfl⟩ : ∃ (a : Fin 1) (e : Fin 256) (r : Fin 512), y = ix3 a e r := ⟨y 0, y 1, y 2, eq_ix3 y⟩
  obtain rfl : a = 0 := Subsingleton.elim _ _
  have hemb : ((cfg0.win 7).blk t).view.emb (ix3 0 e r) = ix3 (bat t) e (pos t r) := by blk_ext [idx7 t, bat, pos]
  refine Eq.trans ?_ (congrArg (featureMajor (keys (argX m c) (argG m c) (argW m c))) hemb).symm
  exact (outs7 m c t r e).trans ((row_eq m c t r _ _ fun k => prepared_k _ k e).trans ((keys_apply _ _ _ _ e).symm.trans (featureMajor_apply _ _ e _).symm))

theorem array8 : (dats m 0 c).arrAt 8 cfg0.N = featureMajor (vals (argX m c) (argG m c) (argW m c)) := by
  refine (dats m 0 c).arrAt_eq_of_covers 8 _ (by decide +kernel) fun t hf y => ?_
  blk_simp
  rw [after0_8]
  obtain ⟨a, e, r, rfl⟩ : ∃ (a : Fin 1) (e : Fin 256) (r : Fin 512), y = ix3 a e r := ⟨y 0, y 1, y 2, eq_ix3 y⟩
  obtain rfl : a = 0 := Subsingleton.elim _ _
  have hemb : ((cfg0.win 8).blk t).view.emb (ix3 0 e r) = ix3 (bat t) e (pos t r) := by blk_ext [idx8 t, bat, pos]
  refine Eq.trans ?_ (congrArg (featureMajor (vals (argX m c) (argG m c) (argW m c))) hemb).symm
  exact (outs8 m c t r e).trans ((row_eq m c t r _ _ fun k => prepared_v _ k e).trans ((vals_apply _ _ _ _ e).symm.trans (featureMajor_apply _ _ e _).symm))

theorem array9 : (dats m 0 c).arrAt 9 cfg0.N = gates (argX m c) (argG m c) (argW m c) := by
  refine (dats m 0 c).arrAt_eq_of_covers 9 _ (by decide +kernel) fun t hf y => ?_
  blk_simp
  rw [after0_9]
  obtain ⟨r, j, rfl⟩ : ∃ (r : Fin 512) (j : Fin 768), y = ix2 r j := ⟨y 0, y 1, eq_ix2 y⟩
  have hemb : ((cfg0.win 9).blk t).view.emb (ix2 r j) = ix2 (at_ t r) j := by blk_ext [idx9 t, at_, tok, bat, pos]
  refine Eq.trans ?_ (congrArg (gates (argX m c) (argG m c) (argW m c)) hemb).symm
  exact (outs9 m c t r j).trans ((congrArg silu (row_eq m c t r _ _ fun k => prepared_z _ k j)).trans (gates_apply _ _ _ _ j).symm)

theorem array10 : (dats m 0 c).arrAt 10 cfg0.N = memQueries (argX m c) (argG m c) (argW m c) := by
  refine (dats m 0 c).arrAt_eq_of_covers 10 _ (by decide +kernel) fun t hf y => ?_
  blk_simp
  rw [after0_10]
  obtain ⟨r, j, rfl⟩ : ∃ (r : Fin 512) (j : Fin 256), y = ix2 r j := ⟨y 0, y 1, eq_ix2 y⟩
  have hemb : ((cfg0.win 10).blk t).view.emb (ix2 r j) = ix2 (at_ t r) j := by blk_ext [idx10 t, at_, tok, bat, pos]
  refine Eq.trans ?_ (congrArg (memQueries (argX m c) (argG m c) (argW m c)) hemb).symm
  exact (outs10 m c t r j).trans ((row_eq m c t r _ _ fun k => prepared_qm _ k j).trans ((proj_scale _ _ _).trans (memQueries_apply _ _ _ _ j).symm))

theorem array11 : (dats m 0 c).arrAt 11 cfg0.N = memGates (argX m c) (argG m c) (argW m c) := by
  refine (dats m 0 c).arrAt_eq_of_covers 11 _ (by decide +kernel) fun t hf y => ?_
  blk_simp
  rw [after0_11]
  obtain ⟨r, j, rfl⟩ : ∃ (r : Fin 512) (j : Fin 256), y = ix2 r j := ⟨y 0, y 1, eq_ix2 y⟩
  have hemb : ((cfg0.win 11).blk t).view.emb (ix2 r j) = ix2 (at_ t r) j := by blk_ext [idx11 t, at_, tok, bat, pos]
  refine Eq.trans ?_ (congrArg (memGates (argX m c) (argG m c) (argW m c)) hemb).symm
  exact (outs11 m c t r j).trans ((congrArg silu (row_eq m c t r _ _ fun k => prepared_zm _ k j)).trans (memGates_apply _ _ _ _ j).symm)

/-- A tile's position among the tiles of its sequence, and a position of a tile in the sequence. -/
def tile (i : Fin 4) : Fin 32 := ⟨4 * (t.val % 8) + i.val, by omega⟩

theorem tile_pos (i : Fin 4) (s : Fin 128) : pos t ⟨128 * i.val + s.val, by omega⟩ = ⟨128 * (tile t i).val + s.val, by have := (tile t i).isLt; omega⟩ :=
  Fin.ext (by dsimp only [pos, tile]; omega)

theorem array12 : (dats m 0 c).arrAt 12 cfg0.N = tiled (keys (argX m c) (argG m c) (argW m c)) := by
  refine (dats m 0 c).arrAt_eq_of_covers 12 _ (by decide +kernel) fun t hf y => ?_
  blk_simp
  rw [after0_12]
  obtain ⟨a, i, e, s, rfl⟩ : ∃ (a : Fin 1) (i : Fin 4) (e : Fin 256) (s : Fin 128), y = ix4 a i e s := ⟨y 0, y 1, y 2, y 3, eq_ix4 y⟩
  obtain rfl : a = 0 := Subsingleton.elim _ _
  have hemb : ((cfg0.win 12).blk t).view.emb (ix4 0 i e s) = ix4 (bat t) (tile t i) e s := by blk_ext [idx12 t, bat, tile]
  refine Eq.trans ?_ (congrArg (tiled (keys (argX m c) (argG m c) (argW m c))) hemb).symm
  refine (outs12 m c t i e s).trans ((keysT_apply _ _ _ _ e).trans ((row_eq m c t _ _ _ fun k => prepared_k _ k e).trans
    ((keys_apply _ _ _ _ e).symm.trans (Eq.trans ?_ (tiled_apply _ _ (tile t i) e s).symm))))
  dsimp only [at_]
  rw [tile_pos]

theorem array13 : (dats m 0 c).arrAt 13 cfg0.N = tiled (vals (argX m c) (argG m c) (argW m c)) := by
  refine (dats m 0 c).arrAt_eq_of_covers 13 _ (by decide +kernel) fun t hf y => ?_
  blk_simp
  rw [after0_13]
  obtain ⟨a, i, e, s, rfl⟩ : ∃ (a : Fin 1) (i : Fin 4) (e : Fin 256) (s : Fin 128), y = ix4 a i e s := ⟨y 0, y 1, y 2, y 3, eq_ix4 y⟩
  obtain rfl : a = 0 := Subsingleton.elim _ _
  have hemb : ((cfg0.win 13).blk t).view.emb (ix4 0 i e s) = ix4 (bat t) (tile t i) e s := by blk_ext [idx13 t, bat, tile]
  refine Eq.trans ?_ (congrArg (tiled (vals (argX m c) (argG m c) (argW m c))) hemb).symm
  refine (outs13 m c t i e s).trans ((valsT_apply _ _ _ _ e).trans ((row_eq m c t _ _ _ fun k => prepared_v _ k e).trans
    ((vals_apply _ _ _ _ e).symm.trans (Eq.trans ?_ (tiled_apply _ _ (tile t i) e s).symm))))
  dsimp only [at_]
  rw [tile_pos]

theorem array14 : (dats m 0 c).arrAt 14 cfg0.N = logGates (logits (argX m c) (argG m c) (argW m c) (argB m c)) := by
  refine (dats m 0 c).arrAt_eq_of_covers 14 _ (by decide +kernel) fun t hf y => ?_
  blk_simp
  rw [after0_14]
  obtain ⟨z, a, h, r, rfl⟩ : ∃ (z : Fin 1) (a : Fin 3) (h : Fin 8) (r : Fin 512), y = ix4 z a h r := ⟨y 0, y 1, y 2, y 3, eq_ix4 y⟩
  obtain rfl : z = 0 := Subsingleton.elim _ _
  have hemb : ((cfg0.win 14).blk t).view.emb (ix4 0 a h r) = ix4 (bat t) a h (pos t r) := by blk_ext [idx14 t, bat, pos]
  refine Eq.trans ?_ (congrArg (logGates (logits (argX m c) (argG m c) (argW m c) (argB m c))) hemb).symm
  exact (outs14 m c t r a h).trans ((congrArg logsig (logit_eq m c t r a h)).trans (logGates_apply _ _ a h _).symm)

end Cert.InIdeal.Proj
end
-- ==== Proof.In.Claims.lean ====
module

public import proofs.«01_k».proof.Defs
public import proofs.«01_k».proof.Proof.In.Array
public import proofs.«01_k».proof.Proof.Gen.In.Frame
public import proofs.«01_k».proof.Proof.Gen.InIdeal.Frame
public import Idealize.ShloMosaic.Lib.Quiescent
public import Idealize.ShloMosaic.Adequacy
public import Idealize.ShloMosaic.Init

@[expose] public section

noncomputable section

/-! The claims about the prompt's projections. -/

namespace Cert.InClaims

open Idealize.ShloMosaic Idealize.SL.Sem

theorem frame_p : quiescent_In (hIn := Cert.In.Gen.facts) := fun m ρ _ => Cert.In.Gen.frame m ρ

theorem frame_pi : quiescent_InIdeal (hInIdeal := Cert.InIdeal.Gen.facts) := fun m ρ _ => Cert.InIdeal.Gen.frame m ρ

theorem frame_ri : quiescent_InRefIdeal (hInRefIdeal := Cert.InRefIdeal.Gen.facts) := fun m ρ _ =>
  (θ_run Cert.InRefIdeal.defs _ _).mono
    (fun r h => ⟨fun c => (h c).2.2.2.2.2.2.2.2.2, Idealize.ShloMosaic.sem_eq_zero_of_no_sems (by decide) r.2⟩)
    (Cert.InRefIdeal.Value.run (F := Ideal) m ρ)

theorem preserves : preserves_In_InIdeal := trivial

open Cert.InIdeal Cert.InIdeal.Gen in
/-- The call's run without its last result, the running sum. -/
theorem run_stated (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v45_0) = (dats m 0 c).arrAt 6 cfg0.N
      ∧ r.2.mem ((c.tc : Thread nD τ).loc main_v45_1) = (dats m 0 c).arrAt 7 cfg0.N
      ∧ r.2.mem ((c.tc : Thread nD τ).loc main_v45_2) = (dats m 0 c).arrAt 8 cfg0.N
      ∧ r.2.mem ((c.tc : Thread nD τ).loc main_v45_3) = (dats m 0 c).arrAt 9 cfg0.N
      ∧ r.2.mem ((c.tc : Thread nD τ).loc main_v45_4) = (dats m 0 c).arrAt 10 cfg0.N
      ∧ r.2.mem ((c.tc : Thread nD τ).loc main_v45_5) = (dats m 0 c).arrAt 11 cfg0.N
      ∧ r.2.mem ((c.tc : Thread nD τ).loc main_v45_6) = (dats m 0 c).arrAt 12 cfg0.N
      ∧ r.2.mem ((c.tc : Thread nD τ).loc main_v45_7) = (dats m 0 c).arrAt 13 cfg0.N
      ∧ r.2.mem ((c.tc : Thread nD τ).loc main_v45_8) = (dats m 0 c).arrAt 14 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1, (h c).2.1, (h c).2.2.1, (h c).2.2.2.1, (h c).2.2.2.2.1, (h c).2.2.2.2.2.1, (h c).2.2.2.2.2.2.1, (h c).2.2.2.2.2.2.2.1,
      (h c).2.2.2.2.2.2.2.2.1, (h c).2.2.2.2.2.2.2.2.2.2⟩) (Cert.InIdeal.Value.run_blocks m ρ)

set_option maxHeartbeats 4000000 in
open Cert.InRefIdeal.Proj in
theorem algebraic : algebraic_InIdeal_InRefIdeal (hInIdeal := Cert.InIdeal.Gen.facts)
    (hInRefIdeal := Cert.InRefIdeal.Gen.facts) := by
  intro m ρ m' ρ' _ hagree
  refine ⟨_, _, _, _, _, _, _, _, _, run_stated m ρ, ?_⟩
  refine (θ_run Cert.InRefIdeal.defs _ _).mono (fun _ h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩)
    (Cert.InRefIdeal.Value.run (F := Ideal) m' ρ')
  all_goals
    obtain ⟨e0, e1, e2, e3⟩ := hagree c
    first | rewrite [e0, e1, e2] | (unfold Cert.InRefIdeal.Value.res_main_v27; rewrite [e0, e1, e2, e3])
  · refine Eq.trans ?_ (Cert.InIdeal.Proj.array6 m c).symm
    unfold queries heads prod
    rfl
  · refine Eq.trans ?_ (Cert.InIdeal.Proj.array7 m c).symm
    unfold featureMajor keys prod
    rfl
  · refine Eq.trans ?_ (Cert.InIdeal.Proj.array8 m c).symm
    unfold featureMajor vals prod
    rfl
  · refine Eq.trans ?_ (Cert.InIdeal.Proj.array9 m c).symm
    unfold gates heads gate prod
    rfl
  · refine Eq.trans ?_ (Cert.InIdeal.Proj.array10 m c).symm
    unfold memQueries prod
    rfl
  · refine Eq.trans ?_ (Cert.InIdeal.Proj.array11 m c).symm
    unfold memGates gate prod
    rfl
  · refine Eq.trans ?_ (Cert.InIdeal.Proj.array12 m c).symm
    unfold tiled keys prod
    rfl
  · refine Eq.trans ?_ (Cert.InIdeal.Proj.array13 m c).symm
    unfold tiled vals prod
    rfl
  · refine Eq.trans ?_ (Cert.InIdeal.Proj.array14 m c).symm
    unfold logGates logits prod
    rfl

end Cert.InClaims
end
-- ==== Proof.Norm.Rotary.lean ====
module

public import proofs.«01_k».proof.Proof.Norm.Scale

@[expose] public section

noncomputable section

/-! The rotary embedding of one head: eight pairs of features turned, the other features as they are. The call has it as
three products with tables, of the features and of the features eight to the left and to the right. -/

namespace Cert.Norm

/-- Features `d` and `8 + d` turned by the angle whose cosine and sine are `co d` and `si d`, for `d` below eight. -/
def rot (x : Fin 64 → EReal) (co si : Fin 8 → EReal) (d : Fin 64) : EReal :=
  if h : d.val < 8 then x d * co ⟨d.val, h⟩ - x ⟨d.val + 8, by omega⟩ * si ⟨d.val, h⟩
  else if h' : d.val - 8 < 8 then x d * co ⟨d.val - 8, by omega⟩ + x ⟨d.val - 8, by omega⟩ * si ⟨d.val - 8, by omega⟩ else x d

/-- The three tables at feature `d` of a head. -/
def tabC (co : Fin 8 → EReal) (d : Fin 64) : EReal :=
  if h : d.val < 8 then co ⟨d.val, h⟩ else if h' : d.val - 8 < 8 then co ⟨d.val - 8, h'⟩ else 1

def tabL (si : Fin 8 → EReal) (d : Fin 64) : EReal :=
  if _h : d.val < 8 then 0 else if h' : d.val - 8 < 8 then si ⟨d.val - 8, h'⟩ else 0

def tabR (si : Fin 8 → EReal) (d : Fin 64) : EReal :=
  if h : d.val < 8 then -si ⟨d.val, h⟩ else 0

/-- Two heads' features with the tables' products. -/
def turned (x cs s1 s2 : Fin 128 → EReal) (l : Fin 128) : EReal :=
  x l * cs l + x ⟨(l.val + 120) % 128, by omega⟩ * s1 l + x ⟨(l.val + 8) % 128, by omega⟩ * s2 l

theorem turned_eq (x cs s1 s2 : Fin 128 → EReal) (co si : Fin 8 → EReal) (u : Fin 2)
    (hc : ∀ d : Fin 64, cs ⟨64 * u.val + d.val, by omega⟩ = tabC co d) (h1 : ∀ d : Fin 64, s1 ⟨64 * u.val + d.val, by omega⟩ = tabL si d)
    (h2 : ∀ d : Fin 64, s2 ⟨64 * u.val + d.val, by omega⟩ = tabR si d) (d : Fin 64) :
    turned x cs s1 s2 ⟨64 * u.val + d.val, by omega⟩ = rot (fun d => x ⟨64 * u.val + d.val, by omega⟩) co si d := by
  unfold turned rot
  rw [hc, h1, h2]
  unfold tabC tabL tabR
  by_cases h : d.val < 8
  · have e : (⟨(64 * u.val + d.val + 8) % 128, by omega⟩ : Fin 128) = ⟨64 * u.val + (d.val + 8), by omega⟩ := Fin.ext (by dsimp only; omega)
    simp only [dif_pos h, e]
    rw [mul_zero, add_zero, mul_neg, sub_eq_add_neg]
  · by_cases h' : d.val - 8 < 8
    · have e : (⟨(64 * u.val + d.val + 120) % 128, by omega⟩ : Fin 128) = ⟨64 * u.val + (d.val - 8), by omega⟩ := Fin.ext (by dsimp only; omega)
      simp only [dif_neg h, dif_pos h', e]
      rw [mul_zero, add_zero]
    · simp only [dif_neg h, dif_neg h']
      rw [mul_zero, mul_zero, add_zero, add_zero, mul_one]

end Cert.Norm
end
-- ==== Proof.SwaIn.Weights.lean ====
module

public import proofs.«01_k».proof.Proof.Gen.SwaInIdeal.Value
public import proofs.«01_k».proof.Proof.InS.Weights
public import proofs.«01_k».proof.Proof.Norm.Rotary

@[expose] public section

set_option maxRecDepth 16384

noncomputable section

/-! The sliding-window layers' projections of the prompt: the weights and the rotary tables as the host prepares them. -/

namespace Cert.SwaInIdeal.Proj

open Cert.SwaInIdeal Cert.SwaInIdeal.Gen Idealize.ShloMosaic Idealize.ShloMosaic.TcCoe
open Cert.InSIdeal.Proj (reordered reordered_apply perm)
open Cert.Norm (eighth tabC tabL tabR)

def prepared (w : FVec Ideal S1024x2560 .f32) : FVec Ideal S1024x2688 .bf16 :=
  truncf .bf16 (concatenate S1024x2688 1
    [⟨S1024x768, mulf (reordered (extractStridedSlice S1024x768 ![0, 0] w slices_S1024x2560_S1024x768_0_0)) (broadcastInDim S1024x768 ![] bcast_S_S1024x768 (constant S_ .f32 0x3E000000#32))⟩,
     ⟨S1024x256, extractStridedSlice S1024x256 ![0, 768] w slices_S1024x2560_S1024x256_0_768⟩,
     ⟨S1024x256, extractStridedSlice S1024x256 ![0, 1024] w slices_S1024x2560_S1024x256_0_1024⟩,
     ⟨S1024x768, reordered (extractStridedSlice S1024x768 ![0, 1280] w slices_S1024x2560_S1024x768_0_1280)⟩,
     ⟨S1024x256, mulf (extractStridedSlice S1024x256 ![0, 2048] w slices_S1024x2560_S1024x256_0_2048) (broadcastInDim S1024x256 ![] bcast_S_S1024x256 (constant S_ .f32 0x3E000000#32))⟩,
     ⟨S1024x256, extractStridedSlice S1024x256 ![0, 2304] w slices_S1024x2560_S1024x256_0_2304⟩,
     ⟨S1024x128, broadcastInDim S1024x128 ![] bcast_S_S1024x128 (constant S_ .f32 0x00000000#32)⟩]
    concatenates_S1024x768_S1024x256_S1024x256_S1024x768_S1024x256_S1024x256_S1024x128_S1024x2688_d1) bitsLt_bf16_f32

variable (w : FVec Ideal S1024x2560 .f32) (k : Fin 1024)

theorem prepared_q (j : Fin 768) : prepared w (ix2 k ⟨j.val, by omega⟩) = w (ix2 k ⟨(perm j).val, by omega⟩) * eighth := by
  have h := reordered_apply (extractStridedSlice S1024x768 ![0, 0] w slices_S1024x2560_S1024x768_0_0) k j
  pointwise [prepared]
  exact congrArg (· * eighth) (h.trans (by pointwise))

theorem prepared_k (j : Fin 256) : prepared w (ix2 k ⟨768 + j.val, by omega⟩) = w (ix2 k ⟨768 + j.val, by omega⟩) := by
  pointwise [prepared]

theorem prepared_v (j : Fin 256) : prepared w (ix2 k ⟨1024 + j.val, by omega⟩) = w (ix2 k ⟨1024 + j.val, by omega⟩) := by
  pointwise [prepared]
  rw [dif_neg (by omega), dif_neg (by omega), dif_pos (by omega)]
  refine congrArg w (congrArg (ix2 k) (Fin.ext ?_))
  dsimp only
  omega

theorem prepared_z (j : Fin 768) : prepared w (ix2 k ⟨1280 + j.val, by omega⟩) = w (ix2 k ⟨1280 + (perm j).val, by omega⟩) := by
  have h := reordered_apply (extractStridedSlice S1024x768 ![0, 1280] w slices_S1024x2560_S1024x768_0_1280) k j
  pointwise [prepared]
  rw [dif_neg (by omega), dif_neg (by omega), dif_neg (by omega), dif_pos (by omega)]
  exact (congrArg _ (congr rfl (Fin.ext (by show _ - _ = _; omega)))).trans (h.trans (by pointwise))

theorem prepared_qm (j : Fin 256) : prepared w (ix2 k ⟨2048 + j.val, by omega⟩) = w (ix2 k ⟨2048 + j.val, by omega⟩) * eighth := by
  pointwise [prepared]
  rw [dif_neg (by omega), dif_neg (by omega), dif_neg (by omega), dif_neg (by omega), dif_pos (by omega)]
  refine congr (congrArg _ (congrArg w (congrArg (ix2 k) (Fin.ext ?_)))) rfl
  dsimp only
  omega

theorem prepared_zm (j : Fin 256) : prepared w (ix2 k ⟨2304 + j.val, by omega⟩) = w (ix2 k ⟨2304 + j.val, by omega⟩) := by
  pointwise [prepared]
  rw [dif_neg (by omega), dif_neg (by omega), dif_neg (by omega), dif_neg (by omega), dif_neg (by omega), dif_pos (by omega)]
  refine congrArg w (congrArg (ix2 k) (Fin.ext ?_))
  dsimp only
  omega

/-- The angle of position `s` and pair `i`. -/
def angles : FVec Ideal S4096x8 .f32 :=
  mulf (broadcastInDim S4096x8 ![0, 1] bcast_S4096x1_S4096x8_0_1 (broadcastInDim S4096x1 ![0] bcast_S4096_S4096x1_0 (sitofp .f32 (iotaInDim S4096 32 0))))
    (broadcastInDim S4096x8 ![0, 1] bcast_S1x8_S4096x8_0_1 (broadcastInDim S1x8 ![1] bcast_S8_S1x8_1 (Host.powf (broadcastInDim S8 ![] bcast_S_S8 (constant S_ .f32 0x48F42400#32))
      (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0)))))
        (broadcastInDim S8 ![] bcast_S_S8 (constant S_ .f32 0x41800000#32))))))

def cosT : FVec Ideal S4096x8 .f32 := Host.cos angles

def sinT : FVec Ideal S4096x8 .f32 := Host.sin angles

/-- A head's table for two heads side by side. -/
def twice (t : FVec Ideal S4096x64 .f32) : FVec Ideal S4096x128 .f32 :=
  shapeCast _ (broadcastInDim S1x4096x2x64 ![0, 1, 2, 3] bcast_S1x4096x1x64_S1x4096x2x64_0_1_2_3 (shapeCast _ t shapeCasts_S4096x64_S1x4096x1x64)) shapeCasts_S1x4096x2x64_S4096x128

def tableC (co : FVec Ideal S4096x8 .f32) : FVec Ideal S4096x64 .f32 :=
  concatenate S4096x64 1 [⟨S4096x8, co⟩, ⟨S4096x8, co⟩, ⟨S4096x48, broadcastInDim S4096x48 ![] bcast_S_S4096x48 (constant S_ .f32 0x3F800000#32)⟩] concatenates_S4096x8_S4096x8_S4096x48_S4096x64_d1

def tableL (si : FVec Ideal S4096x8 .f32) : FVec Ideal S4096x64 .f32 :=
  concatenate S4096x64 1 [⟨S4096x8, broadcastInDim S4096x8 ![] bcast_S_S4096x8 (constant S_ .f32 0x00000000#32)⟩, ⟨S4096x8, si⟩,
    ⟨S4096x48, broadcastInDim S4096x48 ![] bcast_S_S4096x48 (constant S_ .f32 0x00000000#32)⟩] concatenates_S4096x8_S4096x8_S4096x48_S4096x64_d1

def tableR (si : FVec Ideal S4096x8 .f32) : FVec Ideal S4096x64 .f32 :=
  concatenate S4096x64 1 [⟨S4096x8, Host.negf si⟩, ⟨S4096x56, broadcastInDim S4096x56 ![] bcast_S_S4096x56 (constant S_ .f32 0x00000000#32)⟩] concatenates_S4096x8_S4096x56_S4096x64_d1

theorem twice_apply (t : FVec Ideal S4096x64 .f32) (s : Fin 4096) (u : Fin 2) (d : Fin 64) : twice t (ix2 s ⟨64 * u.val + d.val, by omega⟩) = t (ix2 s d) := by
  pointwise [twice]

theorem tableC_apply (co : FVec Ideal S4096x8 .f32) (s : Fin 4096) (d : Fin 64) : tableC co (ix2 s d) = tabC (fun i => co (ix2 s i)) d := by
  pointwise [tableC, tabC]

theorem tableL_apply (si : FVec Ideal S4096x8 .f32) (s : Fin 4096) (d : Fin 64) : tableL si (ix2 s d) = tabL (fun i => si (ix2 s i)) d := by
  pointwise [tableL, tabL]

theorem tableR_apply (si : FVec Ideal S4096x8 .f32) (s : Fin 4096) (d : Fin 64) : tableR si (ix2 s d) = tabR (fun i => si (ix2 s i)) d := by
  pointwise [tableR, tabR]

variable (m : (ℓ : Loc nD τ sig) → Buf (Elt Ideal) ℓ) (c : Dev nD)

abbrev argW : FVec Ideal S1024x2560 .f32 := m (c.tc.loc main_arg2)

theorem v22_eq : V m c main_v22 = prepared (argW m c) := by
  unfold V
  simp only [hostOps0, List.flatten_cons, List.flatten_nil, List.cons_append, List.nil_append, List.append_nil]
  after_results
  rfl

theorem v52_eq : V m c main_v52 = twice (tableC cosT) := by
  unfold V
  simp only [hostOps0, List.flatten_cons, List.flatten_nil, List.cons_append, List.nil_append, List.append_nil]
  after_results
  rfl

theorem v55_eq : V m c main_v55 = twice (tableL sinT) := by
  unfold V
  simp only [hostOps0, List.flatten_cons, List.flatten_nil, List.cons_append, List.nil_append, List.append_nil]
  after_results
  rfl

theorem v58_eq : V m c main_v58 = twice (tableR sinT) := by
  unfold V
  simp only [hostOps0, List.flatten_cons, List.flatten_nil, List.cons_append, List.nil_append, List.append_nil]
  after_results
  rfl

end Cert.SwaInIdeal.Proj
end
-- ==== Proof.SwaIn.Block.lean ====
module

public import proofs.«01_k».proof.Proof.SwaIn.Weights

@[expose] public section

set_option maxRecDepth 16384

noncomputable section

/-! The sliding-window layers' projections of the prompt: a block of the call's results read at one index. -/

namespace Cert.SwaInIdeal.Proj

open Cert.SwaInIdeal Cert.SwaInIdeal.Gen Idealize.ShloMosaic Idealize.ShloMosaic.TcCoe
open Cert.Norm (scale proj silu turned)

/-- Two heads' features with the tables' products. -/
def turn (z co s1 s2 : FVec Ideal S512x128 .f32) : FVec Ideal S512x128 .f32 :=
  addf (addf (mulf z co) (mulf (dynamicRotate 1 8#32 none z rotates_S512x128_d1) s1)) (mulf (dynamicRotate 1 120#32 none z rotates_S512x128_d1) s2)

/-- Twelve heads' features, two at a time. -/
def six (q : FVec Ideal S512x768 .f32) (co s1 s2 : FVec Ideal S512x128 .f32) : FVec Ideal S512x768 .f32 :=
  concatenate S512x768 1
    [⟨S512x128, turn (extractStridedSlice S512x128 ![0, 0] q slices_S512x768_o0_0_S512x128) co s1 s2⟩,
     ⟨S512x128, turn (extractStridedSlice S512x128 ![0, 128] q slices_S512x768_o0_128_S512x128) co s1 s2⟩,
     ⟨S512x128, turn (extractStridedSlice S512x128 ![0, 256] q slices_S512x768_o0_256_S512x128) co s1 s2⟩,
     ⟨S512x128, turn (extractStridedSlice S512x128 ![0, 384] q slices_S512x768_o0_384_S512x128) co s1 s2⟩,
     ⟨S512x128, turn (extractStridedSlice S512x128 ![0, 512] q slices_S512x768_o0_512_S512x128) co s1 s2⟩,
     ⟨S512x128, turn (extractStridedSlice S512x128 ![0, 640] q slices_S512x768_o0_640_S512x128) co s1 s2⟩]
    concatenates_S512x128_S512x128_S512x128_S512x128_S512x128_S512x128_S512x768_d1

/-- Four heads' features, two at a time. -/
def two (q : FVec Ideal S512x256 .f32) (co s1 s2 : FVec Ideal S512x128 .f32) : FVec Ideal S512x256 .f32 :=
  concatenate S512x256 1
    [⟨S512x128, turn (extractStridedSlice S512x128 ![0, 0] q slices_S512x256_o0_0_S512x128) co s1 s2⟩,
     ⟨S512x128, turn (extractStridedSlice S512x128 ![0, 128] q slices_S512x256_o0_128_S512x128) co s1 s2⟩]
    concatenates_S512x128_S512x128_S512x256_d1

theorem turn_apply (z co s1 s2 : FVec Ideal S512x128 .f32) (r : Fin 512) (l l' : Fin 128) (h : l'.val = l.val) (x : Fin 128 → EReal) (hx : ∀ l, z (ix2 r l) = x l) :
    turn z co s1 s2 (ix2 r l') = turned x (fun l => co (ix2 r l)) (fun l => s1 (ix2 r l)) (fun l => s2 (ix2 r l)) l := by
  obtain rfl : l' = l := Fin.ext h
  obtain rfl : (fun l => z (ix2 r l)) = x := funext hx
  unfold turned
  pointwise [turn]
  rfl

section
variable (co s1 s2 : FVec Ideal S512x128 .f32) (r : Fin 512) (l : Fin 128)

theorem six_apply (q : FVec Ideal S512x768 .f32) (p : Fin 6) : six q co s1 s2 (ix2 r ⟨128 * p.val + l.val, by omega⟩)
    = turned (fun l => q (ix2 r ⟨128 * p.val + l.val, by omega⟩)) (fun l => co (ix2 r l)) (fun l => s1 (ix2 r l)) (fun l => s2 (ix2 r l)) l := by
  have hp : p.val = 0 ∨ p.val = 1 ∨ p.val = 2 ∨ p.val = 3 ∨ p.val = 4 ∨ p.val = 5 := by omega
  pointwise [six]
  rcases hp with hp | hp | hp | hp | hp | hp
  all_goals
    repeat rw [dif_neg (by omega)]
    try rw [dif_pos (by omega)]
    refine turn_apply _ _ _ _ r l _ (by dsimp only; omega) _ (fun l => ?_)
    pointwise
    exact congrArg q (congrArg (ix2 r) (Fin.ext (by dsimp only; omega)))

theorem two_apply (q : FVec Ideal S512x256 .f32) (p : Fin 2) : two q co s1 s2 (ix2 r ⟨128 * p.val + l.val, by omega⟩)
    = turned (fun l => q (ix2 r ⟨128 * p.val + l.val, by omega⟩)) (fun l => co (ix2 r l)) (fun l => s1 (ix2 r l)) (fun l => s2 (ix2 r l)) l := by
  have hp : p.val = 0 ∨ p.val = 1 := by omega
  pointwise [two]
  rcases hp with hp | hp
  all_goals
    repeat rw [dif_neg (by omega)]
    try rw [dif_pos (by omega)]
    refine turn_apply _ _ _ _ r l _ (by dsimp only; omega) _ (fun l => ?_)
    pointwise
    exact congrArg q (congrArg (ix2 r) (Fin.ext (by dsimp only; omega)))

theorem pay13_apply (q : FVec Ideal S512x768 .f32) (p : Fin 6) :
    k0_pay13 q co s1 s2 (extractStridedSlice S512x128 ![0, 0] q slices_S512x768_o0_0_S512x128)
        (addf (mulf (extractStridedSlice S512x128 ![0, 0] q slices_S512x768_o0_0_S512x128) co)
          (mulf (dynamicRotate 1 8#32 none (extractStridedSlice S512x128 ![0, 0] q slices_S512x768_o0_0_S512x128) rotates_S512x128_d1) s1)) (ix2 r ⟨128 * p.val + l.val, by omega⟩)
      = turned (fun l => q (ix2 r ⟨128 * p.val + l.val, by omega⟩)) (fun l => co (ix2 r l)) (fun l => s1 (ix2 r l)) (fun l => s2 (ix2 r l)) l :=
  six_apply co s1 s2 r l q p

theorem pay18_apply (q : FVec Ideal S512x256 .f32) (p : Fin 2) :
    k0_pay18 q co s1 s2 (k0_pay14 q) (k0_pay15 q co) (k0_pay16 q s1) (ix2 ⟨128 * p.val + l.val, by omega⟩ r)
      = turned (fun l => q (ix2 r ⟨128 * p.val + l.val, by omega⟩)) (fun l => co (ix2 r l)) (fun l => s1 (ix2 r l)) (fun l => s2 (ix2 r l)) l := by
  have e : k0_pay18 q co s1 s2 (k0_pay14 q) (k0_pay15 q co) (k0_pay16 q s1) = transpose S256x512 [1, 0] (two q co s1 s2) transposes_S512x256_p1_0_S256x512 := rfl
  have h : transpose S256x512 [1, 0] (two q co s1 s2) transposes_S512x256_p1_0_S256x512 (ix2 ⟨128 * p.val + l.val, by omega⟩ r) = two q co s1 s2 (ix2 r ⟨128 * p.val + l.val, by omega⟩) := by pointwise
  rw [e, h, two_apply]

end

variable (x0 : Vec Ideal S512x1024 .f32) (x1 : Vec Ideal S1x1024 .f32) (x2 : Vec Ideal S1024x2688 .bf16) (x3 x4 x5 : Vec Ideal S512x128 .f32) (r : Fin 512)

/-- The block's product with the weights' column `j`. -/
abbrev row (j : Fin 2688) : EReal := proj (fun k => x0 (ix2 r k)) (fun k => x1 (ix2 0 k)) (fun k => x2 (ix2 k j))

/-- The products with the weights' columns from `o` on, two heads of them with the tables' products. -/
abbrev turnedRow (o : ℕ) (h : o + 128 ≤ 2688) (l : Fin 128) : EReal :=
  turned (fun l => row x0 x1 x2 r ⟨o + l.val, by omega⟩) (fun l => x3 (ix2 r l)) (fun l => x4 (ix2 r l)) (fun l => x5 (ix2 r l)) l

theorem h_apply (k : Fin 1024) : k0_pay4 x0 x1 (ix2 r k) = x0 (ix2 r k) * scale (fun k => x0 (ix2 r k)) * x1 (ix2 0 k) := by
  pointwise [k0_pay4, scale]

theorem pay5_apply (j : Fin 768) : k0_pay5 x0 x1 (View.ld x2 r0_2) (ix2 r j) = row x0 x1 x2 r ⟨j.val, by omega⟩ := by
  pointwise [k0_pay5]
  simp only [h_apply]
  rfl

theorem pay6_apply (j : Fin 256) : k0_pay6 x0 x1 (View.ld x2 r0_3) (ix2 r j) = row x0 x1 x2 r ⟨768 + j.val, by omega⟩ := by
  pointwise [k0_pay6]
  simp only [h_apply]
  rfl

theorem pay8_apply (l : Fin 128) : k0_pay8 x3 (ix2 r l) = x3 (ix2 r l) := by pointwise [k0_pay8]
theorem pay9_apply (l : Fin 128) : k0_pay9 x3 (ix2 r l) = x3 (ix2 r l) := by pointwise [k0_pay9]
theorem pay10_apply (l : Fin 128) : k0_pay10 x3 (ix2 r l) = x3 (ix2 r l) := by pointwise [k0_pay10]

theorem out6_apply (p : Fin 6) (l : Fin 128) : out0_6 x0 x1 x2 x3 x4 x5 (ix2 r ⟨128 * p.val + l.val, by omega⟩) = turnedRow x0 x1 x2 x3 x4 x5 r (128 * p.val) (by omega) l := by
  unfold out0_6 k0_pay38 k0_pay39 k0_pay40
  rw [View.canon_cons_unit_lit, View.ld_unit_lit, View.ld_unit_lit, View.ld_unit_lit, View.ld_unit_lit, View.ld_unit_lit]
  · refine (pay13_apply _ _ _ r l _ p).trans ?_
    simp only [pay5_apply, pay8_apply, pay9_apply, pay10_apply]
  all_goals decide

theorem pay36_apply (j : Fin 256) : k0_pay36 x0 x1 x2 x3 x4 x5 (ix2 r j) = row x0 x1 x2 r ⟨768 + j.val, by omega⟩ := by
  unfold k0_pay36
  rw [View.ld_unit_lit, View.ld_unit_lit]
  · exact pay6_apply ..
  all_goals decide

theorem pay38_apply (l : Fin 128) : k0_pay38 x0 x1 x2 x3 x4 x5 (ix2 r l) = x3 (ix2 r l) := by
  unfold k0_pay38
  rw [View.ld_unit_lit]
  · exact pay8_apply ..
  all_goals decide

theorem pay39_apply (l : Fin 128) : k0_pay39 x0 x1 x2 x3 x4 x5 (ix2 r l) = x4 (ix2 r l) := by
  unfold k0_pay39
  rw [View.ld_unit_lit]
  · exact pay9_apply ..
  all_goals decide

theorem pay40_apply (l : Fin 128) : k0_pay40 x0 x1 x2 x3 x4 x5 (ix2 r l) = x5 (ix2 r l) := by
  unfold k0_pay40
  rw [View.ld_unit_lit]
  · exact pay10_apply ..
  all_goals decide

/-- The keys of the block, features before tokens. -/
abbrev keysT : FVec Ideal S256x512 .f32 :=
  k0_pay18 (k0_pay36 x0 x1 x2 x3 x4 x5) (k0_pay38 x0 x1 x2 x3 x4 x5) (k0_pay39 x0 x1 x2 x3 x4 x5) (k0_pay40 x0 x1 x2 x3 x4 x5)
    (k0_pay41 x0 x1 x2 x3 x4 x5) (k0_pay42 x0 x1 x2 x3 x4 x5) (k0_pay43 x0 x1 x2 x3 x4 x5)

theorem keysT_apply (p : Fin 2) (l : Fin 128) : keysT x0 x1 x2 x3 x4 x5 (ix2 ⟨128 * p.val + l.val, by omega⟩ r) = turnedRow x0 x1 x2 x3 x4 x5 r (768 + 128 * p.val) (by omega) l := by
  unfold keysT k0_pay41 k0_pay42 k0_pay43
  refine (pay18_apply _ _ _ r l _ p).trans ?_
  simp only [pay36_apply, pay38_apply, pay39_apply, pay40_apply, ← Nat.add_assoc]

/-- The values of the block, features before tokens. -/
abbrev valsT : FVec Ideal S256x512 .f32 := k0_pay19 (k0_pay37 x0 x1 x2 x3 x4 x5)

theorem valsT_apply (e : Fin 256) : valsT x0 x1 x2 x3 x4 x5 (ix2 e r) = row x0 x1 x2 r ⟨1024 + e.val, by omega⟩ := by
  unfold valsT k0_pay37
  rw [View.ld_unit_lit, View.ld_unit_lit]
  · pointwise [k0_pay19, k0_pay7]
    simp only [h_apply]
    rfl
  all_goals decide

theorem out7_apply (e : Fin 256) : out0_7 x0 x1 x2 x3 x4 x5 (ix3 0 e r) = keysT x0 x1 x2 x3 x4 x5 (ix2 e r) := by
  unfold out0_7
  rw [View.canon_cons_unit_lit]
  · pointwise [k0_pay20]
  all_goals decide

theorem out8_apply (e : Fin 256) : out0_8 x0 x1 x2 x3 x4 x5 (ix3 0 e r) = valsT x0 x1 x2 x3 x4 x5 (ix2 e r) := by
  unfold out0_8
  rw [View.canon_cons_unit_lit]
  · pointwise [k0_pay21]
  all_goals decide

theorem h35_apply (k : Fin 1024) : k0_pay35 x0 x1 x2 x3 x4 x5 (ix2 r k) = x0 (ix2 r k) * scale (fun k => x0 (ix2 r k)) * x1 (ix2 0 k) := by
  rw [← h_apply]
  unfold k0_pay35
  rw [View.ld_unit_lit, View.ld_unit_lit]
  all_goals decide

theorem out9_apply (j : Fin 768) : out0_9 x0 x1 x2 x3 x4 x5 (ix2 r j) = silu (row x0 x1 x2 r ⟨1280 + j.val, by omega⟩) := by
  unfold out0_9
  rw [View.canon_cons_unit_lit]
  · pointwise [k0_pay1, k0_pay33, k0_pay34]
    simp only [h35_apply]
    rfl
  all_goals decide

theorem out10_apply (j : Fin 256) : out0_10 x0 x1 x2 x3 x4 x5 (ix2 r j) = row x0 x1 x2 r ⟨2048 + j.val, by omega⟩ := by
  unfold out0_10
  rw [View.canon_cons_unit_lit]
  · pointwise [k0_pay2]
    simp only [h35_apply]
    rfl
  all_goals decide

theorem out11_apply (j : Fin 256) : out0_11 x0 x1 x2 x3 x4 x5 (ix2 r j) = silu (row x0 x1 x2 r ⟨2304 + j.val, by omega⟩) := by
  unfold out0_11
  rw [View.canon_cons_unit_lit]
  · pointwise [k0_pay3]
    simp only [h35_apply]
    rfl
  all_goals decide

theorem out12_apply (i : Fin 4) (e : Fin 256) (s : Fin 128) :
    out0_12 x0 x1 x2 x3 x4 x5 (ix4 0 i e s) = keysT x0 x1 x2 x3 x4 x5 (ix2 e ⟨128 * i.val + s.val, by omega⟩) := by
  unfold out0_12 k0_pay44
  canon_tiles x h using cover0_12 ..
  all_goals
    obtain ⟨a, b, e', s', rfl⟩ : ∃ (a b : Fin 1) (e' : Fin 256) (s' : Fin 128), x = ix4 a b e' s' := ⟨x 0, x 1, x 2, x 3, eq_ix4 x⟩
    obtain rfl : e = e' := Fin.ext h2
    obtain rfl : s = s' := Fin.ext h3
    change i.val = _ at h1
    pointwise [k0_pay31, k0_pay29, k0_pay27, k0_pay26, k0_pay24, k0_pay22]
    exact congrArg (keysT x0 x1 x2 x3 x4 x5) (congrArg (ix2 e) (Fin.ext (by dsimp only; omega)))

theorem out13_apply (i : Fin 4) (e : Fin 256) (s : Fin 128) :
    out0_13 x0 x1 x2 x3 x4 x5 (ix4 0 i e s) = valsT x0 x1 x2 x3 x4 x5 (ix2 e ⟨128 * i.val + s.val, by omega⟩) := by
  unfold out0_13 k0_pay45
  canon_tiles x h using cover0_13 ..
  all_goals
    obtain ⟨a, b, e', s', rfl⟩ : ∃ (a b : Fin 1) (e' : Fin 256) (s' : Fin 128), x = ix4 a b e' s' := ⟨x 0, x 1, x 2, x 3, eq_ix4 x⟩
    obtain rfl : e = e' := Fin.ext h2
    obtain rfl : s = s' := Fin.ext h3
    change i.val = _ at h1
    pointwise [k0_pay32, k0_pay30, k0_pay28, k0_pay25, k0_pay23]
    exact congrArg (valsT x0 x1 x2 x3 x4 x5) (congrArg (ix2 e) (Fin.ext (by dsimp only; omega)))

end Cert.SwaInIdeal.Proj
end
-- ==== Proof.SwaIn.Ref.lean ====
module

public import proofs.«01_k».proof.Proof.Gen.SwaInRefIdeal.Run
public import proofs.«01_k».proof.Proof.SwaIn.Weights

@[expose] public section

set_option maxRecDepth 16384

noncomputable section

/-! The sliding-window layers' reference for the prompt read at one index. -/

namespace Cert.SwaInRefIdeal.Proj

open Cert.SwaInRefIdeal Cert.SwaInRefIdeal.Gen Idealize.ShloMosaic Idealize.ShloMosaic.TcCoe
open Cert.Norm (scale proj silu silu_eq eighth rot)
open Cert.InSIdeal.Proj (perm)
open Cert.SwaInIdeal.Proj (cosT sinT)

/-- The normed tokens' product with the weights. -/
def prod (x : FVec Ideal S16384x1024 .f32) (g : FVec Ideal S1024 .f32) (w : FVec Ideal S1024x2560 .f32) : FVec Ideal S16384x2560 .f32 :=
  Host.dotGeneral dot_S16384x1024_S1024x2560_S16384x2560_1_0_0_1_n_n none (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))) w

/-- Twelve heads' features with the index in the group first. -/
def heads (t : FVec Ideal S16384x768 .f32) : FVec Ideal S16384x768 .f32 :=
  shapeCast _ (transpose S16384x3x4x64 [0, 2, 1, 3] (shapeCast S16384x4x3x64 t shapeCasts_S16384x768_S16384x4x3x64) transposes_S16384x4x3x64_S16384x3x4x64_0_2_1_3) shapeCasts_S16384x3x4x64_S16384x768

/-- A value times its logistic function. -/
def gate {s : Shape} (hs : S_.BroadcastsInDim s (![] : Fin 0 → Fin s.rank)) (t : FVec Ideal s .f32) : FVec Ideal s .f32 :=
  mulf t (Host.divf (broadcastInDim s ![] hs (constant S_ .f32 0x3F800000#32)) (addf (broadcastInDim s ![] hs (constant S_ .f32 0x3F800000#32)) (Host.exp (Host.negf t))))

variable (x : FVec Ideal S16384x1024 .f32) (g : FVec Ideal S1024 .f32) (w : FVec Ideal S1024x2560 .f32)

abbrev entry (r : Fin 16384) (j : Fin 2560) : EReal := proj (fun k => x (ix2 r k)) (fun k => g (ix1 k)) (fun k => w (ix2 k j))

theorem prod_apply (r : Fin 16384) (j : Fin 2560) : prod x g w (ix2 r j) = entry x g w r j := by
  pointwise [prod, proj, scale]

theorem heads_apply (t : FVec Ideal S16384x768 .f32) (r : Fin 16384) (j : Fin 768) : heads t (ix2 r j) = t (ix2 r (perm j)) := by
  pointwise [heads]
  refine congrArg t (congr (congrArg ix2 (Fin.ext ?_)) (Fin.ext ?_)) <;> simp [perm]
  omega

theorem gate_apply (t : FVec Ideal S16384x768 .f32) (r : Fin 16384) (j : Fin 768) : gate bcast_S_S16384x768 t (ix2 r j) = silu (t (ix2 r j)) := by
  rw [← silu_eq]
  pointwise [gate]

/-- A table of positions and pairs for every head of every sequence. -/
abbrev table12 (t : FVec Ideal S4096x8 .f32) : FVec Ideal S4x4096x12x8 .f32 :=
  broadcastInDim S4x4096x12x8 ![0, 1, 2, 3] bcast_S1x4096x1x8_S4x4096x12x8_0_1_2_3 (broadcastInDim S1x4096x1x8 ![1, 2, 3] bcast_S4096x1x8_S1x4096x1x8_1_2_3 (broadcastInDim S4096x1x8 ![0, 2] bcast_S4096x8_S4096x1x8_0_2 t))

abbrev table4 (t : FVec Ideal S4096x8 .f32) : FVec Ideal S4x4096x4x8 .f32 :=
  broadcastInDim S4x4096x4x8 ![0, 1, 2, 3] bcast_S1x4096x1x8_S4x4096x4x8_0_1_2_3 (broadcastInDim S1x4096x1x8 ![1, 2, 3] bcast_S4096x1x8_S1x4096x1x8_1_2_3 (broadcastInDim S4096x1x8 ![0, 2] bcast_S4096x8_S4096x1x8_0_2 t))

/-- The rotary embedding of twelve heads' features, and of four. -/
def rope12 (t : FVec Ideal S4x4096x12x64 .f32) : FVec Ideal S4x4096x12x64 .f32 :=
  concatenate S4x4096x12x64 3
    [⟨S4x4096x12x8, subf (mulf (extractStridedSlice S4x4096x12x8 ![0, 0, 0, 0] t slices_S4x4096x12x64_S4x4096x12x8_0_0_0_0) (table12 cosT)) (mulf (extractStridedSlice S4x4096x12x8 ![0, 0, 0, 8] t slices_S4x4096x12x64_S4x4096x12x8_0_0_0_8) (table12 sinT))⟩,
     ⟨S4x4096x12x8, addf (mulf (extractStridedSlice S4x4096x12x8 ![0, 0, 0, 8] t slices_S4x4096x12x64_S4x4096x12x8_0_0_0_8) (table12 cosT)) (mulf (extractStridedSlice S4x4096x12x8 ![0, 0, 0, 0] t slices_S4x4096x12x64_S4x4096x12x8_0_0_0_0) (table12 sinT))⟩,
     ⟨S4x4096x12x48, extractStridedSlice S4x4096x12x48 ![0, 0, 0, 16] t slices_S4x4096x12x64_S4x4096x12x48_0_0_0_16⟩]
    concatenates_S4x4096x12x8_S4x4096x12x8_S4x4096x12x48_S4x4096x12x64_d3

def rope4 (t : FVec Ideal S4x4096x4x64 .f32) : FVec Ideal S4x4096x4x64 .f32 :=
  concatenate S4x4096x4x64 3
    [⟨S4x4096x4x8, subf (mulf (extractStridedSlice S4x4096x4x8 ![0, 0, 0, 0] t slices_S4x4096x4x64_S4x4096x4x8_0_0_0_0) (table4 cosT)) (mulf (extractStridedSlice S4x4096x4x8 ![0, 0, 0, 8] t slices_S4x4096x4x64_S4x4096x4x8_0_0_0_8) (table4 sinT))⟩,
     ⟨S4x4096x4x8, addf (mulf (extractStridedSlice S4x4096x4x8 ![0, 0, 0, 8] t slices_S4x4096x4x64_S4x4096x4x8_0_0_0_8) (table4 cosT)) (mulf (extractStridedSlice S4x4096x4x8 ![0, 0, 0, 0] t slices_S4x4096x4x64_S4x4096x4x8_0_0_0_0) (table4 sinT))⟩,
     ⟨S4x4096x4x48, extractStridedSlice S4x4096x4x48 ![0, 0, 0, 16] t slices_S4x4096x4x64_S4x4096x4x48_0_0_0_16⟩]
    concatenates_S4x4096x4x8_S4x4096x4x8_S4x4096x4x48_S4x4096x4x64_d3

def queries : FVec Ideal S16384x768 .bf16 :=
  truncf .bf16 (shapeCast _ (transpose S16384x3x4x64 [0, 2, 1, 3] (shapeCast S16384x4x3x64 (rope12 (shapeCast _ (mulf (extractStridedSlice S16384x768 ![0, 0] (prod x g w) slices_S16384x2560_S16384x768_0_0) (broadcastInDim S16384x768 ![] bcast_S_S16384x768 (constant S_ .f32 0x3E000000#32))) shapeCasts_S16384x768_S4x4096x12x64))
    shapeCasts_S4x4096x12x64_S16384x4x3x64) transposes_S16384x4x3x64_S16384x3x4x64_0_2_1_3) shapeCasts_S16384x3x4x64_S16384x768) bitsLt_bf16_f32

def keys : FVec Ideal S4x4096x4x64 .f32 := rope4 (shapeCast _ (extractStridedSlice S16384x256 ![0, 768] (prod x g w) slices_S16384x2560_S16384x256_0_768) shapeCasts_S16384x256_S4x4096x4x64)

/-- Of each sequence, features before tokens. -/
def keysMajor (t : FVec Ideal S4x4096x4x64 .f32) : FVec Ideal S4x256x4096 .f32 :=
  transpose S4x256x4096 [0, 2, 1] (shapeCast _ t shapeCasts_S4x4096x4x64_S4x4096x256) transposes_S4x4096x256_S4x256x4096_0_2_1

def valsMajor (t : FVec Ideal S16384x256 .f32) : FVec Ideal S4x256x4096 .f32 :=
  transpose S4x256x4096 [0, 2, 1] (shapeCast _ t shapeCasts_S16384x256_S4x4096x256) transposes_S4x4096x256_S4x256x4096_0_2_1

/-- Of each sequence in tiles of 128 tokens, features before tokens. -/
def keysTiled (t : FVec Ideal S4x4096x4x64 .f32) : FVec Ideal S4x32x256x128 .bf16 :=
  truncf .bf16 (transpose S4x32x256x128 [0, 1, 3, 2] (shapeCast _ t shapeCasts_S4x4096x4x64_S4x32x128x256) transposes_S4x32x128x256_S4x32x256x128_0_1_3_2) bitsLt_bf16_f32

def valsTiled (t : FVec Ideal S16384x256 .f32) : FVec Ideal S4x32x256x128 .bf16 :=
  truncf .bf16 (transpose S4x32x256x128 [0, 1, 3, 2] (shapeCast _ t shapeCasts_S16384x256_S4x32x128x256) transposes_S4x32x128x256_S4x32x256x128_0_1_3_2) bitsLt_bf16_f32

def vals : FVec Ideal S16384x256 .f32 := extractStridedSlice S16384x256 ![0, 1024] (prod x g w) slices_S16384x2560_S16384x256_0_1024

def gates : FVec Ideal S16384x768 .f32 := heads (gate bcast_S_S16384x768 (extractStridedSlice S16384x768 ![0, 1280] (prod x g w) slices_S16384x2560_S16384x768_0_1280))

def memQueries : FVec Ideal S16384x256 .bf16 :=
  truncf .bf16 (mulf (extractStridedSlice S16384x256 ![0, 2048] (prod x g w) slices_S16384x2560_S16384x256_0_2048) (broadcastInDim S16384x256 ![] bcast_S_S16384x256 (constant S_ .f32 0x3E000000#32))) bitsLt_bf16_f32

def memGates : FVec Ideal S16384x256 .f32 := gate bcast_S_S16384x256 (extractStridedSlice S16384x256 ![0, 2304] (prod x g w) slices_S16384x2560_S16384x256_0_2304)

/-- The token `s` of sequence `b`. -/
abbrev tok (b : Fin 4) (s : Fin 4096) : Fin 16384 := ⟨4096 * b.val + s.val, by omega⟩

theorem rope12_apply (t : FVec Ideal S4x4096x12x64 .f32) (b : Fin 4) (s : Fin 4096) (h : Fin 12) (d : Fin 64) :
    rope12 t (ix4 b s h d) = rot (fun d => t (ix4 b s h d)) (fun i => cosT (ix2 s i)) (fun i => sinT (ix2 s i)) d := by
  pointwise [rope12, table12, rot]
  split_ifs
  all_goals first
    | (simp only [Nat.add_comm]; done)
    | exact congrArg (fun d => t (ix4 b s h d)) (Fin.ext (by dsimp only; omega))
    | exact congrArg₂ (· + ·) (congrArg₂ (· * ·) (congrArg (fun i => t (ix4 b s h i)) (Fin.ext (by dsimp only; omega))) rfl) rfl

theorem rope4_apply (t : FVec Ideal S4x4096x4x64 .f32) (b : Fin 4) (s : Fin 4096) (h : Fin 4) (d : Fin 64) :
    rope4 t (ix4 b s h d) = rot (fun d => t (ix4 b s h d)) (fun i => cosT (ix2 s i)) (fun i => sinT (ix2 s i)) d := by
  pointwise [rope4, table4, rot]
  split_ifs
  all_goals first
    | (simp only [Nat.add_comm]; done)
    | exact congrArg (fun d => t (ix4 b s h d)) (Fin.ext (by dsimp only; omega))
    | exact congrArg₂ (· + ·) (congrArg₂ (· * ·) (congrArg (fun i => t (ix4 b s h i)) (Fin.ext (by dsimp only; omega))) rfl) rfl

theorem queries_apply (b : Fin 4) (s : Fin 4096) (n : Fin 12) (d : Fin 64) :
    queries x g w (ix2 (tok b s) ⟨64 * n.val + d.val, by omega⟩)
      = rot (fun d => entry x g w (tok b s) ⟨64 * (n.val % 4 * 3 + n.val / 4) + d.val, by omega⟩ * eighth) (fun i => cosT (ix2 s i)) (fun i => sinT (ix2 s i)) d := by
  simp only [← prod_apply]
  have h := rope12_apply (shapeCast _ (mulf (extractStridedSlice S16384x768 ![0, 0] (prod x g w) slices_S16384x2560_S16384x768_0_0) (broadcastInDim S16384x768 ![] bcast_S_S16384x768 (constant S_ .f32 0x3E000000#32))) shapeCasts_S16384x768_S4x4096x12x64) b s ⟨n.val % 4 * 3 + n.val / 4, by omega⟩ d
  refine Eq.trans ?_ (h.trans ?_)
  · pointwise [queries]
    exact congrArg (fun n => rope12 _ (ix4 b s n d)) (Fin.ext (by dsimp only; omega))
  · refine congrArg (fun f => rot f _ _ d) (funext fun d => ?_)
    pointwise
    exact congrArg₂ (fun i j => prod x g w (ix2 i j) * eighth) (Fin.ext (by dsimp only [tok]; omega)) (Fin.ext (by dsimp only; omega))

theorem keys_apply (b : Fin 4) (s : Fin 4096) (h : Fin 4) (d : Fin 64) :
    keys x g w (ix4 b s h d) = rot (fun d => entry x g w (tok b s) ⟨768 + 64 * h.val + d.val, by omega⟩) (fun i => cosT (ix2 s i)) (fun i => sinT (ix2 s i)) d := by
  simp only [← prod_apply]
  refine (rope4_apply _ b s h d).trans (congrArg (fun f => rot f _ _ d) (funext fun d => ?_))
  pointwise
  exact congrArg₂ (fun i j => prod x g w (ix2 i j)) (Fin.ext (by dsimp only [tok]; omega)) (Fin.ext (by dsimp only; omega))

theorem keysMajor_apply (t : FVec Ideal S4x4096x4x64 .f32) (b : Fin 4) (h : Fin 4) (d : Fin 64) (s : Fin 4096) : keysMajor t (ix3 b ⟨64 * h.val + d.val, by omega⟩ s) = t (ix4 b s h d) := by
  pointwise [keysMajor]

theorem valsMajor_apply (t : FVec Ideal S16384x256 .f32) (b : Fin 4) (e : Fin 256) (s : Fin 4096) : valsMajor t (ix3 b e s) = t (ix2 (tok b s) e) := by
  pointwise [valsMajor]
  exact congrArg (fun i => t (ix2 i e)) (Fin.ext (by dsimp only [tok]; omega))

theorem keysTiled_apply (t : FVec Ideal S4x4096x4x64 .f32) (b : Fin 4) (i : Fin 32) (h : Fin 4) (d : Fin 64) (s : Fin 128) :
    keysTiled t (ix4 b i ⟨64 * h.val + d.val, by omega⟩ s) = t (ix4 b ⟨128 * i.val + s.val, by omega⟩ h d) := by
  pointwise [keysTiled]
  exact congrArg (fun s => t (ix4 b s h d)) (Fin.ext (by dsimp only; omega))

theorem valsTiled_apply (t : FVec Ideal S16384x256 .f32) (b : Fin 4) (i : Fin 32) (e : Fin 256) (s : Fin 128) : valsTiled t (ix4 b i e s) = t (ix2 (tok b ⟨128 * i.val + s.val, by omega⟩) e) := by
  pointwise [valsTiled]
  exact congrArg (fun i => t (ix2 i e)) (Fin.ext (by dsimp only [tok]; omega))

theorem vals_apply (r : Fin 16384) (j : Fin 256) : vals x g w (ix2 r j) = entry x g w r ⟨1024 + j.val, by omega⟩ := by
  rw [← prod_apply]
  pointwise [vals]

theorem gates_apply (r : Fin 16384) (j : Fin 768) : gates x g w (ix2 r j) = silu (entry x g w r ⟨1280 + (perm j).val, by omega⟩) := by
  rw [gates, heads_apply, gate_apply, ← prod_apply]
  refine congrArg silu ?_
  pointwise

theorem memQueries_apply (r : Fin 16384) (j : Fin 256) : memQueries x g w (ix2 r j) = entry x g w r ⟨2048 + j.val, by omega⟩ * eighth := by
  rw [← prod_apply]
  pointwise [memQueries]

theorem memGates_apply (r : Fin 16384) (j : Fin 256) : memGates x g w (ix2 r j) = silu (entry x g w r ⟨2304 + j.val, by omega⟩) := by
  rw [← prod_apply, ← silu_eq]
  pointwise [memGates, gate]

end Cert.SwaInRefIdeal.Proj
end
-- ==== Proof.SwaIn.Array.lean ====
module

public import proofs.«01_k».proof.Proof.SwaIn.Block
public import proofs.«01_k».proof.Proof.SwaIn.Ref

@[expose] public section

set_option maxRecDepth 16384

noncomputable section

/-! The sliding-window layers' projections of the prompt are the reference's. -/

namespace Cert.SwaInIdeal.Proj

open Cert.SwaInIdeal Cert.SwaInIdeal.Gen Idealize.ShloMosaic Idealize.ShloMosaic.TcCoe
open Cert.Norm (proj proj_scale silu eighth rot turned turned_eq)
open Cert.InSIdeal.Proj (perm)
open Cert.SwaInRefIdeal.Proj (entry tok)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![t.val % 8, 0] := by decide +kernel
theorem idx4 : ∀ t : Fin cfg0.N, win0_4.index t = ![t.val % 8, 0] := by decide +kernel
theorem idx5 : ∀ t : Fin cfg0.N, win0_5.index t = ![t.val % 8, 0] := by decide +kernel
theorem idx6 : ∀ t : Fin cfg0.N, win0_6.index t = ![t.val, 0] := by decide +kernel
theorem idx7 : ∀ t : Fin cfg0.N, win0_7.index t = ![t.val / 8, 0, t.val % 8] := by decide +kernel
theorem idx8 : ∀ t : Fin cfg0.N, win0_8.index t = ![t.val / 8, 0, t.val % 8] := by decide +kernel
theorem idx9 : ∀ t : Fin cfg0.N, win0_9.index t = ![t.val, 0] := by decide +kernel
theorem idx10 : ∀ t : Fin cfg0.N, win0_10.index t = ![t.val, 0] := by decide +kernel
theorem idx11 : ∀ t : Fin cfg0.N, win0_11.index t = ![t.val, 0] := by decide +kernel
theorem idx12 : ∀ t : Fin cfg0.N, win0_12.index t = ![t.val / 8, t.val % 8, 0, 0] := by decide +kernel
theorem idx13 : ∀ t : Fin cfg0.N, win0_13.index t = ![t.val / 8, t.val % 8, 0, 0] := by decide +kernel

variable (m : (ℓ : Loc nD τ sig) → Buf (Elt Ideal) ℓ) (c : Dev nD) (t : Fin cfg0.N)

/-- The arguments, as arrays of their shapes. -/
abbrev argX : FVec Ideal S16384x1024 .f32 := m (c.tc.loc main_arg0)
abbrev argG : FVec Ideal S1024 .f32 := m (c.tc.loc main_arg1)

/-- The sequence and the position in it of row `r` of grid point `t`'s block. -/
def bat : Fin 4 := ⟨t.val / 8, by have : t.val < 32 := t.isLt; omega⟩
def pos (r : Fin 512) : Fin 4096 := ⟨512 * (t.val % 8) + r.val, by omega⟩

/-- The token of that row. -/
abbrev at_ (r : Fin 512) : Fin 16384 := tok (bat t) (pos t r)

theorem blk0 (r : Fin 512) (k : Fin 1024) : (show Vec Ideal S512x1024 .f32 from iblk m c 0 t) (ix2 r k) = argX m c (ix2 (at_ t r) k) := by
  blk_simp [iblk]
  unfold V
  after_reads_at
  refine congrArg (argX m c) ?_
  blk_ext [at_, tok, bat, pos, idx0 t]

theorem blk1 (k : Fin 1024) : (show Vec Ideal S1x1024 .f32 from iblk m c 1 t) (ix2 0 k) = argG m c (ix1 k) := by
  blk_simp [iblk]
  unfold V
  after_reads_at
  refine congrArg (argG m c) ?_
  blk_ext [idx1 t]

theorem blk2 (k : Fin 1024) (j : Fin 2688) : (show Vec Ideal S1024x2688 .bf16 from iblk m c 2 t) (ix2 k j) = prepared (argW m c) (ix2 k j) := by
  blk_simp [iblk]
  refine (congrFun (v22_eq m c) _).trans (congrArg (prepared (argW m c)) ?_)
  blk_ext [idx2 t]

theorem blk3 (r : Fin 512) (l : Fin 128) : (show Vec Ideal S512x128 .f32 from iblk m c 3 t) (ix2 r l) = twice (tableC cosT) (ix2 (pos t r) l) := by
  blk_simp [iblk]
  refine (congrFun (v52_eq m c) _).trans (congrArg (twice (tableC cosT)) ?_)
  blk_ext [pos, idx3 t]

theorem blk4 (r : Fin 512) (l : Fin 128) : (show Vec Ideal S512x128 .f32 from iblk m c 4 t) (ix2 r l) = twice (tableL sinT) (ix2 (pos t r) l) := by
  blk_simp [iblk]
  refine (congrFun (v55_eq m c) _).trans (congrArg (twice (tableL sinT)) ?_)
  blk_ext [pos, idx4 t]

theorem blk5 (r : Fin 512) (l : Fin 128) : (show Vec Ideal S512x128 .f32 from iblk m c 5 t) (ix2 r l) = twice (tableR sinT) (ix2 (pos t r) l) := by
  blk_simp [iblk]
  refine (congrFun (v58_eq m c) _).trans (congrArg (twice (tableR sinT)) ?_)
  blk_ext [pos, idx5 t]

/-- The block's row is the arguments' row against the column of the prepared weights. -/
theorem row_eq (r : Fin 512) (j : Fin 2688) (v : Fin 1024 → EReal) (hv : ∀ k, prepared (argW m c) (ix2 k j) = v k) :
    row (iblk m c 0 t) (iblk m c 1 t) (iblk m c 2 t) r j = proj (fun k => argX m c (ix2 (at_ t r) k)) (fun k => argG m c (ix1 k)) v :=
  congr (congr (congrArg proj (funext fun k => blk0 m c t r k)) (funext fun k => blk1 m c t k)) (funext fun k => (blk2 m c t k j).trans (hv k))

/-- Two heads of the block's row with the tables' products are the heads' rotary embedding. -/
theorem turned_row (r : Fin 512) (o : ℕ) (ho : o + 128 ≤ 2688) (u : Fin 2) (d : Fin 64) (v : Fin 64 → Fin 1024 → EReal)
    (hv : ∀ d k, prepared (argW m c) (ix2 k ⟨o + (64 * u.val + (d : Fin 64).val), by omega⟩) = v d k) :
    turnedRow (iblk m c 0 t) (iblk m c 1 t) (iblk m c 2 t) (iblk m c 3 t) (iblk m c 4 t) (iblk m c 5 t) r o ho ⟨64 * u.val + d.val, by omega⟩
      = rot (fun d => proj (fun k => argX m c (ix2 (at_ t r) k)) (fun k => argG m c (ix1 k)) (v d)) (fun i => cosT (ix2 (pos t r) i)) (fun i => sinT (ix2 (pos t r) i)) d := by
  refine (turned_eq _ _ _ _ (fun i => cosT (ix2 (pos t r) i)) (fun i => sinT (ix2 (pos t r) i)) u (fun d => ?_) (fun d => ?_) (fun d => ?_) d).trans
    (congrArg (fun f => rot f _ _ d) (funext fun d => row_eq m c t r _ (v d) (hv d)))
  · exact (blk3 m c t r _).trans ((twice_apply _ _ u d).trans (tableC_apply _ _ d))
  · exact (blk4 m c t r _).trans ((twice_apply _ _ u d).trans (tableL_apply _ _ d))
  · exact (blk5 m c t r _).trans ((twice_apply _ _ u d).trans (tableR_apply _ _ d))

open Cert.SwaInRefIdeal.Proj in
theorem keys_blk (r : Fin 512) (h : Fin 4) (d : Fin 64) :
    keysT (iblk m c 0 t) (iblk m c 1 t) (iblk m c 2 t) (iblk m c 3 t) (iblk m c 4 t) (iblk m c 5 t) (ix2 ⟨64 * h.val + d.val, by omega⟩ r)
      = keys (argX m c) (argG m c) (argW m c) (ix4 (bat t) (pos t r) h d) := by
  have e : (⟨64 * h.val + d.val, by omega⟩ : Fin 256) = ⟨128 * (⟨h.val / 2, by omega⟩ : Fin 2).val + (⟨64 * (⟨h.val % 2, by omega⟩ : Fin 2).val + d.val, by omega⟩ : Fin 128).val, by omega⟩ :=
    Fin.ext (by dsimp only; omega)
  rw [e, keys_apply]
  refine (keysT_apply _ _ _ _ _ _ r ⟨h.val / 2, by omega⟩ ⟨64 * (⟨h.val % 2, by omega⟩ : Fin 2).val + d.val, by omega⟩).trans
    (turned_row m c t r _ _ ⟨h.val % 2, by omega⟩ d (fun d k => argW m c (ix2 k ⟨768 + 64 * h.val + d.val, by omega⟩)) fun d k => ?_)
  refine Eq.trans (congrArg (prepared (argW m c)) (congrArg (ix2 k) (Fin.ext ?_))) ((prepared_k _ k ⟨64 * h.val + d.val, by omega⟩).trans (congrArg (argW m c) (congrArg (ix2 k) (Fin.ext ?_))))
  all_goals dsimp only; omega

open Cert.SwaInRefIdeal.Proj in
theorem vals_blk (r : Fin 512) (e : Fin 256) :
    valsT (iblk m c 0 t) (iblk m c 1 t) (iblk m c 2 t) (iblk m c 3 t) (iblk m c 4 t) (iblk m c 5 t) (ix2 e r) = vals (argX m c) (argG m c) (argW m c) (ix2 (at_ t r) e) :=
  (valsT_apply _ _ _ _ _ _ r e).trans ((row_eq m c t r _ _ fun k => prepared_v _ k e).trans (vals_apply _ _ _ _ e).symm)

open Cert.SwaInRefIdeal.Proj in
theorem array6 : (dats m 0 c).arrAt 6 cfg0.N = queries (argX m c) (argG m c) (argW m c) := by
  refine (dats m 0 c).arrAt_eq_of_covers 6 _ (by decide +kernel) fun t hf y => ?_
  blk_simp
  rw [after0_6]
  obtain ⟨r, j, rfl⟩ : ∃ (r : Fin 512) (j : Fin 768), y = ix2 r j := ⟨y 0, y 1, eq_ix2 y⟩
  obtain ⟨n, d, rfl⟩ : ∃ (n : Fin 12) (d : Fin 64), j = ⟨64 * n.val + d.val, by omega⟩ := ⟨⟨j.val / 64, by omega⟩, ⟨j.val % 64, by omega⟩, Fin.ext (by dsimp only; omega)⟩
  have hemb : ((cfg0.win 6).blk t).view.emb (ix2 r ⟨64 * n.val + d.val, by omega⟩) = ix2 (at_ t r) ⟨64 * n.val + d.val, by omega⟩ := by blk_ext [idx6 t, at_, tok, bat, pos]
  refine Eq.trans ?_ (congrArg (queries (argX m c) (argG m c) (argW m c)) hemb).symm
  have e : (⟨64 * n.val + d.val, by omega⟩ : Fin 768) = ⟨128 * (⟨n.val / 2, by omega⟩ : Fin 6).val + (⟨64 * (⟨n.val % 2, by omega⟩ : Fin 2).val + d.val, by omega⟩ : Fin 128).val, by omega⟩ :=
    Fin.ext (by dsimp only; omega)
  refine Eq.trans ?_ (queries_apply _ _ _ (bat t) (pos t r) n d).symm
  rw [e]
  refine ((out6_apply _ _ _ _ _ _ r ⟨n.val / 2, by omega⟩ ⟨64 * (⟨n.val % 2, by omega⟩ : Fin 2).val + d.val, by omega⟩).trans
    (turned_row m c t r _ _ ⟨n.val % 2, by omega⟩ d (fun d k => argW m c (ix2 k ⟨64 * (n.val % 4 * 3 + n.val / 4) + d.val, by omega⟩) * eighth) fun d k => ?_)).trans
    (congrArg (fun f => rot f _ _ d) (funext fun d => proj_scale _ _ _))
  refine Eq.trans (congrArg (prepared (argW m c)) (congrArg (ix2 k) (Fin.ext ?_))) ((prepared_q _ k ⟨64 * n.val + d.val, by omega⟩).trans (congrArg (fun i => argW m c i * eighth) (congrArg (ix2 k) (Fin.ext ?_))))
  · dsimp only; omega
  · dsimp only [perm]; omega

open Cert.SwaInRefIdeal.Proj in
theorem array7 : (dats m 0 c).arrAt 7 cfg0.N = keysMajor (keys (argX m c) (argG m c) (argW m c)) := by
  refine (dats m 0 c).arrAt_eq_of_covers 7 _ (by decide +kernel) fun t hf y => ?_
  blk_simp
  rw [after0_7]
  obtain ⟨a, e, r, rfl⟩ : ∃ (a : Fin 1) (e : Fin 256) (r : Fin 512), y = ix3 a e r := ⟨y 0, y 1, y 2, eq_ix3 y⟩
  obtain rfl : a = 0 := Subsingleton.elim _ _
  obtain ⟨h, d, rfl⟩ : ∃ (h : Fin 4) (d : Fin 64), e = ⟨64 * h.val + d.val, by omega⟩ := ⟨⟨e.val / 64, by omega⟩, ⟨e.val % 64, by omega⟩, Fin.ext (by dsimp only; omega)⟩
  have hemb : ((cfg0.win 7).blk t).view.emb (ix3 0 ⟨64 * h.val + d.val, by omega⟩ r) = ix3 (bat t) ⟨64 * h.val + d.val, by omega⟩ (pos t r) := by blk_ext [idx7 t, bat, pos]
  refine Eq.trans ?_ (congrArg (keysMajor (keys (argX m c) (argG m c) (argW m c))) hemb).symm
  exact (out7_apply _ _ _ _ _ _ r _).trans ((keys_blk m c t r h d).trans (keysMajor_apply _ _ h d _).symm)

open Cert.SwaInRefIdeal.Proj in
theorem array8 : (dats m 0 c).arrAt 8 cfg0.N = valsMajor (vals (argX m c) (argG m c) (argW m c)) := by
  refine (dats m 0 c).arrAt_eq_of_covers 8 _ (by decide +kernel) fun t hf y => ?_
  blk_simp
  rw [after0_8]
  obtain ⟨a, e, r, rfl⟩ : ∃ (a : Fin 1) (e : Fin 256) (r : Fin 512), y = ix3 a e r := ⟨y 0, y 1, y 2, eq_ix3 y⟩
  obtain rfl : a = 0 := Subsingleton.elim _ _
  have hemb : ((cfg0.win 8).blk t).view.emb (ix3 0 e r) = ix3 (bat t) e (pos t r) := by blk_ext [idx8 t, bat, pos]
  refine Eq.trans ?_ (congrArg (valsMajor (vals (argX m c) (argG m c) (argW m c))) hemb).symm
  exact (out8_apply _ _ _ _ _ _ r e).trans ((vals_blk m c t r e).trans (valsMajor_apply _ _ e _).symm)

open Cert.SwaInRefIdeal.Proj in
theorem array9 : (dats m 0 c).arrAt 9 cfg0.N = gates (argX m c) (argG m c) (argW m c) := by
  refine (dats m 0 c).arrAt_eq_of_covers 9 _ (by decide +kernel) fun t hf y => ?_
  blk_simp
  rw [after0_9]
  obtain ⟨r, j, rfl⟩ : ∃ (r : Fin 512) (j : Fin 768), y = ix2 r j := ⟨y 0, y 1, eq_ix2 y⟩
  have hemb : ((cfg0.win 9).blk t).view.emb (ix2 r j) = ix2 (at_ t r) j := by blk_ext [idx9 t, at_, tok, bat, pos]
  refine Eq.trans ?_ (congrArg (gates (argX m c) (argG m c) (argW m c)) hemb).symm
  exact (out9_apply _ _ _ _ _ _ r j).trans ((congrArg silu (row_eq m c t r _ _ fun k => prepared_z _ k j)).trans (gates_apply _ _ _ _ j).symm)

open Cert.SwaInRefIdeal.Proj in
theorem array10 : (dats m 0 c).arrAt 10 cfg0.N = memQueries (argX m c) (argG m c) (argW m c) := by
  refine (dats m 0 c).arrAt_eq_of_covers 10 _ (by decide +kernel) fun t hf y => ?_
  blk_simp
  rw [after0_10]
  obtain ⟨r, j, rfl⟩ : ∃ (r : Fin 512) (j : Fin 256), y = ix2 r j := ⟨y 0, y 1, eq_ix2 y⟩
  have hemb : ((cfg0.win 10).blk t).view.emb (ix2 r j) = ix2 (at_ t r) j := by blk_ext [idx10 t, at_, tok, bat, pos]
  refine Eq.trans ?_ (congrArg (memQueries (argX m c) (argG m c) (argW m c)) hemb).symm
  exact (out10_apply _ _ _ _ _ _ r j).trans ((row_eq m c t r _ _ fun k => prepared_qm _ k j).trans ((proj_scale _ _ _).trans (memQueries_apply _ _ _ _ j).symm))

open Cert.SwaInRefIdeal.Proj in
theorem array11 : (dats m 0 c).arrAt 11 cfg0.N = memGates (argX m c) (argG m c) (argW m c) := by
  refine (dats m 0 c).arrAt_eq_of_covers 11 _ (by decide +kernel) fun t hf y => ?_
  blk_simp
  rw [after0_11]
  obtain ⟨r, j, rfl⟩ : ∃ (r : Fin 512) (j : Fin 256), y = ix2 r j := ⟨y 0, y 1, eq_ix2 y⟩
  have hemb : ((cfg0.win 11).blk t).view.emb (ix2 r j) = ix2 (at_ t r) j := by blk_ext [idx11 t, at_, tok, bat, pos]
  refine Eq.trans ?_ (congrArg (memGates (argX m c) (argG m c) (argW m c)) hemb).symm
  exact (out11_apply _ _ _ _ _ _ r j).trans ((congrArg silu (row_eq m c t r _ _ fun k => prepared_zm _ k j)).trans (memGates_apply _ _ _ _ j).symm)

/-- A tile's position among the tiles of its sequence, and a position of a tile in the sequence. -/
def tile (i : Fin 4) : Fin 32 := ⟨4 * (t.val % 8) + i.val, by omega⟩

theorem tile_pos (i : Fin 4) (s : Fin 128) : pos t ⟨128 * i.val + s.val, by omega⟩ = ⟨128 * (tile t i).val + s.val, by have := (tile t i).isLt; omega⟩ :=
  Fin.ext (by dsimp only [pos, tile]; omega)

open Cert.SwaInRefIdeal.Proj in
theorem array12 : (dats m 0 c).arrAt 12 cfg0.N = keysTiled (keys (argX m c) (argG m c) (argW m c)) := by
  refine (dats m 0 c).arrAt_eq_of_covers 12 _ (by decide +kernel) fun t hf y => ?_
  blk_simp
  rw [after0_12]
  obtain ⟨a, i, e, s, rfl⟩ : ∃ (a : Fin 1) (i : Fin 4) (e : Fin 256) (s : Fin 128), y = ix4 a i e s := ⟨y 0, y 1, y 2, y 3, eq_ix4 y⟩
  obtain rfl : a = 0 := Subsingleton.elim _ _
  obtain ⟨h, d, rfl⟩ : ∃ (h : Fin 4) (d : Fin 64), e = ⟨64 * h.val + d.val, by omega⟩ := ⟨⟨e.val / 64, by omega⟩, ⟨e.val % 64, by omega⟩, Fin.ext (by dsimp only; omega)⟩
  have hemb : ((cfg0.win 12).blk t).view.emb (ix4 0 i ⟨64 * h.val + d.val, by omega⟩ s) = ix4 (bat t) (tile t i) ⟨64 * h.val + d.val, by omega⟩ s := by blk_ext [idx12 t, bat, tile]
  refine Eq.trans ?_ (congrArg (keysTiled (keys (argX m c) (argG m c) (argW m c))) hemb).symm
  refine (out12_apply _ _ _ _ _ _ i _ s).trans ((keys_blk m c t _ h d).trans (Eq.trans ?_ (keysTiled_apply _ _ (tile t i) h d s).symm))
  rw [tile_pos]

open Cert.SwaInRefIdeal.Proj in
theorem array13 : (dats m 0 c).arrAt 13 cfg0.N = valsTiled (vals (argX m c) (argG m c) (argW m c)) := by
  refine (dats m 0 c).arrAt_eq_of_covers 13 _ (by decide +kernel) fun t hf y => ?_
  blk_simp
  rw [after0_13]
  obtain ⟨a, i, e, s, rfl⟩ : ∃ (a : Fin 1) (i : Fin 4) (e : Fin 256) (s : Fin 128), y = ix4 a i e s := ⟨y 0, y 1, y 2, y 3, eq_ix4 y⟩
  obtain rfl : a = 0 := Subsingleton.elim _ _
  have hemb : ((cfg0.win 13).blk t).view.emb (ix4 0 i e s) = ix4 (bat t) (tile t i) e s := by blk_ext [idx13 t, bat, tile]
  refine Eq.trans ?_ (congrArg (valsTiled (vals (argX m c) (argG m c) (argW m c))) hemb).symm
  refine (out13_apply _ _ _ _ _ _ i e s).trans ((vals_blk m c t _ e).trans (Eq.trans ?_ (valsTiled_apply _ _ (tile t i) e s).symm))
  dsimp only [at_]
  rw [tile_pos]

end Cert.SwaInIdeal.Proj
end
-- ==== Proof.SwaIn.Claims.lean ====
module

public import proofs.«01_k».proof.Defs
public import proofs.«01_k».proof.Proof.SwaIn.Array
public import proofs.«01_k».proof.Proof.Gen.SwaIn.Frame
public import proofs.«01_k».proof.Proof.Gen.SwaInIdeal.Frame
public import Idealize.ShloMosaic.Lib.Quiescent
public import Idealize.ShloMosaic.Adequacy
public import Idealize.ShloMosaic.Init

@[expose] public section

noncomputable section

/-! The claims about the sliding-window layers' projections of the prompt. -/

namespace Cert.SwaInClaims

open Idealize.ShloMosaic Idealize.SL.Sem

theorem frame_p : quiescent_SwaIn (hSwaIn := Cert.SwaIn.Gen.facts) := fun m ρ _ => Cert.SwaIn.Gen.frame m ρ

theorem frame_pi : quiescent_SwaInIdeal (hSwaInIdeal := Cert.SwaInIdeal.Gen.facts) := fun m ρ _ => Cert.SwaInIdeal.Gen.frame m ρ

theorem frame_ri : quiescent_SwaInRefIdeal (hSwaInRefIdeal := Cert.SwaInRefIdeal.Gen.facts) := fun m ρ _ =>
  (θ_run Cert.SwaInRefIdeal.defs _ _).mono
    (fun r h => ⟨fun c => (h c).2.2.2.2.2.2.2.2, Idealize.ShloMosaic.sem_eq_zero_of_no_sems (by decide) r.2⟩)
    (Cert.SwaInRefIdeal.Value.run (F := Ideal) m ρ)

theorem preserves : preserves_SwaIn_SwaInIdeal := trivial

set_option maxHeartbeats 4000000 in
open Cert.SwaInRefIdeal.Proj in
theorem algebraic : algebraic_SwaInIdeal_SwaInRefIdeal (hSwaInIdeal := Cert.SwaInIdeal.Gen.facts)
    (hSwaInRefIdeal := Cert.SwaInRefIdeal.Gen.facts) := by
  intro m ρ m' ρ' _ hagree
  refine ⟨_, _, _, _, _, _, _, _, Cert.SwaInIdeal.Value.run_blocks m ρ, ?_⟩
  refine (θ_run Cert.SwaInRefIdeal.defs _ _).mono (fun _ h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2.1.trans ?_, (h c).2.2.2.2.2.2.2.1.trans ?_, (h c).2.2.2.2.2.2.2.2⟩)
    (Cert.SwaInRefIdeal.Value.run (F := Ideal) m' ρ')
  all_goals
    obtain ⟨e0, e1, e2⟩ := hagree c
    first
      | rewrite [e0, e1, e2]
      | (unfold Cert.SwaInRefIdeal.Value.res_main_v104; rewrite [e0, e1, e2])
      | (unfold Cert.SwaInRefIdeal.Value.res_main_v106; rewrite [e0, e1, e2])
      | (unfold Cert.SwaInRefIdeal.Value.res_main_v119; rewrite [e0, e1, e2])
  · refine Eq.trans ?_ (Cert.SwaInIdeal.Proj.array6 m c).symm
    unfold queries rope12 prod
    rfl
  · refine Eq.trans ?_ (Cert.SwaInIdeal.Proj.array7 m c).symm
    unfold keysMajor keys rope4 prod
    rfl
  · refine Eq.trans ?_ (Cert.SwaInIdeal.Proj.array8 m c).symm
    unfold valsMajor vals prod
    rfl
  · refine Eq.trans ?_ (Cert.SwaInIdeal.Proj.array9 m c).symm
    unfold gates heads gate prod
    rfl
  · refine Eq.trans ?_ (Cert.SwaInIdeal.Proj.array10 m c).symm
    unfold memQueries prod
    rfl
  · refine Eq.trans ?_ (Cert.SwaInIdeal.Proj.array11 m c).symm
    unfold memGates gate prod
    rfl
  · refine Eq.trans ?_ (Cert.SwaInIdeal.Proj.array12 m c).symm
    unfold keysTiled keys rope4 prod
    rfl
  · refine Eq.trans ?_ (Cert.SwaInIdeal.Proj.array13 m c).symm
    unfold valsTiled vals prod
    rfl

end Cert.SwaInClaims
end
-- ==== Proof.OutS.Ref.lean ====
module

public import proofs.«01_k».proof.Proof.Gen.OutSRefIdeal.Run
public import proofs.«01_k».proof.Proof.Out.Ref

@[expose] public section

set_option maxRecDepth 16384

noncomputable section

/-! The samples' reference read at one index. -/

namespace Cert.OutSRefIdeal.Mix

open Cert.OutSRefIdeal Cert.OutSRefIdeal.Gen Idealize.ShloMosaic Idealize.ShloMosaic.TcCoe
open Cert.OutIdeal.Mix (mix)
open Cert.OutRefIdeal.Mix (src)
open Cert.Norm (scale)

/-- The reference's gated outputs, side by side, the heads reordered. -/
def gated (a sa : FVec Ideal S128x768 .f32) (b sb : FVec Ideal S128x256 .f32) : FVec Ideal S128x1024 .f32 :=
  concatenate S128x1024 1 [⟨S128x768, mulf (shapeCast S128x768 (transpose S128x4x3x64 [0, 2, 1, 3] (shapeCast S128x3x4x64 a shapeCasts_S128x768_S128x3x4x64) transposes_S128x3x4x64_S128x4x3x64_0_2_1_3) shapeCasts_S128x4x3x64_S128x768)
      (shapeCast S128x768 (transpose S128x4x3x64 [0, 2, 1, 3] (shapeCast S128x3x4x64 sa shapeCasts_S128x768_S128x3x4x64) transposes_S128x3x4x64_S128x4x3x64_0_2_1_3) shapeCasts_S128x4x3x64_S128x768)⟩,
    ⟨S128x256, mulf b sb⟩] concatenates_S128x768_S128x256_S128x1024_d1

/-- Their product with the weights. -/
def proj (u : FVec Ideal S128x1024 .f32) (w : FVec Ideal S1024x1024 .f32) : FVec Ideal S128x1024 .f32 :=
  Host.dotGeneral dot_S128x1024_S1024x1024_S128x1024_1_0_0_1_n_n none u w

/-- Its normalisation added to the layer's activations. -/
def normed (x y : FVec Ideal S128x1024 .f32) (g : FVec Ideal S1024 .f32) : FVec Ideal S128x1024 .f32 :=
  addf x (mulf (mulf y (broadcastInDim S128x1024 ![0, 1] bcast_S128x1_S128x1024_0_1 (Host.rsqrt (addf (Host.divf (broadcastInDim S128x1 ![0] bcast_S128_S128x1_0 (Host.reduceAdd (mulf y y) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32))))))
    (broadcastInDim S128x1024 ![0, 1] bcast_S1x1024_S128x1024_0_1 (broadcastInDim S1x1024 ![1] bcast_S1024_S1x1024_1 g)))

variable (a sa : FVec Ideal S128x768 .f32) (b sb : FVec Ideal S128x256 .f32) (w : FVec Ideal S1024x1024 .f32) (r : Fin 128) (j : Fin 1024)

theorem gated_lo (k : Fin 768) : gated a sa b sb (ix2 r (Fin.castAdd 256 k)) = a (ix2 r (src k)) * sa (ix2 r (src k)) := by
  have h (y : FVec Ideal S128x768 .f32) : shapeCast S128x768 (transpose S128x4x3x64 [0, 2, 1, 3] (shapeCast S128x3x4x64 y shapeCasts_S128x768_S128x3x4x64) transposes_S128x3x4x64_S128x4x3x64_0_2_1_3) shapeCasts_S128x4x3x64_S128x768 (ix2 r k)
      = y (ix2 r (src k)) := by
    pointwise
    refine congrArg y (congr (congrArg ix2 (Fin.ext ?_)) (Fin.ext ?_)) <;> simp [src] <;> omega
  simp only [← h]
  pointwise [gated]
  rw [dif_pos (by simp)]
  rfl

theorem gated_hi (k : Fin 256) : gated a sa b sb (ix2 r (Fin.natAdd 768 k)) = b (ix2 r k) * sb (ix2 r k) := by
  pointwise [gated]
  rw [dif_neg (by simp)]
  simp

theorem proj_apply : proj (gated a sa b sb) w (ix2 r j) = mix (fun k => a (ix2 r (src k))) (fun k => sa (ix2 r (src k)))
    (fun k => b (ix2 r k)) (fun k => sb (ix2 r k)) (fun k => w (ix2 k j)) := by
  have h : proj (gated a sa b sb) w (ix2 r j) = ∑ k : Fin (768 + 256), gated a sa b sb (ix2 r k) * w (ix2 k j) := by
    pointwise [proj]
  rw [h, Fin.sum_univ_add]
  simp only [gated_lo, gated_hi, mix]

theorem normed_apply (x y : FVec Ideal S128x1024 .f32) (g : FVec Ideal S1024 .f32) :
    normed x y g (ix2 r j) = x (ix2 r j) + y (ix2 r j) * scale (fun j => y (ix2 r j)) * g (ix1 j) := by
  pointwise [normed, scale]

end Cert.OutSRefIdeal.Mix
end
-- ==== Proof.OutS.Array.lean ====
module

public import proofs.«01_k».proof.Proof.Gen.OutSIdeal.Value
public import proofs.«01_k».proof.Proof.Out.Array
public import proofs.«01_k».proof.Proof.OutS.Ref

@[expose] public section

set_option maxRecDepth 16384

noncomputable section

/-! The output projection of the samples: one grid point, the reference's result. -/

namespace Cert.OutSIdeal.Mix

open Cert.OutSIdeal Cert.OutSIdeal.Gen Idealize.ShloMosaic Idealize.ShloMosaic.TcCoe
open Cert.OutIdeal.Mix (mix mix_perm prepared prepared_lo prepared_hi lo_apply hi_apply)
open Cert.OutRefIdeal.Mix (src)
open Cert.OutSRefIdeal.Mix (gated proj normed proj_apply normed_apply)
open Cert.Norm (scale)

section Block

variable (x0 x1 : Vec Ideal S128x768 .f32) (x2 x3 : Vec Ideal S128x256 .f32) (x4 : Vec Ideal S128x1024 .f32)
  (x5 : Vec Ideal S1024x1024 .bf16) (x6 : Vec Ideal S1x1024 .f32)

theorem pay_apply (y5 : Vec Ideal S768x1024 .bf16) (z5 : Vec Ideal S256x1024 .bf16) (w : Fin 1024 → Fin 1024 → EReal)
    (h5 : ∀ k j, y5 (ix2 k j) = w (Fin.castAdd 256 k) j) (h6 : ∀ k j, z5 (ix2 k j) = w (Fin.natAdd 768 k) j)
    (r : Fin 128) (j : Fin 1024) : k0_pay1 x0 x1 x2 x3 y5 z5 x6 x4 (ix2 r j)
      = x4 (ix2 r j) + (mix (fun k => x0 (ix2 r k)) (fun k => x1 (ix2 r k)) (fun k => x2 (ix2 r k)) (fun k => x3 (ix2 r k)) (fun k => w k j)
        * scale (fun j => mix (fun k => x0 (ix2 r k)) (fun k => x1 (ix2 r k)) (fun k => x2 (ix2 r k)) (fun k => x3 (ix2 r k)) (fun k => w k j))) * x6 (ix2 0 j) := by
  simp only [mix, ← h5, ← h6]
  pointwise [k0_pay1, scale]

theorem out_apply (r : Fin 128) (j : Fin 1024) : out0_7 x0 x1 x2 x3 x4 x5 x6 (ix2 r j)
      = x4 (ix2 r j) + (mix (fun k => x0 (ix2 r k)) (fun k => x1 (ix2 r k)) (fun k => x2 (ix2 r k)) (fun k => x3 (ix2 r k)) (fun k => x5 (ix2 k j))
        * scale (fun j => mix (fun k => x0 (ix2 r k)) (fun k => x1 (ix2 r k)) (fun k => x2 (ix2 r k)) (fun k => x3 (ix2 r k)) (fun k => x5 (ix2 k j)))) * x6 (ix2 0 j) := by
  unfold out0_7
  rw [View.canon_cons_unit_lit, View.ld_unit_lit, View.ld_unit_lit, View.ld_unit_lit, View.ld_unit_lit, View.ld_unit_lit, View.ld_unit_lit]
  · exact pay_apply x0 x1 x2 x3 x4 x6 _ _ (fun k j => x5 (ix2 k j)) (lo_apply x5) (hi_apply x5) r j
  all_goals decide

end Block

theorem idx (t : Fin cfg0.N) : win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] := by
  revert t
  decide +kernel

variable (m : (ℓ : Loc nD τ sig) → Buf (Elt Ideal) ℓ) (c : Dev nD) (t : Fin cfg0.N) (r : Fin 128)

/-- The arguments, as arrays of their shapes. -/
abbrev argA : FVec Ideal S128x768 .f32 := m (c.tc.loc main_arg0)
abbrev argSA : FVec Ideal S128x768 .f32 := m (c.tc.loc main_arg1)
abbrev argB : FVec Ideal S128x256 .f32 := m (c.tc.loc main_arg2)
abbrev argSB : FVec Ideal S128x256 .f32 := m (c.tc.loc main_arg3)
abbrev argX : FVec Ideal S128x1024 .f32 := m (c.tc.loc main_arg4)
abbrev argW : FVec Ideal S1024x1024 .f32 := m (c.tc.loc main_arg5)
abbrev argG : FVec Ideal S1024 .f32 := m (c.tc.loc main_arg6)

theorem blk0 (k : Fin 768) : (show Vec Ideal S128x768 .f32 from iblk m c 0 t) (ix2 r k) = argA m c (ix2 r k) := by
  blk_simp [iblk]
  unfold V
  after_reads_at
  refine congrArg (argA m c) ?_
  blk_ext [(idx t).1]

theorem blk1 (k : Fin 768) : (show Vec Ideal S128x768 .f32 from iblk m c 1 t) (ix2 r k) = argSA m c (ix2 r k) := by
  blk_simp [iblk]
  unfold V
  after_reads_at
  refine congrArg (argSA m c) ?_
  blk_ext [(idx t).2.1]

theorem blk2 (k : Fin 256) : (show Vec Ideal S128x256 .f32 from iblk m c 2 t) (ix2 r k) = argB m c (ix2 r k) := by
  blk_simp [iblk]
  unfold V
  after_reads_at
  refine congrArg (argB m c) ?_
  blk_ext [(idx t).2.2.1]

theorem blk3 (k : Fin 256) : (show Vec Ideal S128x256 .f32 from iblk m c 3 t) (ix2 r k) = argSB m c (ix2 r k) := by
  blk_simp [iblk]
  unfold V
  after_reads_at
  refine congrArg (argSB m c) ?_
  blk_ext [(idx t).2.2.2.1]

theorem blk4 (k : Fin 1024) : (show Vec Ideal S128x1024 .f32 from iblk m c 4 t) (ix2 r k) = argX m c (ix2 r k) := by
  blk_simp [iblk]
  unfold V
  after_reads_at
  refine congrArg (argX m c) ?_
  blk_ext [(idx t).2.2.2.2.1]

/-- The weights are prepared as for the prompt. -/
theorem v8_eq : V m c main_v8 = prepared (argW m c) := by
  unfold V
  after_results
  rfl

theorem blk5 (k j : Fin 1024) : (show Vec Ideal S1024x1024 .bf16 from iblk m c 5 t) (ix2 k j) = prepared (argW m c) (ix2 k j) := by
  blk_simp [iblk]
  refine (congrFun (v8_eq m c) _).trans (congrArg (prepared (argW m c)) ?_)
  blk_ext [(idx t).2.2.2.2.2.1]

theorem blk6 (j : Fin 1024) : (show Vec Ideal S1x1024 .f32 from iblk m c 6 t) (ix2 0 j) = argG m c (ix1 j) := by
  blk_simp [iblk]
  unfold V
  after_reads_at
  refine congrArg (argG m c) (congrArg ix1 ?_)
  apply Fin.ext
  blk_simp [(idx t).2.2.2.2.2.2.1]

theorem array7 : (dats m 0 c).arrAt 7 cfg0.N = normed (argX m c) (proj (gated (argA m c) (argSA m c) (argB m c) (argSB m c)) (argW m c)) (argG m c) := by
  refine (dats m 0 c).arrAt_eq_of_covers 7 _ (by decide +kernel) fun t hf y => ?_
  blk_simp
  rw [after0_7]
  obtain ⟨r, j, rfl⟩ : ∃ r j, y = ix2 r j := ⟨y 0, y 1, eq_ix2 y⟩
  have hemb : ((cfg0.win 7).blk t).view.emb (ix2 r j) = ix2 r j := by blk_ext [(idx t).2.2.2.2.2.2.2]
  refine Eq.trans ?_ (congrArg (normed (argX m c) (proj (gated (argA m c) (argSA m c) (argB m c) (argSB m c)) (argW m c)) (argG m c)) hemb).symm
  refine (out_apply _ _ _ _ _ _ _ r j).trans ?_
  rw [normed_apply]
  simp only [proj_apply]
  have hm := fun j => mix_perm (fun k => argA m c (ix2 r k)) (fun k => argSA m c (ix2 r k)) (fun k => argB m c (ix2 r k)) (fun k => argSB m c (ix2 r k))
    (fun k => argW m c (ix2 k j)) (fun k => prepared (argW m c) (ix2 k j)) (fun k => prepared_lo (argW m c) k j) (fun k => prepared_hi (argW m c) k j)
  have hM := fun j => (congr (congr (congr (congr (congrArg mix (funext (blk0 m c t r))) (funext (blk1 m c t r))) (funext (blk2 m c t r))) (funext (blk3 m c t r)))
    (funext fun k => blk5 m c t k j)).trans (hm j)
  exact congr (congrArg HAdd.hAdd (blk4 m c t r j)) (congr (congrArg HMul.hMul (congr (congrArg HMul.hMul (hM j)) (congrArg scale (funext hM)))) (blk6 m c t j))

end Cert.OutSIdeal.Mix
end
-- ==== Proof.OutS.Claims.lean ====
module

public import proofs.«01_k».proof.Defs
public import proofs.«01_k».proof.Proof.OutS.Array
public import proofs.«01_k».proof.Proof.Gen.OutS.Frame
public import proofs.«01_k».proof.Proof.Gen.OutSIdeal.Frame
public import Idealize.ShloMosaic.Lib.Quiescent
public import Idealize.ShloMosaic.Adequacy
public import Idealize.ShloMosaic.Init

@[expose] public section

noncomputable section

/-! The claims about the output projection of the samples. -/

namespace Cert.OutSClaims

open Idealize.ShloMosaic Idealize.SL.Sem

theorem frame_p : quiescent_OutS (hOutS := Cert.OutS.Gen.facts) := fun m ρ _ => Cert.OutS.Gen.frame m ρ

theorem frame_pi : quiescent_OutSIdeal (hOutSIdeal := Cert.OutSIdeal.Gen.facts) := fun m ρ _ => Cert.OutSIdeal.Gen.frame m ρ

theorem frame_ri : quiescent_OutSRefIdeal (hOutSRefIdeal := Cert.OutSRefIdeal.Gen.facts) := fun m ρ _ =>
  (θ_run Cert.OutSRefIdeal.defs _ _).mono
    (fun r h => ⟨fun c => (h c).2, Idealize.ShloMosaic.sem_eq_zero_of_no_sems (by decide) r.2⟩)
    (Cert.OutSRefIdeal.Value.run (F := Ideal) m ρ)

theorem preserves : preserves_OutS_OutSIdeal := trivial

theorem algebraic : algebraic_OutSIdeal_OutSRefIdeal (hOutSIdeal := Cert.OutSIdeal.Gen.facts)
    (hOutSRefIdeal := Cert.OutSRefIdeal.Gen.facts) := by
  intro m ρ m' ρ' _ hagree
  refine ⟨_, Cert.OutSIdeal.Value.run_blocks m ρ, ?_⟩
  refine (θ_run Cert.OutSRefIdeal.defs _ _).mono (fun _ h c => ⟨(h c).1.trans ?_, (h c).2⟩) (Cert.OutSRefIdeal.Value.run (F := Ideal) m' ρ')
  obtain ⟨e0, e1, e2, e3, e4, e5, e6⟩ := hagree c
  rw [e0, e1, e2, e3, e4, e5, e6]
  exact (Cert.OutSIdeal.Mix.array7 m c).symm

end Cert.OutSClaims
end
-- ==== Proof.InS.Block.lean ====
module

public import proofs.«01_k».proof.Proof.InS.Weights

@[expose] public section

set_option maxRecDepth 16384

noncomputable section

/-! The samples' projections: a block of the call's results read at one index. -/

namespace Cert.InSIdeal.Proj

open Cert.InSIdeal Cert.InSIdeal.Gen Idealize.ShloMosaic Idealize.ShloMosaic.TcCoe
open Cert.Norm (scale proj silu logsig)

variable (x0 : Vec Ideal S128x1024 .f32) (x1 : Vec Ideal S1x1024 .f32) (x2 : Vec Ideal S1024x2688 .bf16) (x3 : Vec Ideal S1x128 .f32) (r : Fin 128)

/-- The block's product with the weights' column `j`. -/
abbrev row (j : Fin 2688) : EReal := proj (fun k => x0 (ix2 r k)) (fun k => x1 (ix2 0 k)) (fun k => x2 (ix2 k j))

theorem h_apply (k : Fin 1024) : k0_pay2 x0 x1 (ix2 r k) = x0 (ix2 r k) * scale (fun k => x0 (ix2 r k)) * x1 (ix2 0 k) := by
  pointwise [k0_pay2, scale]

theorem out4_apply (j : Fin 768) : out0_4 x0 x1 x2 x3 (ix2 r j) = row x0 x1 x2 r ⟨j.val, by omega⟩ := by
  unfold out0_4
  rw [View.canon_cons_unit_lit, View.ld_unit_lit, View.ld_unit_lit]
  · pointwise [k0_pay3]
    simp only [h_apply]
    rfl
  all_goals decide

theorem out5_apply (e : Fin 256) : out0_5 x0 x1 x2 x3 (ix3 0 e r) = row x0 x1 x2 r ⟨768 + e.val, by omega⟩ := by
  unfold out0_5
  rw [View.canon_cons_unit_lit, View.ld_unit_lit, View.ld_unit_lit]
  · pointwise [k0_pay7, k0_pay4]
    simp only [h_apply]
    rfl
  all_goals decide

theorem out6_apply (e : Fin 256) : out0_6 x0 x1 x2 x3 (ix3 0 e r) = row x0 x1 x2 r ⟨1024 + e.val, by omega⟩ := by
  unfold out0_6
  rw [View.canon_cons_unit_lit, View.ld_unit_lit, View.ld_unit_lit]
  · pointwise [k0_pay8, k0_pay6, k0_pay5]
    simp only [h_apply]
    rfl
  all_goals decide

theorem out7_apply (j : Fin 768) : out0_7 x0 x1 x2 x3 (ix2 r j) = silu (row x0 x1 x2 r ⟨1280 + j.val, by omega⟩) := by
  unfold out0_7 k0_pay13
  rw [View.canon_cons_unit_lit, View.ld_unit_lit, View.ld_unit_lit]
  · pointwise [k0_pay9]
    simp only [h_apply]
    rfl
  all_goals decide

theorem out8_apply (j : Fin 256) : out0_8 x0 x1 x2 x3 (ix2 r j) = row x0 x1 x2 r ⟨2048 + j.val, by omega⟩ := by
  unfold out0_8 k0_pay13
  rw [View.canon_cons_unit_lit, View.ld_unit_lit, View.ld_unit_lit]
  · pointwise [k0_pay10]
    simp only [h_apply]
    rfl
  all_goals decide

theorem out9_apply (j : Fin 256) : out0_9 x0 x1 x2 x3 (ix2 r j) = silu (row x0 x1 x2 r ⟨2304 + j.val, by omega⟩) := by
  unfold out0_9 k0_pay13
  rw [View.canon_cons_unit_lit, View.ld_unit_lit, View.ld_unit_lit]
  · pointwise [k0_pay11]
    simp only [h_apply]
    rfl
  all_goals decide

theorem out10_apply (j : Fin 256) : out0_10 x0 x1 x2 x3 (ix2 r j) = row x0 x1 x2 r ⟨768 + j.val, by omega⟩ := by
  unfold out0_10
  rw [View.canon_cons_unit_lit, View.ld_unit_lit, View.ld_unit_lit]
  · pointwise [k0_pay4]
    simp only [h_apply]
    rfl
  all_goals decide

theorem out11_apply (j : Fin 256) : out0_11 x0 x1 x2 x3 (ix2 r j) = row x0 x1 x2 r ⟨1024 + j.val, by omega⟩ := by
  unfold out0_11
  rw [View.canon_cons_unit_lit, View.ld_unit_lit, View.ld_unit_lit]
  · pointwise [k0_pay5]
    simp only [h_apply]
    rfl
  all_goals decide

theorem out12_apply (j : Fin 128) : out0_12 x0 x1 x2 x3 (ix2 r j) = logsig (row x0 x1 x2 r ⟨2560 + j.val, by omega⟩ + x3 (ix2 0 j)) := by
  unfold out0_12 k0_pay13
  rw [View.canon_cons_unit_lit, View.ld_unit_lit, View.ld_unit_lit, View.ld_unit_lit]
  · pointwise [k0_pay1, k0_pay12]
    simp only [h_apply]
    rfl
  all_goals decide

end Cert.InSIdeal.Proj
end
-- ==== Proof.InS.Ref.lean ====
module

public import proofs.«01_k».proof.Proof.Gen.InSRefIdeal.Run
public import proofs.«01_k».proof.Proof.InS.Weights

@[expose] public section

set_option maxRecDepth 16384

noncomputable section

/-! The samples' reference read at one index. -/

namespace Cert.InSRefIdeal.Proj

open Cert.InSRefIdeal Cert.InSRefIdeal.Gen Idealize.ShloMosaic Idealize.ShloMosaic.TcCoe
open Cert.Norm (scale proj silu logsig silu_eq logsig_eq eighth qscale)
open Cert.InSIdeal.Proj (perm)

/-- The normed tokens' product with the weights. -/
def prod (x : FVec Ideal S128x1024 .f32) (g : FVec Ideal S1024 .f32) (w : FVec Ideal S1024x2572 .f32) : FVec Ideal S128x2572 .f32 :=
  Host.dotGeneral dot_S128x1024_S1024x2572_S128x2572_1_0_0_1_n_n none (mulf (mulf x (broadcastInDim S128x1024 ![0, 1] bcast_S128x1_S128x1024_0_1 (Host.rsqrt (addf (Host.divf (broadcastInDim S128x1 ![0] bcast_S128_S128x1_0 (Host.reduceAdd (mulf x x) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32))))))
    (broadcastInDim S128x1024 ![0, 1] bcast_S1x1024_S128x1024_0_1 (broadcastInDim S1x1024 ![1] bcast_S1024_S1x1024_1 g))) w

/-- Twelve heads' features with the index in the group first. -/
def heads (t : FVec Ideal S128x768 .f32) : FVec Ideal S128x768 .f32 :=
  shapeCast _ (transpose S128x3x4x64 [0, 2, 1, 3] (shapeCast S128x4x3x64 t shapeCasts_S128x768_S128x4x3x64) transposes_S128x4x3x64_S128x3x4x64_0_2_1_3) shapeCasts_S128x3x4x64_S128x768

/-- A value times its logistic function. -/
def gate {s : Shape} (hs : S_.BroadcastsInDim s (![] : Fin 0 → Fin s.rank)) (t : FVec Ideal s .f32) : FVec Ideal s .f32 :=
  mulf t (Host.divf (broadcastInDim s ![] hs (constant S_ .f32 0x3F800000#32)) (addf (broadcastInDim s ![] hs (constant S_ .f32 0x3F800000#32)) (Host.exp (Host.negf t))))

variable (x : FVec Ideal S128x1024 .f32) (g : FVec Ideal S1024 .f32) (w : FVec Ideal S1024x2572 .f32) (b : FVec Ideal S12 .f32)

abbrev entry (r : Fin 128) (j : Fin 2572) : EReal := proj (fun k => x (ix2 r k)) (fun k => g (ix1 k)) (fun k => w (ix2 k j))

theorem prod_apply (r : Fin 128) (j : Fin 2572) : prod x g w (ix2 r j) = entry x g w r j := by
  pointwise [prod, proj, scale]

theorem heads_apply (t : FVec Ideal S128x768 .f32) (r : Fin 128) (j : Fin 768) : heads t (ix2 r j) = t (ix2 r (perm j)) := by
  pointwise [heads]
  refine congrArg t (congr (congrArg ix2 (Fin.ext ?_)) (Fin.ext ?_)) <;> simp [perm]
  omega

theorem gate_apply (t : FVec Ideal S128x768 .f32) (r : Fin 128) (j : Fin 768) : gate bcast_S_S128x768 t (ix2 r j) = silu (t (ix2 r j)) := by
  rw [← silu_eq]
  pointwise [gate]

def queries : FVec Ideal S128x768 .f32 := heads (mulf (extractStridedSlice S128x768 ![0, 0] (prod x g w) slices_S128x2572_S128x768_0_0) (broadcastInDim S128x768 ![] bcast_S_S128x768 (constant S_ .f32 0x3E38AA3B#32)))

def keys : FVec Ideal S128x256 .f32 := extractStridedSlice S128x256 ![0, 768] (prod x g w) slices_S128x2572_S128x256_0_768

def vals : FVec Ideal S128x256 .f32 := extractStridedSlice S128x256 ![0, 1024] (prod x g w) slices_S128x2572_S128x256_0_1024

def featureMajor (t : FVec Ideal S128x256 .f32) : FVec Ideal S1x256x128 .f32 :=
  broadcastInDim S1x256x128 ![1, 2] bcast_S256x128_S1x256x128_1_2 (transpose S256x128 [1, 0] t transposes_S128x256_S256x128_1_0)

def gates : FVec Ideal S128x768 .f32 := heads (gate bcast_S_S128x768 (extractStridedSlice S128x768 ![0, 1280] (prod x g w) slices_S128x2572_S128x768_0_1280))

def memQueries : FVec Ideal S128x256 .f32 :=
  mulf (extractStridedSlice S128x256 ![0, 2048] (prod x g w) slices_S128x2572_S128x256_0_2048) (broadcastInDim S128x256 ![] bcast_S_S128x256 (constant S_ .f32 0x3E000000#32))

def memGates : FVec Ideal S128x256 .f32 := gate bcast_S_S128x256 (extractStridedSlice S128x256 ![0, 2304] (prod x g w) slices_S128x2572_S128x256_0_2304)

/-- The forget gates' logits, padded with zeros. -/
def logits : FVec Ideal S128x128 .f32 :=
  pad S128x128 ![0, 0] ![0, 116] ![0, 0] (addf (extractStridedSlice S128x12 ![0, 2560] (prod x g w) slices_S128x2572_S128x12_0_2560) (broadcastInDim S128x12 ![0, 1] bcast_S1x12_S128x12_0_1 (broadcastInDim S1x12 ![1] bcast_S12_S1x12_1 b))) (sitofp .f32 (constantI S_ 32 0#32)) pads_S128x12_S128x128_000_01160 h_S_

def logGates (z : FVec Ideal S128x128 .f32) : FVec Ideal S128x128 .f32 :=
  Host.negf (select (cmpf .une (subf (Host.negf z) (broadcastInDim S128x128 ![] bcast_S_S128x128 (constant S_ .f32 0x00000000#32))) (subf (Host.negf z) (broadcastInDim S128x128 ![] bcast_S_S128x128 (constant S_ .f32 0x00000000#32)))) (addf (Host.negf z) (broadcastInDim S128x128 ![] bcast_S_S128x128 (constant S_ .f32 0x00000000#32))) (addf (maximumf (Host.negf z) (broadcastInDim S128x128 ![] bcast_S_S128x128 (constant S_ .f32 0x00000000#32))) (Host.log1p (Host.exp (Host.negf (Host.absf (subf (Host.negf z) (broadcastInDim S128x128 ![] bcast_S_S128x128 (constant S_ .f32 0x00000000#32)))))))))

theorem queries_apply (r : Fin 128) (j : Fin 768) : queries x g w (ix2 r j) = entry x g w r ⟨(perm j).val, by omega⟩ * qscale := by
  rw [queries, heads_apply, ← prod_apply]
  pointwise

theorem keys_apply (r : Fin 128) (j : Fin 256) : keys x g w (ix2 r j) = entry x g w r ⟨768 + j.val, by omega⟩ := by
  rw [← prod_apply]
  pointwise [keys]

theorem vals_apply (r : Fin 128) (j : Fin 256) : vals x g w (ix2 r j) = entry x g w r ⟨1024 + j.val, by omega⟩ := by
  rw [← prod_apply]
  pointwise [vals]

theorem featureMajor_apply (t : FVec Ideal S128x256 .f32) (a : Fin 1) (e : Fin 256) (r : Fin 128) : featureMajor t (ix3 a e r) = t (ix2 r e) := by
  pointwise [featureMajor]

theorem gates_apply (r : Fin 128) (j : Fin 768) : gates x g w (ix2 r j) = silu (entry x g w r ⟨1280 + (perm j).val, by omega⟩) := by
  rw [gates, heads_apply, gate_apply, ← prod_apply]
  refine congrArg silu ?_
  pointwise

theorem memQueries_apply (r : Fin 128) (j : Fin 256) : memQueries x g w (ix2 r j) = entry x g w r ⟨2048 + j.val, by omega⟩ * eighth := by
  rw [← prod_apply]
  pointwise [memQueries]

theorem memGates_apply (r : Fin 128) (j : Fin 256) : memGates x g w (ix2 r j) = silu (entry x g w r ⟨2304 + j.val, by omega⟩) := by
  rw [← prod_apply, ← silu_eq]
  pointwise [memGates, gate]

theorem logits_lo (r : Fin 128) (j : Fin 12) : logits x g w b (ix2 r ⟨j.val, by omega⟩) = entry x g w r ⟨2560 + j.val, by omega⟩ + b (ix1 j) := by
  rw [← prod_apply]
  pointwise [logits]

theorem logits_hi (r : Fin 128) (j : Fin 116) : logits x g w b (ix2 r ⟨12 + j.val, by omega⟩) = 0 := by
  pointwise [logits]
  exact Cert.InSIdeal.Proj.zero_word

theorem logGates_apply (z : FVec Ideal S128x128 .f32) (r j : Fin 128) : logGates z (ix2 r j) = logsig (z (ix2 r j)) := by
  rw [← logsig_eq]
  pointwise [logGates]
  rw [if_neg (not_not.mpr rfl)]
  rfl

end Cert.InSRefIdeal.Proj
end
-- ==== Proof.InS.Array.lean ====
module

public import proofs.«01_k».proof.Proof.InS.Block
public import proofs.«01_k».proof.Proof.InS.Ref

@[expose] public section

set_option maxRecDepth 16384

noncomputable section

/-! The samples' projections are the reference's. -/

namespace Cert.InSIdeal.Proj

open Cert.InSIdeal Cert.InSIdeal.Gen Idealize.ShloMosaic Idealize.ShloMosaic.TcCoe
open Cert.Norm (proj proj_scale proj_qscale proj_zero silu logsig eighth)
open Cert.InSRefIdeal.Proj (entry)

theorem idx0 : ∀ t : Fin cfg0.N, win0_0.index t = ![0, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0, 0] := by decide +kernel
theorem idx6 : ∀ t : Fin cfg0.N, win0_6.index t = ![0, 0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![0, 0] := by decide +kernel
theorem idx11 : ∀ t : Fin cfg0.N, win0_11.index t = ![0, 0] := by decide +kernel
theorem idx12 : ∀ t : Fin cfg0.N, win0_12.index t = ![0, 0] := by decide +kernel

variable (m : (ℓ : Loc nD τ sig) → Buf (Elt Ideal) ℓ) (c : Dev nD) (t : Fin cfg0.N)

/-- The arguments, as arrays of their shapes. -/
abbrev argX : FVec Ideal S128x1024 .f32 := m (c.tc.loc main_arg0)
abbrev argG : FVec Ideal S1024 .f32 := m (c.tc.loc main_arg1)

theorem blk0 (r : Fin 128) (k : Fin 1024) : (show Vec Ideal S128x1024 .f32 from iblk m c 0 t) (ix2 r k) = argX m c (ix2 r k) := by
  blk_simp [iblk]
  unfold V
  after_reads_at
  refine congrArg (argX m c) ?_
  blk_ext [idx0 t]

theorem blk1 (k : Fin 1024) : (show Vec Ideal S1x1024 .f32 from iblk m c 1 t) (ix2 0 k) = argG m c (ix1 k) := by
  blk_simp [iblk]
  unfold V
  after_reads_at
  refine congrArg (argG m c) ?_
  blk_ext [idx1 t]

theorem blk2 (k : Fin 1024) (j : Fin 2688) : (show Vec Ideal S1024x2688 .bf16 from iblk m c 2 t) (ix2 k j) = prepared (argW m c) (ix2 k j) := by
  blk_simp [iblk]
  refine (congrFun (v23_eq m c) _).trans (congrArg (prepared (argW m c)) ?_)
  blk_ext [idx2 t]

theorem blk3 (j : Fin 128) : (show Vec Ideal S1x128 .f32 from iblk m c 3 t) (ix2 0 j) = bias (argB m c) (ix2 0 j) := by
  blk_simp [iblk]
  refine (congrFun (v25_eq m c) _).trans (congrArg (bias (argB m c)) ?_)
  blk_ext [idx3 t]

/-- The block's row is the arguments' row against the column of the prepared weights. -/
theorem row_eq (r : Fin 128) (j : Fin 2688) (v : Fin 1024 → EReal) (hv : ∀ k, prepared (argW m c) (ix2 k j) = v k) :
    row (iblk m c 0 t) (iblk m c 1 t) (iblk m c 2 t) r j = proj (fun k => argX m c (ix2 r k)) (fun k => argG m c (ix1 k)) v :=
  congr (congr (congrArg proj (funext fun k => blk0 m c t r k)) (funext fun k => blk1 m c t k)) (funext fun k => (blk2 m c t k j).trans (hv k))

open Cert.InSRefIdeal.Proj in
theorem array4 : (dats m 0 c).arrAt 4 cfg0.N = queries (argX m c) (argG m c) (argW m c) := by
  refine (dats m 0 c).arrAt_eq_of_covers 4 _ (by decide +kernel) fun t hf y => ?_
  blk_simp
  rw [after0_4]
  obtain ⟨r, j, rfl⟩ : ∃ (r : Fin 128) (j : Fin 768), y = ix2 r j := ⟨y 0, y 1, eq_ix2 y⟩
  have hemb : ((cfg0.win 4).blk t).view.emb (ix2 r j) = ix2 r j := by blk_ext [idx4 t]
  refine Eq.trans ?_ (congrArg (queries (argX m c) (argG m c) (argW m c)) hemb).symm
  exact (out4_apply _ _ _ _ r j).trans ((row_eq m c t r _ _ fun k => prepared_q _ k j).trans ((proj_qscale _ _ _).trans (queries_apply _ _ _ r j).symm))

open Cert.InSRefIdeal.Proj in
theorem array5 : (dats m 0 c).arrAt 5 cfg0.N = featureMajor (keys (argX m c) (argG m c) (argW m c)) := by
  refine (dats m 0 c).arrAt_eq_of_covers 5 _ (by decide +kernel) fun t hf y => ?_
  blk_simp
  rw [after0_5]
  obtain ⟨a, e, r, rfl⟩ : ∃ (a : Fin 1) (e : Fin 256) (r : Fin 128), y = ix3 a e r := ⟨y 0, y 1, y 2, eq_ix3 y⟩
  obtain rfl : a = 0 := Subsingleton.elim _ _
  have hemb : ((cfg0.win 5).blk t).view.emb (ix3 0 e r) = ix3 0 e r := by blk_ext [idx5 t]
  refine Eq.trans ?_ (congrArg (featureMajor (keys (argX m c) (argG m c) (argW m c))) hemb).symm
  exact (out5_apply _ _ _ _ r e).trans ((row_eq m c t r _ _ fun k => prepared_k _ k e).trans ((featureMajor_apply _ 0 e r).trans (keys_apply _ _ _ r e)).symm)

open Cert.InSRefIdeal.Proj in
theorem array6 : (dats m 0 c).arrAt 6 cfg0.N = featureMajor (vals (argX m c) (argG m c) (argW m c)) := by
  refine (dats m 0 c).arrAt_eq_of_covers 6 _ (by decide +kernel) fun t hf y => ?_
  blk_simp
  rw [after0_6]
  obtain ⟨a, e, r, rfl⟩ : ∃ (a : Fin 1) (e : Fin 256) (r : Fin 128), y = ix3 a e r := ⟨y 0, y 1, y 2, eq_ix3 y⟩
  obtain rfl : a = 0 := Subsingleton.elim _ _
  have hemb : ((cfg0.win 6).blk t).view.emb (ix3 0 e r) = ix3 0 e r := by blk_ext [idx6 t]
  refine Eq.trans ?_ (congrArg (featureMajor (vals (argX m c) (argG m c) (argW m c))) hemb).symm
  exact (out6_apply _ _ _ _ r e).trans ((row_eq m c t r _ _ fun k => prepared_v _ k e).trans ((featureMajor_apply _ 0 e r).trans (vals_apply _ _ _ r e)).symm)

open Cert.InSRefIdeal.Proj in
theorem array7 : (dats m 0 c).arrAt 7 cfg0.N = gates (argX m c) (argG m c) (argW m c) := by
  refine (dats m 0 c).arrAt_eq_of_covers 7 _ (by decide +kernel) fun t hf y => ?_
  blk_simp
  rw [after0_7]
  obtain ⟨r, j, rfl⟩ : ∃ (r : Fin 128) (j : Fin 768), y = ix2 r j := ⟨y 0, y 1, eq_ix2 y⟩
  have hemb : ((cfg0.win 7).blk t).view.emb (ix2 r j) = ix2 r j := by blk_ext [idx7 t]
  refine Eq.trans ?_ (congrArg (gates (argX m c) (argG m c) (argW m c)) hemb).symm
  exact (out7_apply _ _ _ _ r j).trans ((congrArg silu (row_eq m c t r _ _ fun k => prepared_z _ k j)).trans (gates_apply _ _ _ r j).symm)

open Cert.InSRefIdeal.Proj in
theorem array8 : (dats m 0 c).arrAt 8 cfg0.N = memQueries (argX m c) (argG m c) (argW m c) := by
  refine (dats m 0 c).arrAt_eq_of_covers 8 _ (by decide +kernel) fun t hf y => ?_
  blk_simp
  rw [after0_8]
  obtain ⟨r, j, rfl⟩ : ∃ (r : Fin 128) (j : Fin 256), y = ix2 r j := ⟨y 0, y 1, eq_ix2 y⟩
  have hemb : ((cfg0.win 8).blk t).view.emb (ix2 r j) = ix2 r j := by blk_ext [idx8 t]
  refine Eq.trans ?_ (congrArg (memQueries (argX m c) (argG m c) (argW m c)) hemb).symm
  exact (out8_apply _ _ _ _ r j).trans (((row_eq m c t r _ _ fun k => prepared_qm _ k j).trans (proj_scale _ _ _)).trans (memQueries_apply _ _ _ r j).symm)

open Cert.InSRefIdeal.Proj in
theorem array9 : (dats m 0 c).arrAt 9 cfg0.N = memGates (argX m c) (argG m c) (argW m c) := by
  refine (dats m 0 c).arrAt_eq_of_covers 9 _ (by decide +kernel) fun t hf y => ?_
  blk_simp
  rw [after0_9]
  obtain ⟨r, j, rfl⟩ : ∃ (r : Fin 128) (j : Fin 256), y = ix2 r j := ⟨y 0, y 1, eq_ix2 y⟩
  have hemb : ((cfg0.win 9).blk t).view.emb (ix2 r j) = ix2 r j := by blk_ext [idx9 t]
  refine Eq.trans ?_ (congrArg (memGates (argX m c) (argG m c) (argW m c)) hemb).symm
  exact (out9_apply _ _ _ _ r j).trans ((congrArg silu (row_eq m c t r _ _ fun k => prepared_zm _ k j)).trans (memGates_apply _ _ _ r j).symm)

open Cert.InSRefIdeal.Proj in
theorem array10 : (dats m 0 c).arrAt 10 cfg0.N = keys (argX m c) (argG m c) (argW m c) := by
  refine (dats m 0 c).arrAt_eq_of_covers 10 _ (by decide +kernel) fun t hf y => ?_
  blk_simp
  rw [after0_10]
  obtain ⟨r, j, rfl⟩ : ∃ (r : Fin 128) (j : Fin 256), y = ix2 r j := ⟨y 0, y 1, eq_ix2 y⟩
  have hemb : ((cfg0.win 10).blk t).view.emb (ix2 r j) = ix2 r j := by blk_ext [idx10 t]
  refine Eq.trans ?_ (congrArg (keys (argX m c) (argG m c) (argW m c)) hemb).symm
  exact (out10_apply _ _ _ _ r j).trans ((row_eq m c t r _ _ fun k => prepared_k _ k j).trans (keys_apply _ _ _ r j).symm)

open Cert.InSRefIdeal.Proj in
theorem array11 : (dats m 0 c).arrAt 11 cfg0.N = vals (argX m c) (argG m c) (argW m c) := by
  refine (dats m 0 c).arrAt_eq_of_covers 11 _ (by decide +kernel) fun t hf y => ?_
  blk_simp
  rw [after0_11]
  obtain ⟨r, j, rfl⟩ : ∃ (r : Fin 128) (j : Fin 256), y = ix2 r j := ⟨y 0, y 1, eq_ix2 y⟩
  have hemb : ((cfg0.win 11).blk t).view.emb (ix2 r j) = ix2 r j := by blk_ext [idx11 t]
  refine Eq.trans ?_ (congrArg (vals (argX m c) (argG m c) (argW m c)) hemb).symm
  exact (out11_apply _ _ _ _ r j).trans ((row_eq m c t r _ _ fun k => prepared_v _ k j).trans (vals_apply _ _ _ r j).symm)

open Cert.InSRefIdeal.Proj in
theorem logit_lo (r : Fin 128) (i : Fin 12) : row (iblk m c 0 t) (iblk m c 1 t) (iblk m c 2 t) r ⟨2560 + i.val, by omega⟩ + (show Vec Ideal S1x128 .f32 from iblk m c 3 t) (ix2 0 ⟨i.val, by omega⟩)
    = logits (argX m c) (argG m c) (argW m c) (argB m c) (ix2 r ⟨i.val, by omega⟩) :=
  (congr (congrArg HAdd.hAdd (row_eq m c t r _ _ fun k => prepared_f _ k i)) ((blk3 m c t _).trans (bias_lo _ i))).trans (logits_lo _ _ _ _ r i).symm

open Cert.InSRefIdeal.Proj in
/-- The padding's logit is zero on both sides. -/
theorem logit_hi (r : Fin 128) (i : Fin 116) : row (iblk m c 0 t) (iblk m c 1 t) (iblk m c 2 t) r ⟨2572 + i.val, by omega⟩ + (show Vec Ideal S1x128 .f32 from iblk m c 3 t) (ix2 0 ⟨12 + i.val, by omega⟩)
    = logits (argX m c) (argG m c) (argW m c) (argB m c) (ix2 r ⟨12 + i.val, by omega⟩) :=
  ((congr (congrArg HAdd.hAdd ((row_eq m c t r _ _ fun k => prepared_pad _ k i).trans (proj_zero _ _))) ((blk3 m c t _).trans (bias_hi _ i))).trans (add_zero (0 : EReal))).trans
    (logits_hi _ _ _ _ r i).symm

open Cert.InSRefIdeal.Proj in
theorem logit_eq (r j : Fin 128) : row (iblk m c 0 t) (iblk m c 1 t) (iblk m c 2 t) r ⟨2560 + j.val, by omega⟩ + (show Vec Ideal S1x128 .f32 from iblk m c 3 t) (ix2 0 j)
    = logits (argX m c) (argG m c) (argW m c) (argB m c) (ix2 r j) := by
  by_cases hj : j.val < 12
  · exact logit_lo m c t r ⟨j.val, hj⟩
  · have h := logit_hi m c t r ⟨j.val - 12, by omega⟩
    have e1 : (⟨2572 + (j.val - 12), by omega⟩ : Fin 2688) = ⟨2560 + j.val, by omega⟩ := Fin.ext (by dsimp only; omega)
    have e2 : (⟨12 + (j.val - 12), by omega⟩ : Fin 128) = j := Fin.ext (by dsimp only; omega)
    rw [e1, e2] at h
    exact h

open Cert.InSRefIdeal.Proj in
theorem array12 : (dats m 0 c).arrAt 12 cfg0.N = logGates (logits (argX m c) (argG m c) (argW m c) (argB m c)) := by
  refine (dats m 0 c).arrAt_eq_of_covers 12 _ (by decide +kernel) fun t hf y => ?_
  blk_simp
  rw [after0_12]
  obtain ⟨r, j, rfl⟩ : ∃ (r : Fin 128) (j : Fin 128), y = ix2 r j := ⟨y 0, y 1, eq_ix2 y⟩
  have hemb : ((cfg0.win 12).blk t).view.emb (ix2 r j) = ix2 r j := by blk_ext [idx12 t]
  refine Eq.trans ?_ (congrArg (logGates (logits (argX m c) (argG m c) (argW m c) (argB m c))) hemb).symm
  exact (out12_apply _ _ _ _ r j).trans ((congrArg logsig (logit_eq m c t r j)).trans (logGates_apply _ r j).symm)

end Cert.InSIdeal.Proj
end
-- ==== Proof.InS.Claims.lean ====
module

public import proofs.«01_k».proof.Defs
public import proofs.«01_k».proof.Proof.InS.Array
public import proofs.«01_k».proof.Proof.Gen.InS.Frame
public import proofs.«01_k».proof.Proof.Gen.InSIdeal.Frame
public import Idealize.ShloMosaic.Lib.Quiescent
public import Idealize.ShloMosaic.Adequacy
public import Idealize.ShloMosaic.Init

@[expose] public section

noncomputable section

/-! The claims about the samples' projections. -/

namespace Cert.InSClaims

open Idealize.ShloMosaic Idealize.SL.Sem

theorem frame_p : quiescent_InS (hInS := Cert.InS.Gen.facts) := fun m ρ _ => Cert.InS.Gen.frame m ρ

theorem frame_pi : quiescent_InSIdeal (hInSIdeal := Cert.InSIdeal.Gen.facts) := fun m ρ _ => Cert.InSIdeal.Gen.frame m ρ

theorem frame_ri : quiescent_InSRefIdeal (hInSRefIdeal := Cert.InSRefIdeal.Gen.facts) := fun m ρ _ =>
  (θ_run Cert.InSRefIdeal.defs _ _).mono
    (fun r h => ⟨fun c => (h c).2.2.2.2.2.2.2.2.2, Idealize.ShloMosaic.sem_eq_zero_of_no_sems (by decide) r.2⟩)
    (Cert.InSRefIdeal.Value.run (F := Ideal) m ρ)

theorem preserves : preserves_InS_InSIdeal := trivial

set_option maxHeartbeats 4000000 in
open Cert.InSRefIdeal.Proj in
theorem algebraic : algebraic_InSIdeal_InSRefIdeal (hInSIdeal := Cert.InSIdeal.Gen.facts)
    (hInSRefIdeal := Cert.InSRefIdeal.Gen.facts) := by
  intro m ρ m' ρ' _ hagree
  refine ⟨_, _, _, _, _, _, _, _, _, Cert.InSIdeal.Value.run_blocks m ρ, ?_⟩
  refine (θ_run Cert.InSRefIdeal.defs _ _).mono (fun _ h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩)
    (Cert.InSRefIdeal.Value.run (F := Ideal) m' ρ')
  all_goals
    obtain ⟨e0, e1, e2, e3⟩ := hagree c
    first | rewrite [e0, e1, e2] | (unfold Cert.InSRefIdeal.Value.res_main_v25; rewrite [e0, e1, e2, e3])
  · refine Eq.trans ?_ (Cert.InSIdeal.Proj.array4 m c).symm
    unfold queries heads prod
    rfl
  · refine Eq.trans ?_ (Cert.InSIdeal.Proj.array5 m c).symm
    unfold featureMajor keys prod
    rfl
  · refine Eq.trans ?_ (Cert.InSIdeal.Proj.array6 m c).symm
    unfold featureMajor vals prod
    rfl
  · refine Eq.trans ?_ (Cert.InSIdeal.Proj.array7 m c).symm
    unfold gates heads gate prod
    rfl
  · refine Eq.trans ?_ (Cert.InSIdeal.Proj.array8 m c).symm
    unfold memQueries prod
    rfl
  · refine Eq.trans ?_ (Cert.InSIdeal.Proj.array9 m c).symm
    unfold memGates gate prod
    rfl
  · refine Eq.trans ?_ (Cert.InSIdeal.Proj.array10 m c).symm
    unfold keys prod
    rfl
  · refine Eq.trans ?_ (Cert.InSIdeal.Proj.array11 m c).symm
    unfold vals prod
    rfl
  · refine Eq.trans ?_ (Cert.InSIdeal.Proj.array12 m c).symm
    unfold logGates logits prod
    rfl

end Cert.InSClaims
end
-- ==== Proof.lean ====
module

public import proofs.«01_k».proof.Defs
public import proofs.«01_k».proof.Proof.Fox.Claims
public import proofs.«01_k».proof.Proof.Memkv.Claims
public import proofs.«01_k».proof.Proof.Out.Claims
public import proofs.«01_k».proof.Proof.In.Claims
public import proofs.«01_k».proof.Proof.SwaIn.Claims
public import proofs.«01_k».proof.Proof.OutS.Claims
public import proofs.«01_k».proof.Proof.InS.Claims

@[expose] public section

noncomputable section

namespace Cert.Proof

theorem claim : Cert.Claim :=
  ⟨Cert.Kernel.Gen.facts, Cert.KernelIdeal.Gen.facts, Cert.ReferenceIdeal.Gen.facts, Cert.Memkv.Gen.facts, Cert.MemkvIdeal.Gen.facts,
    Cert.MemkvRefIdeal.Gen.facts, Cert.Out.Gen.facts, Cert.OutIdeal.Gen.facts, Cert.OutRefIdeal.Gen.facts,
    Cert.In.Gen.facts, Cert.InIdeal.Gen.facts, Cert.InRefIdeal.Gen.facts, Cert.SwaIn.Gen.facts, Cert.SwaInIdeal.Gen.facts, Cert.SwaInRefIdeal.Gen.facts, Cert.OutS.Gen.facts, Cert.OutSIdeal.Gen.facts,
    Cert.OutSRefIdeal.Gen.facts, Cert.InS.Gen.facts, Cert.InSIdeal.Gen.facts, Cert.InSRefIdeal.Gen.facts, Cert.Pre_finite.facts,
    FoxClaims.frame_p, FoxClaims.frame_pi, FoxClaims.frame_pi_pre, FoxClaims.frame_ri, FoxClaims.frame_ri_pre,
    MemkvClaims.frame_p, MemkvClaims.frame_pi, MemkvClaims.frame_ri, OutClaims.frame_p, OutClaims.frame_pi, OutClaims.frame_ri,
    InClaims.frame_p, InClaims.frame_pi, InClaims.frame_ri, SwaInClaims.frame_p, SwaInClaims.frame_pi, SwaInClaims.frame_ri,
    OutSClaims.frame_p, OutSClaims.frame_pi, OutSClaims.frame_ri, InSClaims.frame_p, InSClaims.frame_pi, InSClaims.frame_ri,
    FoxClaims.preserves, FoxClaims.algebraic, MemkvClaims.preserves, MemkvClaims.algebraic, OutClaims.preserves, OutClaims.algebraic,
    InClaims.preserves, InClaims.algebraic, SwaInClaims.preserves, SwaInClaims.algebraic,
    OutSClaims.preserves, OutSClaims.algebraic, InSClaims.preserves, InSClaims.algebraic⟩

end Cert.Proof

end
